-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S32 : Shape := ⟨1, ![32]⟩
abbrev S_ : Shape := ⟨0, ![]⟩
abbrev S32x1 : Shape := ⟨2, ![32, 1]⟩
abbrev S2 : Shape := ⟨1, ![2]⟩
abbrev S66 : Shape := ⟨1, ![66]⟩
abbrev S2x128x2048 : Shape := ⟨3, ![2, 128, 2048]⟩
abbrev S128x128 : Shape := ⟨2, ![128, 128]⟩
abbrev S128x2048 : Shape := ⟨2, ![128, 2048]⟩
abbrev S1x128x2048 : Shape := ⟨3, ![1, 128, 2048]⟩

abbrev nBuf : Space → Nat
  | .hbm => 146
  | .vmem => 12
  | .smem => 3
  | _ => 0

abbrev hbmTy0_0 (i : Nat) : BufTy := match i % 128 with
  | 0 => ⟨S4096x128, .fp8e4m3⟩
  | 1 => ⟨S128x8192, .fp8e4m3⟩
  | 2 => ⟨S1, .f32⟩
  | 3 => ⟨S1, .f32⟩
  | 4 => ⟨S32, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S32, .i32⟩
  | 12 => ⟨S32, .i1⟩
  | 13 => ⟨S32, .i32⟩
  | 14 => ⟨S_, .i1⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S_, .i32⟩
  | 70 => ⟨S32, .i32⟩
  | 71 => ⟨S_, .i32⟩
  | 72 => ⟨S_, .i32⟩
  | 73 => ⟨S32, .i32⟩
  | 74 => ⟨S32, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S32, .i32⟩
  | 82 => ⟨S32, .i32⟩
  | 83 => ⟨S_, .i32⟩
  | 84 => ⟨S32, .i32⟩
  | 85 => ⟨S32, .i1⟩
  | 86 => ⟨S_, .i32⟩
  | 87 => ⟨S32, .i32⟩
  | 88 => ⟨S32, .i1⟩
  | 89 => ⟨S_, .i32⟩
  | 90 => ⟨S_, .i1⟩
  | 91 => ⟨S32, .i1⟩
  | 92 => ⟨S32, .i1⟩
  | 93 => ⟨S32, .i1⟩
  | 94 => ⟨S32, .i32⟩
  | 95 => ⟨S32, .i32⟩
  | 96 => ⟨S32, .i32⟩
  | 97 => ⟨S_, .i32⟩
  | 98 => ⟨S32, .i32⟩
  | 99 => ⟨S32, .i1⟩
  | 100 => ⟨S_, .i32⟩
  | 101 => ⟨S32, .i32⟩
  | 102 => ⟨S32, .i32⟩
  | 103 => ⟨S32, .i32⟩
  | 104 => ⟨S32x1, .i32⟩
  | 105 => ⟨S32, .i32⟩
  | 106 => ⟨S_, .i32⟩
  | 107 => ⟨S_, .i32⟩
  | 108 => ⟨S32, .i32⟩
  | 109 => ⟨S32, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S32, .i32⟩
  | 117 => ⟨S32, .i32⟩
  | 118 => ⟨S_, .i32⟩
  | 119 => ⟨S32, .i32⟩
  | 120 => ⟨S32, .i1⟩
  | 121 => ⟨S_, .i32⟩
  | 122 => ⟨S32, .i32⟩
  | 123 => ⟨S32, .i1⟩
  | 124 => ⟨S_, .i32⟩
  | 125 => ⟨S_, .i1⟩
  | 126 => ⟨S32, .i1⟩
  | 127 => ⟨S32, .i1⟩
  | _ => ⟨S4096x128, .fp8e4m3⟩

abbrev hbmTy0_1 (i : Nat) : BufTy := match i % 128 with
  | 0 => ⟨S32, .i1⟩
  | 1 => ⟨S32, .i32⟩
  | 2 => ⟨S32, .i32⟩
  | 3 => ⟨S32, .i32⟩
  | 4 => ⟨S_, .i32⟩
  | 5 => ⟨S32, .i32⟩
  | 6 => ⟨S32, .i1⟩
  | 7 => ⟨S_, .i32⟩
  | 8 => ⟨S32, .i32⟩
  | 9 => ⟨S32, .i32⟩
  | 10 => ⟨S32, .i32⟩
  | 11 => ⟨S32x1, .i32⟩
  | 12 => ⟨S32, .i32⟩
  | 13 => ⟨S1, .i32⟩
  | 14 => ⟨S1, .i32⟩
  | 15 => ⟨S2, .i32⟩
  | 16 => ⟨S66, .i32⟩
  | 17 => ⟨S128x8192, .f32⟩
  | _ => ⟨S4096x128, .fp8e4m3⟩

abbrev hbmTy (i : Nat) : BufTy := match i / 128 with
  | 0 => hbmTy0_0 i
  | 1 => hbmTy0_1 i
  | _ => ⟨S4096x128, .fp8e4m3⟩

abbrev bufTy : (tb : Table) → Fin (tcTables nBuf tb) → BufTy
  | .hbm, ⟨i, _⟩ => hbmTy i
  | .local _ .vmem, ⟨0, _⟩ => ⟨S4096x128, .fp8e4m3⟩
  | .local _ .vmem, ⟨1, _⟩ => ⟨S128x8192, .fp8e4m3⟩
  | .local _ .vmem, ⟨2, _⟩ => ⟨S128x8192, .f32⟩
  | .local _ .vmem, ⟨3, _⟩ => ⟨S128x8192, .bf16⟩
  | .local _ .vmem, ⟨4, _⟩ => ⟨S2x128x2048, .bf16⟩
  | .local _ .vmem, ⟨5, _⟩ => ⟨S2x128x2048, .bf16⟩
  | .local _ .vmem, ⟨6, _⟩ => ⟨S2x128x2048, .bf16⟩
  | .local _ .vmem, ⟨7, _⟩ => ⟨S2x128x2048, .bf16⟩
  | .local _ .vmem, ⟨8, _⟩ => ⟨S2x128x2048, .bf16⟩
  | .local _ .vmem, ⟨9, _⟩ => ⟨S2x128x2048, .bf16⟩
  | .local _ .vmem, ⟨10, _⟩ => ⟨S2x128x2048, .bf16⟩
  | .local _ .vmem, ⟨11, _⟩ => ⟨S2x128x2048, .bf16⟩
  | .local _ .smem, ⟨0, _⟩ => ⟨S1, .f32⟩
  | .local _ .smem, ⟨1, _⟩ => ⟨S1, .f32⟩
  | .local _ .smem, ⟨2, _⟩ => ⟨S66, .i32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_c_0 : Ref sig .tc := ⟨.hbm, 15, rfl⟩
abbrev main_call0_v1_0 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_c_3 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_c_1 : Ref sig .tc := ⟨.hbm, 27, rfl⟩
abbrev main_call1_v4 : Ref sig .tc := ⟨.hbm, 28, rfl⟩
abbrev main_call1_c_2 : Ref sig .tc := ⟨.hbm, 29, rfl⟩
abbrev main_call1_v5 : Ref sig .tc := ⟨.hbm, 30, rfl⟩
abbrev main_call1_c_3 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_v9 : Ref sig .tc := ⟨.hbm, 36, rfl⟩
abbrev main_c_4 : Ref sig .tc := ⟨.hbm, 37, rfl⟩
abbrev main_v10 : Ref sig .tc := ⟨.hbm, 38, rfl⟩
abbrev main_c_5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_6 : Ref sig .tc := ⟨.hbm, 44, rfl⟩
abbrev main_v15 : Ref sig .tc := ⟨.hbm, 45, rfl⟩
abbrev main_c_7 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_c_1 : Ref sig .tc := ⟨.hbm, 53, rfl⟩
abbrev main_call2_v4 : Ref sig .tc := ⟨.hbm, 54, rfl⟩
abbrev main_call2_c_2 : Ref sig .tc := ⟨.hbm, 55, rfl⟩
abbrev main_call2_v5 : Ref sig .tc := ⟨.hbm, 56, rfl⟩
abbrev main_call2_c_3 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_v16 : Ref sig .tc := ⟨.hbm, 62, rfl⟩
abbrev main_c_8 : Ref sig .tc := ⟨.hbm, 63, rfl⟩
abbrev main_v17 : Ref sig .tc := ⟨.hbm, 64, rfl⟩
abbrev main_c_9 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_c_10 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_c_11 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v26 : Ref sig .tc := ⟨.hbm, 96, rfl⟩
abbrev main_c_12 : Ref sig .tc := ⟨.hbm, 97, rfl⟩
abbrev main_v27 : Ref sig .tc := ⟨.hbm, 98, rfl⟩
abbrev main_v28 : Ref sig .tc := ⟨.hbm, 99, rfl⟩
abbrev main_c_13 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_c_14 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_c_15 : Ref sig .tc := ⟨.hbm, 110, rfl⟩
abbrev main_call4_v0 : Ref sig .tc := ⟨.hbm, 111, rfl⟩
abbrev main_call4_c : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_c_1 : Ref sig .tc := ⟨.hbm, 118, rfl⟩
abbrev main_call4_v5 : Ref sig .tc := ⟨.hbm, 119, rfl⟩
abbrev main_call4_v6 : Ref sig .tc := ⟨.hbm, 120, rfl⟩
abbrev main_call4_c_2 : Ref sig .tc := ⟨.hbm, 121, rfl⟩
abbrev main_call4_v7 : Ref sig .tc := ⟨.hbm, 122, rfl⟩
abbrev main_call4_v8 : Ref sig .tc := ⟨.hbm, 123, rfl⟩
abbrev main_call4_c_3 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_v37 : Ref sig .tc := ⟨.hbm, 131, rfl⟩
abbrev main_c_16 : Ref sig .tc := ⟨.hbm, 132, rfl⟩
abbrev main_v38 : Ref sig .tc := ⟨.hbm, 133, rfl⟩
abbrev main_v39 : Ref sig .tc := ⟨.hbm, 134, rfl⟩
abbrev main_c_17 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v13 : BitVec 32) : Fin 2 → Nat :=
  let c128_i32 : BitVec 32 := 128#32
  let v14 : BitVec 32 := Scalar.muli v13 c128_i32
  let v15 : Index := Scalar.indexCast v14
  let c0_8 : Index := 0#32
  ![v15.toNat, 0]

def k0_chk3 (v13 : BitVec 32) : Prop :=
  (∀ a, (k0_off1 v13) a + S128x128.size a ≤ S4096x128.size a)
theorem k0_off1_inb : ∀ (v13 : BitVec 32) (k0_hw3 : k0_chk3 v13), ∀ a, (k0_off1 v13) a + S128x128.size a ≤ S4096x128.size a := fun v13 k0_hw3 => k0_hw3

def k0_dev3 (v0 : BitVec 32) : Nat :=
  let c0_i32_19 : BitVec 32 := 0#32
  let c1_i32_18 : BitVec 32 := 1#32
  let v25 : BitVec 32 := Scalar.muli v0 c1_i32_18
  let v26 : BitVec 32 := Scalar.addi c0_i32_19 v25
  v26.toNat
def k0_off2 (v35 : BitVec 32) : Fin 2 → Nat :=
  let c128_i32_24 : BitVec 32 := 128#32
  let v36 : BitVec 32 := Scalar.muli v35 c128_i32_24
  let v37 : Index := Scalar.indexCast v36
  let c0_25 : Index := 0#32
  ![v37.toNat, 0]

def k0_chk4 (v35 : BitVec 32) : Prop :=
  (∀ a, (k0_off2 v35) a + S128x128.size a ≤ S4096x128.size a)
theorem k0_off2_inb : ∀ (v35 : BitVec 32) (k0_hw4 : k0_chk4 v35), ∀ a, (k0_off2 v35) a + S128x128.size a ≤ S4096x128.size a := fun v35 k0_hw4 => k0_hw4

def k0_dev4 (v1 : BitVec 32) : Nat :=
  let c0_i32_36 : BitVec 32 := 0#32
  let c1_i32_35 : BitVec 32 := 1#32
  let v47 : BitVec 32 := Scalar.muli v1 c1_i32_35
  let v48 : BitVec 32 := Scalar.addi c0_i32_36 v47
  v48.toNat
def k0_off3 (v57 : BitVec 32) : Fin 2 → Nat :=
  let c128_i32_42 : BitVec 32 := 128#32
  let v58 : BitVec 32 := Scalar.muli v57 c128_i32_42
  let v59 : Index := Scalar.indexCast v58
  let c0_43 : Index := 0#32
  ![v59.toNat, 0]

def k0_chk5 (v57 : BitVec 32) : Prop :=
  (∀ a, (k0_off3 v57) a + S128x128.size a ≤ S4096x128.size a)
theorem k0_off3_inb : ∀ (v57 : BitVec 32) (k0_hw5 : k0_chk5 v57), ∀ a, (k0_off3 v57) a + S128x128.size a ≤ S4096x128.size a := fun v57 k0_hw5 => k0_hw5

def k0_dev5 (v0 : BitVec 32) : Nat :=
  let c0_i32_54 : BitVec 32 := 0#32
  let c1_i32_53 : BitVec 32 := 1#32
  let v69 : BitVec 32 := Scalar.muli v0 c1_i32_53
  let v70 : BitVec 32 := Scalar.addi c0_i32_54 v69
  v70.toNat
def k0_off4 (v79 : BitVec 32) : Fin 2 → Nat :=
  let c128_i32_60 : BitVec 32 := 128#32
  let v80 : BitVec 32 := Scalar.muli v79 c128_i32_60
  let v81 : Index := Scalar.indexCast v80
  let c0_61 : Index := 0#32
  ![v81.toNat, 0]

def k0_chk6 (v79 : BitVec 32) : Prop :=
  (∀ a, (k0_off4 v79) a + S128x128.size a ≤ S4096x128.size a)
theorem k0_off4_inb : ∀ (v79 : BitVec 32) (k0_hw6 : k0_chk6 v79), ∀ a, (k0_off4 v79) a + S128x128.size a ≤ S4096x128.size a := fun v79 k0_hw6 => k0_hw6

def k0_dev6 (v1 : BitVec 32) : Nat :=
  let c0_i32_72 : BitVec 32 := 0#32
  let c1_i32_71 : BitVec 32 := 1#32
  let v91 : BitVec 32 := Scalar.muli v1 c1_i32_71
  let v92 : BitVec 32 := Scalar.addi c0_i32_72 v91
  v92.toNat
def k0_off5 (v101 : BitVec 32) : Fin 2 → Nat :=
  let c128_i32_77 : BitVec 32 := 128#32
  let v102 : BitVec 32 := Scalar.muli v101 c128_i32_77
  let v103 : Index := Scalar.indexCast v102
  let c0_78 : Index := 0#32
  ![v103.toNat, 0]

def k0_chk7 (v101 : BitVec 32) : Prop :=
  (∀ a, (k0_off5 v101) a + S128x128.size a ≤ S4096x128.size a)
theorem k0_off5_inb : ∀ (v101 : BitVec 32) (k0_hw7 : k0_chk7 v101), ∀ a, (k0_off5 v101) a + S128x128.size a ≤ S4096x128.size a := fun v101 k0_hw7 => k0_hw7

def k0_off6 (v109 : BitVec 32) : Fin 2 → Nat :=
  let c128_i32_82 : BitVec 32 := 128#32
  let v110 : BitVec 32 := Scalar.muli v109 c128_i32_82
  let v111 : Index := Scalar.indexCast v110
  let c0_83 : Index := 0#32
  ![v111.toNat, 0]

def k0_chk8 (v109 : BitVec 32) : Prop :=
  (∀ a, (k0_off6 v109) a + S128x128.size a ≤ S4096x128.size a)
theorem k0_off6_inb : ∀ (v109 : BitVec 32) (k0_hw8 : k0_chk8 v109), ∀ a, (k0_off6 v109) a + S128x128.size a ≤ S4096x128.size a := fun v109 k0_hw8 => k0_hw8

def k0_off7 (v117 : BitVec 32) : Fin 2 → Nat :=
  let c128_i32_88 : BitVec 32 := 128#32
  let v118 : BitVec 32 := Scalar.muli v117 c128_i32_88
  let v119 : Index := Scalar.indexCast v118
  let c0_89 : Index := 0#32
  ![v119.toNat, 0]

def k0_chk9 (v117 : BitVec 32) : Prop :=
  (∀ a, (k0_off7 v117) a + S128x128.size a ≤ S4096x128.size a)
theorem k0_off7_inb : ∀ (v117 : BitVec 32) (k0_hw9 : k0_chk9 v117), ∀ a, (k0_off7 v117) a + S128x128.size a ≤ S4096x128.size a := fun v117 k0_hw9 => k0_hw9

def k0_off8 (v125 : BitVec 32) : Fin 2 → Nat :=
  let c128_i32_94 : BitVec 32 := 128#32
  let v126 : BitVec 32 := Scalar.muli v125 c128_i32_94
  let v127 : Index := Scalar.indexCast v126
  let c0_95 : Index := 0#32
  ![v127.toNat, 0]

def k0_chk10 (v125 : BitVec 32) : Prop :=
  (∀ a, (k0_off8 v125) a + S128x128.size a ≤ S4096x128.size a)
theorem k0_off8_inb : ∀ (v125 : BitVec 32) (k0_hw10 : k0_chk10 v125), ∀ a, (k0_off8 v125) a + S128x128.size a ≤ S4096x128.size a := fun v125 k0_hw10 => k0_hw10

def k0_dev7 (v1 : BitVec 32) : Nat :=
  let c0_i32_117 : BitVec 32 := 0#32
  let c1_i32_116 : BitVec 32 := 1#32
  let v149 : BitVec 32 := Scalar.muli v1 c1_i32_116
  let v150 : BitVec 32 := Scalar.addi c0_i32_117 v149
  v150.toNat
def k0_dev8 (v0 : BitVec 32) : Nat :=
  let c0_i32_123 : BitVec 32 := 0#32
  let c1_i32_122 : BitVec 32 := 1#32
  let v151 : BitVec 32 := Scalar.muli v0 c1_i32_122
  let v152 : BitVec 32 := Scalar.addi c0_i32_123 v151
  v152.toNat
def k0_dev9 (v0 : BitVec 32) : Nat :=
  let c0_i32_146 : BitVec 32 := 0#32
  let c1_i32_145 : BitVec 32 := 1#32
  let v177 : BitVec 32 := Scalar.muli v0 c1_i32_145
  let v178 : BitVec 32 := Scalar.addi c0_i32_146 v177
  v178.toNat
def k0_dev10 (v1 : BitVec 32) : Nat :=
  let c0_i32_152 : BitVec 32 := 0#32
  let c1_i32_151 : BitVec 32 := 1#32
  let v179 : BitVec 32 := Scalar.muli v1 c1_i32_151
  let v180 : BitVec 32 := Scalar.addi c0_i32_152 v179
  v180.toNat
def k0_dev11 (v1 : BitVec 32) : Nat :=
  let c0_i32_175 : BitVec 32 := 0#32
  let c1_i32_174 : BitVec 32 := 1#32
  let v205 : BitVec 32 := Scalar.muli v1 c1_i32_174
  let v206 : BitVec 32 := Scalar.addi c0_i32_175 v205
  v206.toNat
def k0_dev12 (v0 : BitVec 32) : Nat :=
  let c0_i32_181 : BitVec 32 := 0#32
  let c1_i32_180 : BitVec 32 := 1#32
  let v207 : BitVec 32 := Scalar.muli v0 c1_i32_180
  let v208 : BitVec 32 := Scalar.addi c0_i32_181 v207
  v208.toNat
def k0_dev13 (v0 : BitVec 32) : Nat :=
  let c0_i32_204 : BitVec 32 := 0#32
  let c1_i32_203 : BitVec 32 := 1#32
  let v233 : BitVec 32 := Scalar.muli v0 c1_i32_203
  let v234 : BitVec 32 := Scalar.addi c0_i32_204 v233
  v234.toNat
def k0_dev14 (v1 : BitVec 32) : Nat :=
  let c0_i32_210 : BitVec 32 := 0#32
  let c1_i32_209 : BitVec 32 := 1#32
  let v235 : BitVec 32 := Scalar.muli v1 c1_i32_209
  let v236 : BitVec 32 := Scalar.addi c0_i32_210 v235
  v236.toNat
def k0_off9 (v245 : BitVec 32) : Fin 2 → Nat :=
  let c128_i32_215 : BitVec 32 := 128#32
  let v246 : BitVec 32 := Scalar.muli v245 c128_i32_215
  let v247 : Index := Scalar.indexCast v246
  let c0_216 : Index := 0#32
  ![v247.toNat, 0]

def k0_chk11 (v245 : BitVec 32) : Prop :=
  (∀ a, (k0_off9 v245) a + S128x128.size a ≤ S4096x128.size a)
theorem k0_off9_inb : ∀ (v245 : BitVec 32) (k0_hw11 : k0_chk11 v245), ∀ a, (k0_off9 v245) a + S128x128.size a ≤ S4096x128.size a := fun v245 k0_hw11 => k0_hw11

def k0_off10 (v253 : BitVec 32) : Fin 2 → Nat :=
  let c128_i32_220 : BitVec 32 := 128#32
  let v254 : BitVec 32 := Scalar.muli v253 c128_i32_220
  let v255 : Index := Scalar.indexCast v254
  let c0_221 : Index := 0#32
  ![v255.toNat, 0]

def k0_chk12 (v253 : BitVec 32) : Prop :=
  (∀ a, (k0_off10 v253) a + S128x128.size a ≤ S4096x128.size a)
theorem k0_off10_inb : ∀ (v253 : BitVec 32) (k0_hw12 : k0_chk12 v253), ∀ a, (k0_off10 v253) a + S128x128.size a ≤ S4096x128.size a := fun v253 k0_hw12 => k0_hw12

def k0_off11 (v261 : BitVec 32) : Fin 2 → Nat :=
  let c128_i32_226 : BitVec 32 := 128#32
  let v262 : BitVec 32 := Scalar.muli v261 c128_i32_226
  let v263 : Index := Scalar.indexCast v262
  let c0_227 : Index := 0#32
  ![v263.toNat, 0]

def k0_chk13 (v261 : BitVec 32) : Prop :=
  (∀ a, (k0_off11 v261) a + S128x128.size a ≤ S4096x128.size a)
theorem k0_off11_inb : ∀ (v261 : BitVec 32) (k0_hw13 : k0_chk13 v261), ∀ a, (k0_off11 v261) a + S128x128.size a ≤ S4096x128.size a := fun v261 k0_hw13 => k0_hw13

def k0_off12 (v269 : BitVec 32) : Fin 2 → Nat :=
  let c128_i32_232 : BitVec 32 := 128#32
  let v270 : BitVec 32 := Scalar.muli v269 c128_i32_232
  let v271 : Index := Scalar.indexCast v270
  let c0_233 : Index := 0#32
  ![v271.toNat, 0]

def k0_chk14 (v269 : BitVec 32) : Prop :=
  (∀ a, (k0_off12 v269) a + S128x128.size a ≤ S4096x128.size a)
theorem k0_off12_inb : ∀ (v269 : BitVec 32) (k0_hw14 : k0_chk14 v269), ∀ a, (k0_off12 v269) a + S128x128.size a ≤ S4096x128.size a := fun v269 k0_hw14 => k0_hw14

def k0_dev15 (v1 : BitVec 32) : Nat :=
  let c0_i32_264 : BitVec 32 := 0#32
  let c1_i32_263 : BitVec 32 := 1#32
  let v299 : BitVec 32 := Scalar.muli v1 c1_i32_263
  let v300 : BitVec 32 := Scalar.addi c0_i32_264 v299
  v300.toNat
def k0_dev16 (v0 : BitVec 32) : Nat :=
  let c0_i32_272 : BitVec 32 := 0#32
  let c1_i32_271 : BitVec 32 := 1#32
  let v301 : BitVec 32 := Scalar.muli v0 c1_i32_271
  let v302 : BitVec 32 := Scalar.addi c0_i32_272 v301
  v302.toNat
def k0_dev17 (v0 : BitVec 32) : Nat :=
  let c0_i32_304 : BitVec 32 := 0#32
  let c1_i32_303 : BitVec 32 := 1#32
  let v333 : BitVec 32 := Scalar.muli v0 c1_i32_303
  let v334 : BitVec 32 := Scalar.addi c0_i32_304 v333
  v334.toNat
def k0_dev18 (v1 : BitVec 32) : Nat :=
  let c0_i32_312 : BitVec 32 := 0#32
  let c1_i32_311 : BitVec 32 := 1#32
  let v335 : BitVec 32 := Scalar.muli v1 c1_i32_311
  let v336 : BitVec 32 := Scalar.addi c0_i32_312 v335
  v336.toNat
def k0_dev19 (v1 : BitVec 32) : Nat :=
  let c0_i32_344 : BitVec 32 := 0#32
  let c1_i32_343 : BitVec 32 := 1#32
  let v367 : BitVec 32 := Scalar.muli v1 c1_i32_343
  let v368 : BitVec 32 := Scalar.addi c0_i32_344 v367
  v368.toNat
def k0_dev20 (v0 : BitVec 32) : Nat :=
  let c0_i32_352 : BitVec 32 := 0#32
  let c1_i32_351 : BitVec 32 := 1#32
  let v369 : BitVec 32 := Scalar.muli v0 c1_i32_351
  let v370 : BitVec 32 := Scalar.addi c0_i32_352 v369
  v370.toNat
def k0_dev21 (v0 : BitVec 32) : Nat :=
  let c0_i32_384 : BitVec 32 := 0#32
  let c1_i32_383 : BitVec 32 := 1#32
  let v401 : BitVec 32 := Scalar.muli v0 c1_i32_383
  let v402 : BitVec 32 := Scalar.addi c0_i32_384 v401
  v402.toNat
def k0_dev22 (v1 : BitVec 32) : Nat :=
  let c0_i32_392 : BitVec 32 := 0#32
  let c1_i32_391 : BitVec 32 := 1#32
  let v403 : BitVec 32 := Scalar.muli v1 c1_i32_391
  let v404 : BitVec 32 := Scalar.addi c0_i32_392 v403
  v404.toNat
def k0_off13 (v413 : BitVec 32) : Fin 2 → Nat :=
  let c128_i32_397 : BitVec 32 := 128#32
  let v414 : BitVec 32 := Scalar.muli v413 c128_i32_397
  let v415 : Index := Scalar.indexCast v414
  let c0_398 : Index := 0#32
  ![v415.toNat, 0]

def k0_chk15 (v413 : BitVec 32) : Prop :=
  (∀ a, (k0_off13 v413) a + S128x128.size a ≤ S4096x128.size a)
theorem k0_off13_inb : ∀ (v413 : BitVec 32) (k0_hw15 : k0_chk15 v413), ∀ a, (k0_off13 v413) a + S128x128.size a ≤ S4096x128.size a := fun v413 k0_hw15 => k0_hw15

def k0_off14 (v421 : BitVec 32) : Fin 2 → Nat :=
  let c128_i32_402 : BitVec 32 := 128#32
  let v422 : BitVec 32 := Scalar.muli v421 c128_i32_402
  let v423 : Index := Scalar.indexCast v422
  let c0_403 : Index := 0#32
  ![v423.toNat, 0]

def k0_chk16 (v421 : BitVec 32) : Prop :=
  (∀ a, (k0_off14 v421) a + S128x128.size a ≤ S4096x128.size a)
theorem k0_off14_inb : ∀ (v421 : BitVec 32) (k0_hw16 : k0_chk16 v421), ∀ a, (k0_off14 v421) a + S128x128.size a ≤ S4096x128.size a := fun v421 k0_hw16 => k0_hw16

def k0_off15 (v429 : BitVec 32) : Fin 2 → Nat :=
  let c128_i32_408 : BitVec 32 := 128#32
  let v430 : BitVec 32 := Scalar.muli v429 c128_i32_408
  let v431 : Index := Scalar.indexCast v430
  let c0_409 : Index := 0#32
  ![v431.toNat, 0]

def k0_chk17 (v429 : BitVec 32) : Prop :=
  (∀ a, (k0_off15 v429) a + S128x128.size a ≤ S4096x128.size a)
theorem k0_off15_inb : ∀ (v429 : BitVec 32) (k0_hw17 : k0_chk17 v429), ∀ a, (k0_off15 v429) a + S128x128.size a ≤ S4096x128.size a := fun v429 k0_hw17 => k0_hw17

def k0_off16 (v437 : BitVec 32) : Fin 2 → Nat :=
  let c128_i32_414 : BitVec 32 := 128#32
  let v438 : BitVec 32 := Scalar.muli v437 c128_i32_414
  let v439 : Index := Scalar.indexCast v438
  let c0_415 : Index := 0#32
  ![v439.toNat, 0]

def k0_chk18 (v437 : BitVec 32) : Prop :=
  (∀ a, (k0_off16 v437) a + S128x128.size a ≤ S4096x128.size a)
theorem k0_off16_inb : ∀ (v437 : BitVec 32) (k0_hw18 : k0_chk18 v437), ∀ a, (k0_off16 v437) a + S128x128.size a ≤ S4096x128.size a := fun v437 k0_hw18 => k0_hw18

def k0_dev23 (v1 : BitVec 32) : Nat :=
  let c0_i32_446 : BitVec 32 := 0#32
  let c1_i32_445 : BitVec 32 := 1#32
  let v467 : BitVec 32 := Scalar.muli v1 c1_i32_445
  let v468 : BitVec 32 := Scalar.addi c0_i32_446 v467
  v468.toNat
def k0_dev24 (v0 : BitVec 32) : Nat :=
  let c0_i32_454 : BitVec 32 := 0#32
  let c1_i32_453 : BitVec 32 := 1#32
  let v469 : BitVec 32 := Scalar.muli v0 c1_i32_453
  let v470 : BitVec 32 := Scalar.addi c0_i32_454 v469
  v470.toNat
def k0_dev25 (v0 : BitVec 32) : Nat :=
  let c0_i32_486 : BitVec 32 := 0#32
  let c1_i32_485 : BitVec 32 := 1#32
  let v501 : BitVec 32 := Scalar.muli v0 c1_i32_485
  let v502 : BitVec 32 := Scalar.addi c0_i32_486 v501
  v502.toNat
def k0_dev26 (v1 : BitVec 32) : Nat :=
  let c0_i32_494 : BitVec 32 := 0#32
  let c1_i32_493 : BitVec 32 := 1#32
  let v503 : BitVec 32 := Scalar.muli v1 c1_i32_493
  let v504 : BitVec 32 := Scalar.addi c0_i32_494 v503
  v504.toNat
def k0_dev27 (v1 : BitVec 32) : Nat :=
  let c0_i32_526 : BitVec 32 := 0#32
  let c1_i32_525 : BitVec 32 := 1#32
  let v535 : BitVec 32 := Scalar.muli v1 c1_i32_525
  let v536 : BitVec 32 := Scalar.addi c0_i32_526 v535
  v536.toNat
def k0_dev28 (v0 : BitVec 32) : Nat :=
  let c0_i32_534 : BitVec 32 := 0#32
  let c1_i32_533 : BitVec 32 := 1#32
  let v537 : BitVec 32 := Scalar.muli v0 c1_i32_533
  let v538 : BitVec 32 := Scalar.addi c0_i32_534 v537
  v538.toNat
def k0_dev29 (v0 : BitVec 32) : Nat :=
  let c0_i32_566 : BitVec 32 := 0#32
  let c1_i32_565 : BitVec 32 := 1#32
  let v569 : BitVec 32 := Scalar.muli v0 c1_i32_565
  let v570 : BitVec 32 := Scalar.addi c0_i32_566 v569
  v570.toNat
def k0_dev30 (v1 : BitVec 32) : Nat :=
  let c0_i32_574 : BitVec 32 := 0#32
  let c1_i32_573 : BitVec 32 := 1#32
  let v571 : BitVec 32 := Scalar.muli v1 c1_i32_573
  let v572 : BitVec 32 := Scalar.addi c0_i32_574 v571
  v572.toNat
def k0_off17 (v581 : BitVec 32) : Fin 2 → Nat :=
  let c128_i32_579 : BitVec 32 := 128#32
  let v582 : BitVec 32 := Scalar.muli v581 c128_i32_579
  let v583 : Index := Scalar.indexCast v582
  let c0_580 : Index := 0#32
  ![v583.toNat, 0]

def k0_chk19 (v581 : BitVec 32) : Prop :=
  (∀ a, (k0_off17 v581) a + S128x128.size a ≤ S4096x128.size a)
theorem k0_off17_inb : ∀ (v581 : BitVec 32) (k0_hw19 : k0_chk19 v581), ∀ a, (k0_off17 v581) a + S128x128.size a ≤ S4096x128.size a := fun v581 k0_hw19 => k0_hw19

def k0_off18 (v589 : BitVec 32) : Fin 2 → Nat :=
  let c128_i32_584 : BitVec 32 := 128#32
  let v590 : BitVec 32 := Scalar.muli v589 c128_i32_584
  let v591 : Index := Scalar.indexCast v590
  let c0_585 : Index := 0#32
  ![v591.toNat, 0]

def k0_chk20 (v589 : BitVec 32) : Prop :=
  (∀ a, (k0_off18 v589) a + S128x128.size a ≤ S4096x128.size a)
theorem k0_off18_inb : ∀ (v589 : BitVec 32) (k0_hw20 : k0_chk20 v589), ∀ a, (k0_off18 v589) a + S128x128.size a ≤ S4096x128.size a := fun v589 k0_hw20 => k0_hw20

def k0_off19 (v597 : BitVec 32) : Fin 2 → Nat :=
  let c128_i32_590 : BitVec 32 := 128#32
  let v598 : BitVec 32 := Scalar.muli v597 c128_i32_590
  let v599 : Index := Scalar.indexCast v598
  let c0_591 : Index := 0#32
  ![v599.toNat, 0]

def k0_chk21 (v597 : BitVec 32) : Prop :=
  (∀ a, (k0_off19 v597) a + S128x128.size a ≤ S4096x128.size a)
theorem k0_off19_inb : ∀ (v597 : BitVec 32) (k0_hw21 : k0_chk21 v597), ∀ a, (k0_off19 v597) a + S128x128.size a ≤ S4096x128.size a := fun v597 k0_hw21 => k0_hw21

def k0_off20 (v605 : BitVec 32) : Fin 2 → Nat :=
  let c128_i32_596 : BitVec 32 := 128#32
  let v606 : BitVec 32 := Scalar.muli v605 c128_i32_596
  let v607 : Index := Scalar.indexCast v606
  let c0_597 : Index := 0#32
  ![v607.toNat, 0]

def k0_chk22 (v605 : BitVec 32) : Prop :=
  (∀ a, (k0_off20 v605) a + S128x128.size a ≤ S4096x128.size a)
theorem k0_off20_inb : ∀ (v605 : BitVec 32) (k0_hw22 : k0_chk22 v605), ∀ a, (k0_off20 v605) a + S128x128.size a ≤ S4096x128.size a := fun v605 k0_hw22 => k0_hw22

def k0_dev31 (v1 : BitVec 32) : Nat :=
  let c0_i32_628 : BitVec 32 := 0#32
  let c1_i32_627 : BitVec 32 := 1#32
  let v635 : BitVec 32 := Scalar.muli v1 c1_i32_627
  let v636 : BitVec 32 := Scalar.addi c0_i32_628 v635
  v636.toNat
def k0_dev32 (v0 : BitVec 32) : Nat :=
  let c0_i32_636 : BitVec 32 := 0#32
  let c1_i32_635 : BitVec 32 := 1#32
  let v637 : BitVec 32 := Scalar.muli v0 c1_i32_635
  let v638 : BitVec 32 := Scalar.addi c0_i32_636 v637
  v638.toNat
def k0_dev33 (v0 : BitVec 32) : Nat :=
  let c0_i32_668 : BitVec 32 := 0#32
  let c1_i32_667 : BitVec 32 := 1#32
  let v669 : BitVec 32 := Scalar.muli v0 c1_i32_667
  let v670 : BitVec 32 := Scalar.addi c0_i32_668 v669
  v670.toNat
def k0_dev34 (v1 : BitVec 32) : Nat :=
  let c0_i32_676 : BitVec 32 := 0#32
  let c1_i32_675 : BitVec 32 := 1#32
  let v671 : BitVec 32 := Scalar.muli v1 c1_i32_675
  let v672 : BitVec 32 := Scalar.addi c0_i32_676 v671
  v672.toNat
def k0_dev35 (v1 : BitVec 32) : Nat :=
  let c0_i32_708 : BitVec 32 := 0#32
  let c1_i32_707 : BitVec 32 := 1#32
  let v703 : BitVec 32 := Scalar.muli v1 c1_i32_707
  let v704 : BitVec 32 := Scalar.addi c0_i32_708 v703
  v704.toNat
def k0_dev36 (v0 : BitVec 32) : Nat :=
  let c0_i32_716 : BitVec 32 := 0#32
  let c1_i32_715 : BitVec 32 := 1#32
  let v705 : BitVec 32 := Scalar.muli v0 c1_i32_715
  let v706 : BitVec 32 := Scalar.addi c0_i32_716 v705
  v706.toNat
def k0_dev37 (v0 : BitVec 32) : Nat :=
  let c0_i32_748 : BitVec 32 := 0#32
  let c1_i32_747 : BitVec 32 := 1#32
  let v737 : BitVec 32 := Scalar.muli v0 c1_i32_747
  let v738 : BitVec 32 := Scalar.addi c0_i32_748 v737
  v738.toNat
def k0_dev38 (v1 : BitVec 32) : Nat :=
  let c0_i32_756 : BitVec 32 := 0#32
  let c1_i32_755 : BitVec 32 := 1#32
  let v739 : BitVec 32 := Scalar.muli v1 c1_i32_755
  let v740 : BitVec 32 := Scalar.addi c0_i32_756 v739
  v740.toNat
def k0_off21 (v749 : BitVec 32) : Fin 2 → Nat :=
  let c128_i32_761 : BitVec 32 := 128#32
  let v750 : BitVec 32 := Scalar.muli v749 c128_i32_761
  let v751 : Index := Scalar.indexCast v750
  let c0_762 : Index := 0#32
  ![v751.toNat, 0]

def k0_chk23 (v749 : BitVec 32) : Prop :=
  (∀ a, (k0_off21 v749) a + S128x128.size a ≤ S4096x128.size a)
theorem k0_off21_inb : ∀ (v749 : BitVec 32) (k0_hw23 : k0_chk23 v749), ∀ a, (k0_off21 v749) a + S128x128.size a ≤ S4096x128.size a := fun v749 k0_hw23 => k0_hw23

def k0_off22 (v757 : BitVec 32) : Fin 2 → Nat :=
  let c128_i32_766 : BitVec 32 := 128#32
  let v758 : BitVec 32 := Scalar.muli v757 c128_i32_766
  let v759 : Index := Scalar.indexCast v758
  let c0_767 : Index := 0#32
  ![v759.toNat, 0]

def k0_chk24 (v757 : BitVec 32) : Prop :=
  (∀ a, (k0_off22 v757) a + S128x128.size a ≤ S4096x128.size a)
theorem k0_off22_inb : ∀ (v757 : BitVec 32) (k0_hw24 : k0_chk24 v757), ∀ a, (k0_off22 v757) a + S128x128.size a ≤ S4096x128.size a := fun v757 k0_hw24 => k0_hw24

def k0_off23 (v765 : BitVec 32) : Fin 2 → Nat :=
  let c128_i32_772 : BitVec 32 := 128#32
  let v766 : BitVec 32 := Scalar.muli v765 c128_i32_772
  let v767 : Index := Scalar.indexCast v766
  let c0_773 : Index := 0#32
  ![v767.toNat, 0]

def k0_chk25 (v765 : BitVec 32) : Prop :=
  (∀ a, (k0_off23 v765) a + S128x128.size a ≤ S4096x128.size a)
theorem k0_off23_inb : ∀ (v765 : BitVec 32) (k0_hw25 : k0_chk25 v765), ∀ a, (k0_off23 v765) a + S128x128.size a ≤ S4096x128.size a := fun v765 k0_hw25 => k0_hw25

def k0_off24 (v773 : BitVec 32) : Fin 2 → Nat :=
  let c128_i32_778 : BitVec 32 := 128#32
  let v774 : BitVec 32 := Scalar.muli v773 c128_i32_778
  let v775 : Index := Scalar.indexCast v774
  let c0_779 : Index := 0#32
  ![v775.toNat, 0]

def k0_chk26 (v773 : BitVec 32) : Prop :=
  (∀ a, (k0_off24 v773) a + S128x128.size a ≤ S4096x128.size a)
theorem k0_off24_inb : ∀ (v773 : BitVec 32) (k0_hw26 : k0_chk26 v773), ∀ a, (k0_off24 v773) a + S128x128.size a ≤ S4096x128.size a := fun v773 k0_hw26 => k0_hw26

def k0_dev39 (v1 : BitVec 32) : Nat :=
  let c0_i32_810 : BitVec 32 := 0#32
  let c1_i32_809 : BitVec 32 := 1#32
  let v803 : BitVec 32 := Scalar.muli v1 c1_i32_809
  let v804 : BitVec 32 := Scalar.addi c0_i32_810 v803
  v804.toNat
def k0_dev40 (v0 : BitVec 32) : Nat :=
  let c0_i32_818 : BitVec 32 := 0#32
  let c1_i32_817 : BitVec 32 := 1#32
  let v805 : BitVec 32 := Scalar.muli v0 c1_i32_817
  let v806 : BitVec 32 := Scalar.addi c0_i32_818 v805
  v806.toNat
def k0_dev41 (v0 : BitVec 32) : Nat :=
  let c0_i32_850 : BitVec 32 := 0#32
  let c1_i32_849 : BitVec 32 := 1#32
  let v837 : BitVec 32 := Scalar.muli v0 c1_i32_849
  let v838 : BitVec 32 := Scalar.addi c0_i32_850 v837
  v838.toNat
def k0_dev42 (v1 : BitVec 32) : Nat :=
  let c0_i32_858 : BitVec 32 := 0#32
  let c1_i32_857 : BitVec 32 := 1#32
  let v839 : BitVec 32 := Scalar.muli v1 c1_i32_857
  let v840 : BitVec 32 := Scalar.addi c0_i32_858 v839
  v840.toNat
def k0_dev43 (v1 : BitVec 32) : Nat :=
  let c0_i32_890 : BitVec 32 := 0#32
  let c1_i32_889 : BitVec 32 := 1#32
  let v871 : BitVec 32 := Scalar.muli v1 c1_i32_889
  let v872 : BitVec 32 := Scalar.addi c0_i32_890 v871
  v872.toNat
def k0_dev44 (v0 : BitVec 32) : Nat :=
  let c0_i32_898 : BitVec 32 := 0#32
  let c1_i32_897 : BitVec 32 := 1#32
  let v873 : BitVec 32 := Scalar.muli v0 c1_i32_897
  let v874 : BitVec 32 := Scalar.addi c0_i32_898 v873
  v874.toNat
def k0_dev45 (v0 : BitVec 32) : Nat :=
  let c0_i32_930 : BitVec 32 := 0#32
  let c1_i32_929 : BitVec 32 := 1#32
  let v905 : BitVec 32 := Scalar.muli v0 c1_i32_929
  let v906 : BitVec 32 := Scalar.addi c0_i32_930 v905
  v906.toNat
def k0_dev46 (v1 : BitVec 32) : Nat :=
  let c0_i32_938 : BitVec 32 := 0#32
  let c1_i32_937 : BitVec 32 := 1#32
  let v907 : BitVec 32 := Scalar.muli v1 c1_i32_937
  let v908 : BitVec 32 := Scalar.addi c0_i32_938 v907
  v908.toNat
def k0_off25 (v917 : BitVec 32) : Fin 2 → Nat :=
  let c128_i32_943 : BitVec 32 := 128#32
  let v918 : BitVec 32 := Scalar.muli v917 c128_i32_943
  let v919 : Index := Scalar.indexCast v918
  let c0_944 : Index := 0#32
  ![v919.toNat, 0]

def k0_chk27 (v917 : BitVec 32) : Prop :=
  (∀ a, (k0_off25 v917) a + S128x128.size a ≤ S4096x128.size a)
theorem k0_off25_inb : ∀ (v917 : BitVec 32) (k0_hw27 : k0_chk27 v917), ∀ a, (k0_off25 v917) a + S128x128.size a ≤ S4096x128.size a := fun v917 k0_hw27 => k0_hw27

def k0_off26 (v925 : BitVec 32) : Fin 2 → Nat :=
  let c128_i32_948 : BitVec 32 := 128#32
  let v926 : BitVec 32 := Scalar.muli v925 c128_i32_948
  let v927 : Index := Scalar.indexCast v926
  let c0_949 : Index := 0#32
  ![v927.toNat, 0]

def k0_chk28 (v925 : BitVec 32) : Prop :=
  (∀ a, (k0_off26 v925) a + S128x128.size a ≤ S4096x128.size a)
theorem k0_off26_inb : ∀ (v925 : BitVec 32) (k0_hw28 : k0_chk28 v925), ∀ a, (k0_off26 v925) a + S128x128.size a ≤ S4096x128.size a := fun v925 k0_hw28 => k0_hw28

def k0_off27 (v933 : BitVec 32) : Fin 2 → Nat :=
  let c128_i32_954 : BitVec 32 := 128#32
  let v934 : BitVec 32 := Scalar.muli v933 c128_i32_954
  let v935 : Index := Scalar.indexCast v934
  let c0_955 : Index := 0#32
  ![v935.toNat, 0]

def k0_chk29 (v933 : BitVec 32) : Prop :=
  (∀ a, (k0_off27 v933) a + S128x128.size a ≤ S4096x128.size a)
theorem k0_off27_inb : ∀ (v933 : BitVec 32) (k0_hw29 : k0_chk29 v933), ∀ a, (k0_off27 v933) a + S128x128.size a ≤ S4096x128.size a := fun v933 k0_hw29 => k0_hw29

def k0_off28 (v941 : BitVec 32) : Fin 2 → Nat :=
  let c128_i32_960 : BitVec 32 := 128#32
  let v942 : BitVec 32 := Scalar.muli v941 c128_i32_960
  let v943 : Index := Scalar.indexCast v942
  let c0_961 : Index := 0#32
  ![v943.toNat, 0]

def k0_chk30 (v941 : BitVec 32) : Prop :=
  (∀ a, (k0_off28 v941) a + S128x128.size a ≤ S4096x128.size a)
theorem k0_off28_inb : ∀ (v941 : BitVec 32) (k0_hw30 : k0_chk30 v941), ∀ a, (k0_off28 v941) a + S128x128.size a ≤ S4096x128.size a := fun v941 k0_hw30 => k0_hw30

def k0_dev47 (v1 : BitVec 32) : Nat :=
  let c0_i32_992 : BitVec 32 := 0#32
  let c1_i32_991 : BitVec 32 := 1#32
  let v971 : BitVec 32 := Scalar.muli v1 c1_i32_991
  let v972 : BitVec 32 := Scalar.addi c0_i32_992 v971
  v972.toNat
def k0_dev48 (v0 : BitVec 32) : Nat :=
  let c0_i32_1000 : BitVec 32 := 0#32
  let c1_i32_999 : BitVec 32 := 1#32
  let v973 : BitVec 32 := Scalar.muli v0 c1_i32_999
  let v974 : BitVec 32 := Scalar.addi c0_i32_1000 v973
  v974.toNat
def k0_dev49 (v0 : BitVec 32) : Nat :=
  let c0_i32_1032 : BitVec 32 := 0#32
  let c1_i32_1031 : BitVec 32 := 1#32
  let v1005 : BitVec 32 := Scalar.muli v0 c1_i32_1031
  let v1006 : BitVec 32 := Scalar.addi c0_i32_1032 v1005
  v1006.toNat
def k0_dev50 (v1 : BitVec 32) : Nat :=
  let c0_i32_1040 : BitVec 32 := 0#32
  let c1_i32_1039 : BitVec 32 := 1#32
  let v1007 : BitVec 32 := Scalar.muli v1 c1_i32_1039
  let v1008 : BitVec 32 := Scalar.addi c0_i32_1040 v1007
  v1008.toNat
def k0_dev51 (v1 : BitVec 32) : Nat :=
  let c0_i32_1072 : BitVec 32 := 0#32
  let c1_i32_1071 : BitVec 32 := 1#32
  let v1039 : BitVec 32 := Scalar.muli v1 c1_i32_1071
  let v1040 : BitVec 32 := Scalar.addi c0_i32_1072 v1039
  v1040.toNat
def k0_dev52 (v0 : BitVec 32) : Nat :=
  let c0_i32_1080 : BitVec 32 := 0#32
  let c1_i32_1079 : BitVec 32 := 1#32
  let v1041 : BitVec 32 := Scalar.muli v0 c1_i32_1079
  let v1042 : BitVec 32 := Scalar.addi c0_i32_1080 v1041
  v1042.toNat
def k0_dev53 (v0 : BitVec 32) : Nat :=
  let c0_i32_1112 : BitVec 32 := 0#32
  let c1_i32_1111 : BitVec 32 := 1#32
  let v1073 : BitVec 32 := Scalar.muli v0 c1_i32_1111
  let v1074 : BitVec 32 := Scalar.addi c0_i32_1112 v1073
  v1074.toNat
def k0_dev54 (v1 : BitVec 32) : Nat :=
  let c0_i32_1120 : BitVec 32 := 0#32
  let c1_i32_1119 : BitVec 32 := 1#32
  let v1075 : BitVec 32 := Scalar.muli v1 c1_i32_1119
  let v1076 : BitVec 32 := Scalar.addi c0_i32_1120 v1075
  v1076.toNat
def k0_off29 (v1085 : BitVec 32) : Fin 2 → Nat :=
  let c128_i32_1125 : BitVec 32 := 128#32
  let v1086 : BitVec 32 := Scalar.muli v1085 c128_i32_1125
  let v1087 : Index := Scalar.indexCast v1086
  let c0_1126 : Index := 0#32
  ![v1087.toNat, 0]

def k0_chk31 (v1085 : BitVec 32) : Prop :=
  (∀ a, (k0_off29 v1085) a + S128x128.size a ≤ S4096x128.size a)
theorem k0_off29_inb : ∀ (v1085 : BitVec 32) (k0_hw31 : k0_chk31 v1085), ∀ a, (k0_off29 v1085) a + S128x128.size a ≤ S4096x128.size a := fun v1085 k0_hw31 => k0_hw31

def k0_off30 (v1093 : BitVec 32) : Fin 2 → Nat :=
  let c128_i32_1130 : BitVec 32 := 128#32
  let v1094 : BitVec 32 := Scalar.muli v1093 c128_i32_1130
  let v1095 : Index := Scalar.indexCast v1094
  let c0_1131 : Index := 0#32
  ![v1095.toNat, 0]

def k0_chk32 (v1093 : BitVec 32) : Prop :=
  (∀ a, (k0_off30 v1093) a + S128x128.size a ≤ S4096x128.size a)
theorem k0_off30_inb : ∀ (v1093 : BitVec 32) (k0_hw32 : k0_chk32 v1093), ∀ a, (k0_off30 v1093) a + S128x128.size a ≤ S4096x128.size a := fun v1093 k0_hw32 => k0_hw32

def k0_off31 (v1101 : BitVec 32) : Fin 2 → Nat :=
  let c128_i32_1136 : BitVec 32 := 128#32
  let v1102 : BitVec 32 := Scalar.muli v1101 c128_i32_1136
  let v1103 : Index := Scalar.indexCast v1102
  let c0_1137 : Index := 0#32
  ![v1103.toNat, 0]

def k0_chk33 (v1101 : BitVec 32) : Prop :=
  (∀ a, (k0_off31 v1101) a + S128x128.size a ≤ S4096x128.size a)
theorem k0_off31_inb : ∀ (v1101 : BitVec 32) (k0_hw33 : k0_chk33 v1101), ∀ a, (k0_off31 v1101) a + S128x128.size a ≤ S4096x128.size a := fun v1101 k0_hw33 => k0_hw33

def k0_off32 (v1109 : BitVec 32) : Fin 2 → Nat :=
  let c128_i32_1142 : BitVec 32 := 128#32
  let v1110 : BitVec 32 := Scalar.muli v1109 c128_i32_1142
  let v1111 : Index := Scalar.indexCast v1110
  let c0_1143 : Index := 0#32
  ![v1111.toNat, 0]

def k0_chk34 (v1109 : BitVec 32) : Prop :=
  (∀ a, (k0_off32 v1109) a + S128x128.size a ≤ S4096x128.size a)
theorem k0_off32_inb : ∀ (v1109 : BitVec 32) (k0_hw34 : k0_chk34 v1109), ∀ a, (k0_off32 v1109) a + S128x128.size a ≤ S4096x128.size a := fun v1109 k0_hw34 => k0_hw34

def k0_dev55 (v1 : BitVec 32) : Nat :=
  let c0_i32_1174 : BitVec 32 := 0#32
  let c1_i32_1173 : BitVec 32 := 1#32
  let v1139 : BitVec 32 := Scalar.muli v1 c1_i32_1173
  let v1140 : BitVec 32 := Scalar.addi c0_i32_1174 v1139
  v1140.toNat
def k0_dev56 (v0 : BitVec 32) : Nat :=
  let c0_i32_1182 : BitVec 32 := 0#32
  let c1_i32_1181 : BitVec 32 := 1#32
  let v1141 : BitVec 32 := Scalar.muli v0 c1_i32_1181
  let v1142 : BitVec 32 := Scalar.addi c0_i32_1182 v1141
  v1142.toNat
def k0_dev57 (v0 : BitVec 32) : Nat :=
  let c0_i32_1214 : BitVec 32 := 0#32
  let c1_i32_1213 : BitVec 32 := 1#32
  let v1173 : BitVec 32 := Scalar.muli v0 c1_i32_1213
  let v1174 : BitVec 32 := Scalar.addi c0_i32_1214 v1173
  v1174.toNat
def k0_dev58 (v1 : BitVec 32) : Nat :=
  let c0_i32_1222 : BitVec 32 := 0#32
  let c1_i32_1221 : BitVec 32 := 1#32
  let v1175 : BitVec 32 := Scalar.muli v1 c1_i32_1221
  let v1176 : BitVec 32 := Scalar.addi c0_i32_1222 v1175
  v1176.toNat
def k0_dev59 (v1 : BitVec 32) : Nat :=
  let c0_i32_1254 : BitVec 32 := 0#32
  let c1_i32_1253 : BitVec 32 := 1#32
  let v1207 : BitVec 32 := Scalar.muli v1 c1_i32_1253
  let v1208 : BitVec 32 := Scalar.addi c0_i32_1254 v1207
  v1208.toNat
def k0_dev60 (v0 : BitVec 32) : Nat :=
  let c0_i32_1262 : BitVec 32 := 0#32
  let c1_i32_1261 : BitVec 32 := 1#32
  let v1209 : BitVec 32 := Scalar.muli v0 c1_i32_1261
  let v1210 : BitVec 32 := Scalar.addi c0_i32_1262 v1209
  v1210.toNat
def k0_dev61 (v0 : BitVec 32) : Nat :=
  let c0_i32_1294 : BitVec 32 := 0#32
  let c1_i32_1293 : BitVec 32 := 1#32
  let v1241 : BitVec 32 := Scalar.muli v0 c1_i32_1293
  let v1242 : BitVec 32 := Scalar.addi c0_i32_1294 v1241
  v1242.toNat
def k0_dev62 (v1 : BitVec 32) : Nat :=
  let c0_i32_1302 : BitVec 32 := 0#32
  let c1_i32_1301 : BitVec 32 := 1#32
  let v1243 : BitVec 32 := Scalar.muli v1 c1_i32_1301
  let v1244 : BitVec 32 := Scalar.addi c0_i32_1302 v1243
  v1244.toNat
def k0_off33 (v1253 : BitVec 32) : Fin 2 → Nat :=
  let c128_i32_1307 : BitVec 32 := 128#32
  let v1254 : BitVec 32 := Scalar.muli v1253 c128_i32_1307
  let v1255 : Index := Scalar.indexCast v1254
  let c0_1308 : Index := 0#32
  ![v1255.toNat, 0]

def k0_chk35 (v1253 : BitVec 32) : Prop :=
  (∀ a, (k0_off33 v1253) a + S128x128.size a ≤ S4096x128.size a)
theorem k0_off33_inb : ∀ (v1253 : BitVec 32) (k0_hw35 : k0_chk35 v1253), ∀ a, (k0_off33 v1253) a + S128x128.size a ≤ S4096x128.size a := fun v1253 k0_hw35 => k0_hw35

def k0_off34 (v1261 : BitVec 32) : Fin 2 → Nat :=
  let c128_i32_1312 : BitVec 32 := 128#32
  let v1262 : BitVec 32 := Scalar.muli v1261 c128_i32_1312
  let v1263 : Index := Scalar.indexCast v1262
  let c0_1313 : Index := 0#32
  ![v1263.toNat, 0]

def k0_chk36 (v1261 : BitVec 32) : Prop :=
  (∀ a, (k0_off34 v1261) a + S128x128.size a ≤ S4096x128.size a)
theorem k0_off34_inb : ∀ (v1261 : BitVec 32) (k0_hw36 : k0_chk36 v1261), ∀ a, (k0_off34 v1261) a + S128x128.size a ≤ S4096x128.size a := fun v1261 k0_hw36 => k0_hw36

def k0_off35 (v1269 : BitVec 32) : Fin 2 → Nat :=
  let c128_i32_1318 : BitVec 32 := 128#32
  let v1270 : BitVec 32 := Scalar.muli v1269 c128_i32_1318
  let v1271 : Index := Scalar.indexCast v1270
  let c0_1319 : Index := 0#32
  ![v1271.toNat, 0]

def k0_chk37 (v1269 : BitVec 32) : Prop :=
  (∀ a, (k0_off35 v1269) a + S128x128.size a ≤ S4096x128.size a)
theorem k0_off35_inb : ∀ (v1269 : BitVec 32) (k0_hw37 : k0_chk37 v1269), ∀ a, (k0_off35 v1269) a + S128x128.size a ≤ S4096x128.size a := fun v1269 k0_hw37 => k0_hw37

def k0_off36 (v1277 : BitVec 32) : Fin 2 → Nat :=
  let c128_i32_1324 : BitVec 32 := 128#32
  let v1278 : BitVec 32 := Scalar.muli v1277 c128_i32_1324
  let v1279 : Index := Scalar.indexCast v1278
  let c0_1325 : Index := 0#32
  ![v1279.toNat, 0]

def k0_chk38 (v1277 : BitVec 32) : Prop :=
  (∀ a, (k0_off36 v1277) a + S128x128.size a ≤ S4096x128.size a)
theorem k0_off36_inb : ∀ (v1277 : BitVec 32) (k0_hw38 : k0_chk38 v1277), ∀ a, (k0_off36 v1277) a + S128x128.size a ≤ S4096x128.size a := fun v1277 k0_hw38 => k0_hw38

def k0_dev63 (v1 : BitVec 32) : Nat :=
  let c0_i32_1356 : BitVec 32 := 0#32
  let c1_i32_1355 : BitVec 32 := 1#32
  let v1307 : BitVec 32 := Scalar.muli v1 c1_i32_1355
  let v1308 : BitVec 32 := Scalar.addi c0_i32_1356 v1307
  v1308.toNat
def k0_dev64 (v0 : BitVec 32) : Nat :=
  let c0_i32_1364 : BitVec 32 := 0#32
  let c1_i32_1363 : BitVec 32 := 1#32
  let v1309 : BitVec 32 := Scalar.muli v0 c1_i32_1363
  let v1310 : BitVec 32 := Scalar.addi c0_i32_1364 v1309
  v1310.toNat
def k0_dev65 (v0 : BitVec 32) : Nat :=
  let c0_i32_1396 : BitVec 32 := 0#32
  let c1_i32_1395 : BitVec 32 := 1#32
  let v1341 : BitVec 32 := Scalar.muli v0 c1_i32_1395
  let v1342 : BitVec 32 := Scalar.addi c0_i32_1396 v1341
  v1342.toNat
def k0_dev66 (v1 : BitVec 32) : Nat :=
  let c0_i32_1404 : BitVec 32 := 0#32
  let c1_i32_1403 : BitVec 32 := 1#32
  let v1343 : BitVec 32 := Scalar.muli v1 c1_i32_1403
  let v1344 : BitVec 32 := Scalar.addi c0_i32_1404 v1343
  v1344.toNat
def k0_dev67 (v1 : BitVec 32) : Nat :=
  let c0_i32_1436 : BitVec 32 := 0#32
  let c1_i32_1435 : BitVec 32 := 1#32
  let v1375 : BitVec 32 := Scalar.muli v1 c1_i32_1435
  let v1376 : BitVec 32 := Scalar.addi c0_i32_1436 v1375
  v1376.toNat
def k0_dev68 (v0 : BitVec 32) : Nat :=
  let c0_i32_1444 : BitVec 32 := 0#32
  let c1_i32_1443 : BitVec 32 := 1#32
  let v1377 : BitVec 32 := Scalar.muli v0 c1_i32_1443
  let v1378 : BitVec 32 := Scalar.addi c0_i32_1444 v1377
  v1378.toNat
def k0_dev69 (v0 : BitVec 32) : Nat :=
  let c0_i32_1476 : BitVec 32 := 0#32
  let c1_i32_1475 : BitVec 32 := 1#32
  let v1409 : BitVec 32 := Scalar.muli v0 c1_i32_1475
  let v1410 : BitVec 32 := Scalar.addi c0_i32_1476 v1409
  v1410.toNat
def k0_dev70 (v1 : BitVec 32) : Nat :=
  let c0_i32_1484 : BitVec 32 := 0#32
  let c1_i32_1483 : BitVec 32 := 1#32
  let v1411 : BitVec 32 := Scalar.muli v1 c1_i32_1483
  let v1412 : BitVec 32 := Scalar.addi c0_i32_1484 v1411
  v1412.toNat
def k0_off37 (v1421 : BitVec 32) : Fin 2 → Nat :=
  let c128_i32_1489 : BitVec 32 := 128#32
  let v1422 : BitVec 32 := Scalar.muli v1421 c128_i32_1489
  let v1423 : Index := Scalar.indexCast v1422
  let c0_1490 : Index := 0#32
  ![v1423.toNat, 0]

def k0_chk39 (v1421 : BitVec 32) : Prop :=
  (∀ a, (k0_off37 v1421) a + S128x128.size a ≤ S4096x128.size a)
theorem k0_off37_inb : ∀ (v1421 : BitVec 32) (k0_hw39 : k0_chk39 v1421), ∀ a, (k0_off37 v1421) a + S128x128.size a ≤ S4096x128.size a := fun v1421 k0_hw39 => k0_hw39

def k0_off38 (v1429 : BitVec 32) : Fin 2 → Nat :=
  let c128_i32_1494 : BitVec 32 := 128#32
  let v1430 : BitVec 32 := Scalar.muli v1429 c128_i32_1494
  let v1431 : Index := Scalar.indexCast v1430
  let c0_1495 : Index := 0#32
  ![v1431.toNat, 0]

def k0_chk40 (v1429 : BitVec 32) : Prop :=
  (∀ a, (k0_off38 v1429) a + S128x128.size a ≤ S4096x128.size a)
theorem k0_off38_inb : ∀ (v1429 : BitVec 32) (k0_hw40 : k0_chk40 v1429), ∀ a, (k0_off38 v1429) a + S128x128.size a ≤ S4096x128.size a := fun v1429 k0_hw40 => k0_hw40

def k0_off39 (v1437 : BitVec 32) : Fin 2 → Nat :=
  let c128_i32_1500 : BitVec 32 := 128#32
  let v1438 : BitVec 32 := Scalar.muli v1437 c128_i32_1500
  let v1439 : Index := Scalar.indexCast v1438
  let c0_1501 : Index := 0#32
  ![v1439.toNat, 0]

def k0_chk41 (v1437 : BitVec 32) : Prop :=
  (∀ a, (k0_off39 v1437) a + S128x128.size a ≤ S4096x128.size a)
theorem k0_off39_inb : ∀ (v1437 : BitVec 32) (k0_hw41 : k0_chk41 v1437), ∀ a, (k0_off39 v1437) a + S128x128.size a ≤ S4096x128.size a := fun v1437 k0_hw41 => k0_hw41

def k0_off40 (v1445 : BitVec 32) : Fin 2 → Nat :=
  let c128_i32_1506 : BitVec 32 := 128#32
  let v1446 : BitVec 32 := Scalar.muli v1445 c128_i32_1506
  let v1447 : Index := Scalar.indexCast v1446
  let c0_1507 : Index := 0#32
  ![v1447.toNat, 0]

def k0_chk42 (v1445 : BitVec 32) : Prop :=
  (∀ a, (k0_off40 v1445) a + S128x128.size a ≤ S4096x128.size a)
theorem k0_off40_inb : ∀ (v1445 : BitVec 32) (k0_hw42 : k0_chk42 v1445), ∀ a, (k0_off40 v1445) a + S128x128.size a ≤ S4096x128.size a := fun v1445 k0_hw42 => k0_hw42

def k0_dev71 (v1 : BitVec 32) : Nat :=
  let c0_i32_1538 : BitVec 32 := 0#32
  let c1_i32_1537 : BitVec 32 := 1#32
  let v1475 : BitVec 32 := Scalar.muli v1 c1_i32_1537
  let v1476 : BitVec 32 := Scalar.addi c0_i32_1538 v1475
  v1476.toNat
def k0_dev72 (v0 : BitVec 32) : Nat :=
  let c0_i32_1546 : BitVec 32 := 0#32
  let c1_i32_1545 : BitVec 32 := 1#32
  let v1477 : BitVec 32 := Scalar.muli v0 c1_i32_1545
  let v1478 : BitVec 32 := Scalar.addi c0_i32_1546 v1477
  v1478.toNat
def k0_dev73 (v0 : BitVec 32) : Nat :=
  let c0_i32_1578 : BitVec 32 := 0#32
  let c1_i32_1577 : BitVec 32 := 1#32
  let v1509 : BitVec 32 := Scalar.muli v0 c1_i32_1577
  let v1510 : BitVec 32 := Scalar.addi c0_i32_1578 v1509
  v1510.toNat
def k0_dev74 (v1 : BitVec 32) : Nat :=
  let c0_i32_1586 : BitVec 32 := 0#32
  let c1_i32_1585 : BitVec 32 := 1#32
  let v1511 : BitVec 32 := Scalar.muli v1 c1_i32_1585
  let v1512 : BitVec 32 := Scalar.addi c0_i32_1586 v1511
  v1512.toNat
def k0_dev75 (v1 : BitVec 32) : Nat :=
  let c0_i32_1618 : BitVec 32 := 0#32
  let c1_i32_1617 : BitVec 32 := 1#32
  let v1543 : BitVec 32 := Scalar.muli v1 c1_i32_1617
  let v1544 : BitVec 32 := Scalar.addi c0_i32_1618 v1543
  v1544.toNat
def k0_dev76 (v0 : BitVec 32) : Nat :=
  let c0_i32_1626 : BitVec 32 := 0#32
  let c1_i32_1625 : BitVec 32 := 1#32
  let v1545 : BitVec 32 := Scalar.muli v0 c1_i32_1625
  let v1546 : BitVec 32 := Scalar.addi c0_i32_1626 v1545
  v1546.toNat
def k0_dev77 (v0 : BitVec 32) : Nat :=
  let c0_i32_1658 : BitVec 32 := 0#32
  let c1_i32_1657 : BitVec 32 := 1#32
  let v1577 : BitVec 32 := Scalar.muli v0 c1_i32_1657
  let v1578 : BitVec 32 := Scalar.addi c0_i32_1658 v1577
  v1578.toNat
def k0_dev78 (v1 : BitVec 32) : Nat :=
  let c0_i32_1666 : BitVec 32 := 0#32
  let c1_i32_1665 : BitVec 32 := 1#32
  let v1579 : BitVec 32 := Scalar.muli v1 c1_i32_1665
  let v1580 : BitVec 32 := Scalar.addi c0_i32_1666 v1579
  v1580.toNat
def k0_off41 (v1589 : BitVec 32) : Fin 2 → Nat :=
  let c128_i32_1671 : BitVec 32 := 128#32
  let v1590 : BitVec 32 := Scalar.muli v1589 c128_i32_1671
  let v1591 : Index := Scalar.indexCast v1590
  let c0_1672 : Index := 0#32
  ![v1591.toNat, 0]

def k0_chk43 (v1589 : BitVec 32) : Prop :=
  (∀ a, (k0_off41 v1589) a + S128x128.size a ≤ S4096x128.size a)
theorem k0_off41_inb : ∀ (v1589 : BitVec 32) (k0_hw43 : k0_chk43 v1589), ∀ a, (k0_off41 v1589) a + S128x128.size a ≤ S4096x128.size a := fun v1589 k0_hw43 => k0_hw43

def k0_off42 (v1597 : BitVec 32) : Fin 2 → Nat :=
  let c128_i32_1676 : BitVec 32 := 128#32
  let v1598 : BitVec 32 := Scalar.muli v1597 c128_i32_1676
  let v1599 : Index := Scalar.indexCast v1598
  let c0_1677 : Index := 0#32
  ![v1599.toNat, 0]

def k0_chk44 (v1597 : BitVec 32) : Prop :=
  (∀ a, (k0_off42 v1597) a + S128x128.size a ≤ S4096x128.size a)
theorem k0_off42_inb : ∀ (v1597 : BitVec 32) (k0_hw44 : k0_chk44 v1597), ∀ a, (k0_off42 v1597) a + S128x128.size a ≤ S4096x128.size a := fun v1597 k0_hw44 => k0_hw44

def k0_off43 (v1605 : BitVec 32) : Fin 2 → Nat :=
  let c128_i32_1682 : BitVec 32 := 128#32
  let v1606 : BitVec 32 := Scalar.muli v1605 c128_i32_1682
  let v1607 : Index := Scalar.indexCast v1606
  let c0_1683 : Index := 0#32
  ![v1607.toNat, 0]

def k0_chk45 (v1605 : BitVec 32) : Prop :=
  (∀ a, (k0_off43 v1605) a + S128x128.size a ≤ S4096x128.size a)
theorem k0_off43_inb : ∀ (v1605 : BitVec 32) (k0_hw45 : k0_chk45 v1605), ∀ a, (k0_off43 v1605) a + S128x128.size a ≤ S4096x128.size a := fun v1605 k0_hw45 => k0_hw45

def k0_off44 (v1613 : BitVec 32) : Fin 2 → Nat :=
  let c128_i32_1688 : BitVec 32 := 128#32
  let v1614 : BitVec 32 := Scalar.muli v1613 c128_i32_1688
  let v1615 : Index := Scalar.indexCast v1614
  let c0_1689 : Index := 0#32
  ![v1615.toNat, 0]

def k0_chk46 (v1613 : BitVec 32) : Prop :=
  (∀ a, (k0_off44 v1613) a + S128x128.size a ≤ S4096x128.size a)
theorem k0_off44_inb : ∀ (v1613 : BitVec 32) (k0_hw46 : k0_chk46 v1613), ∀ a, (k0_off44 v1613) a + S128x128.size a ≤ S4096x128.size a := fun v1613 k0_hw46 => k0_hw46

def k0_dev79 (v1 : BitVec 32) : Nat :=
  let c0_i32_1720 : BitVec 32 := 0#32
  let c1_i32_1719 : BitVec 32 := 1#32
  let v1643 : BitVec 32 := Scalar.muli v1 c1_i32_1719
  let v1644 : BitVec 32 := Scalar.addi c0_i32_1720 v1643
  v1644.toNat
def k0_dev80 (v0 : BitVec 32) : Nat :=
  let c0_i32_1728 : BitVec 32 := 0#32
  let c1_i32_1727 : BitVec 32 := 1#32
  let v1645 : BitVec 32 := Scalar.muli v0 c1_i32_1727
  let v1646 : BitVec 32 := Scalar.addi c0_i32_1728 v1645
  v1646.toNat
def k0_dev81 (v0 : BitVec 32) : Nat :=
  let c0_i32_1760 : BitVec 32 := 0#32
  let c1_i32_1759 : BitVec 32 := 1#32
  let v1677 : BitVec 32 := Scalar.muli v0 c1_i32_1759
  let v1678 : BitVec 32 := Scalar.addi c0_i32_1760 v1677
  v1678.toNat
def k0_dev82 (v1 : BitVec 32) : Nat :=
  let c0_i32_1768 : BitVec 32 := 0#32
  let c1_i32_1767 : BitVec 32 := 1#32
  let v1679 : BitVec 32 := Scalar.muli v1 c1_i32_1767
  let v1680 : BitVec 32 := Scalar.addi c0_i32_1768 v1679
  v1680.toNat
def k0_dev83 (v1 : BitVec 32) : Nat :=
  let c0_i32_1800 : BitVec 32 := 0#32
  let c1_i32_1799 : BitVec 32 := 1#32
  let v1711 : BitVec 32 := Scalar.muli v1 c1_i32_1799
  let v1712 : BitVec 32 := Scalar.addi c0_i32_1800 v1711
  v1712.toNat
def k0_dev84 (v0 : BitVec 32) : Nat :=
  let c0_i32_1808 : BitVec 32 := 0#32
  let c1_i32_1807 : BitVec 32 := 1#32
  let v1713 : BitVec 32 := Scalar.muli v0 c1_i32_1807
  let v1714 : BitVec 32 := Scalar.addi c0_i32_1808 v1713
  v1714.toNat
def k0_dev85 (v0 : BitVec 32) : Nat :=
  let c0_i32_1840 : BitVec 32 := 0#32
  let c1_i32_1839 : BitVec 32 := 1#32
  let v1745 : BitVec 32 := Scalar.muli v0 c1_i32_1839
  let v1746 : BitVec 32 := Scalar.addi c0_i32_1840 v1745
  v1746.toNat
def k0_dev86 (v1 : BitVec 32) : Nat :=
  let c0_i32_1848 : BitVec 32 := 0#32
  let c1_i32_1847 : BitVec 32 := 1#32
  let v1747 : BitVec 32 := Scalar.muli v1 c1_i32_1847
  let v1748 : BitVec 32 := Scalar.addi c0_i32_1848 v1747
  v1748.toNat
def k0_off45 (v1757 : BitVec 32) : Fin 2 → Nat :=
  let c128_i32_1853 : BitVec 32 := 128#32
  let v1758 : BitVec 32 := Scalar.muli v1757 c128_i32_1853
  let v1759 : Index := Scalar.indexCast v1758
  let c0_1854 : Index := 0#32
  ![v1759.toNat, 0]

def k0_chk47 (v1757 : BitVec 32) : Prop :=
  (∀ a, (k0_off45 v1757) a + S128x128.size a ≤ S4096x128.size a)
theorem k0_off45_inb : ∀ (v1757 : BitVec 32) (k0_hw47 : k0_chk47 v1757), ∀ a, (k0_off45 v1757) a + S128x128.size a ≤ S4096x128.size a := fun v1757 k0_hw47 => k0_hw47

def k0_off46 (v1765 : BitVec 32) : Fin 2 → Nat :=
  let c128_i32_1858 : BitVec 32 := 128#32
  let v1766 : BitVec 32 := Scalar.muli v1765 c128_i32_1858
  let v1767 : Index := Scalar.indexCast v1766
  let c0_1859 : Index := 0#32
  ![v1767.toNat, 0]

def k0_chk48 (v1765 : BitVec 32) : Prop :=
  (∀ a, (k0_off46 v1765) a + S128x128.size a ≤ S4096x128.size a)
theorem k0_off46_inb : ∀ (v1765 : BitVec 32) (k0_hw48 : k0_chk48 v1765), ∀ a, (k0_off46 v1765) a + S128x128.size a ≤ S4096x128.size a := fun v1765 k0_hw48 => k0_hw48

def k0_off47 (v1773 : BitVec 32) : Fin 2 → Nat :=
  let c128_i32_1864 : BitVec 32 := 128#32
  let v1774 : BitVec 32 := Scalar.muli v1773 c128_i32_1864
  let v1775 : Index := Scalar.indexCast v1774
  let c0_1865 : Index := 0#32
  ![v1775.toNat, 0]

def k0_chk49 (v1773 : BitVec 32) : Prop :=
  (∀ a, (k0_off47 v1773) a + S128x128.size a ≤ S4096x128.size a)
theorem k0_off47_inb : ∀ (v1773 : BitVec 32) (k0_hw49 : k0_chk49 v1773), ∀ a, (k0_off47 v1773) a + S128x128.size a ≤ S4096x128.size a := fun v1773 k0_hw49 => k0_hw49

def k0_off48 (v1781 : BitVec 32) : Fin 2 → Nat :=
  let c128_i32_1870 : BitVec 32 := 128#32
  let v1782 : BitVec 32 := Scalar.muli v1781 c128_i32_1870
  let v1783 : Index := Scalar.indexCast v1782
  let c0_1871 : Index := 0#32
  ![v1783.toNat, 0]

def k0_chk50 (v1781 : BitVec 32) : Prop :=
  (∀ a, (k0_off48 v1781) a + S128x128.size a ≤ S4096x128.size a)
theorem k0_off48_inb : ∀ (v1781 : BitVec 32) (k0_hw50 : k0_chk50 v1781), ∀ a, (k0_off48 v1781) a + S128x128.size a ≤ S4096x128.size a := fun v1781 k0_hw50 => k0_hw50

def k0_dev87 (v1 : BitVec 32) : Nat :=
  let c0_i32_1902 : BitVec 32 := 0#32
  let c1_i32_1901 : BitVec 32 := 1#32
  let v1811 : BitVec 32 := Scalar.muli v1 c1_i32_1901
  let v1812 : BitVec 32 := Scalar.addi c0_i32_1902 v1811
  v1812.toNat
def k0_dev88 (v0 : BitVec 32) : Nat :=
  let c0_i32_1910 : BitVec 32 := 0#32
  let c1_i32_1909 : BitVec 32 := 1#32
  let v1813 : BitVec 32 := Scalar.muli v0 c1_i32_1909
  let v1814 : BitVec 32 := Scalar.addi c0_i32_1910 v1813
  v1814.toNat
def k0_dev89 (v0 : BitVec 32) : Nat :=
  let c0_i32_1942 : BitVec 32 := 0#32
  let c1_i32_1941 : BitVec 32 := 1#32
  let v1845 : BitVec 32 := Scalar.muli v0 c1_i32_1941
  let v1846 : BitVec 32 := Scalar.addi c0_i32_1942 v1845
  v1846.toNat
def k0_dev90 (v1 : BitVec 32) : Nat :=
  let c0_i32_1950 : BitVec 32 := 0#32
  let c1_i32_1949 : BitVec 32 := 1#32
  let v1847 : BitVec 32 := Scalar.muli v1 c1_i32_1949
  let v1848 : BitVec 32 := Scalar.addi c0_i32_1950 v1847
  v1848.toNat
def k0_dev91 (v1 : BitVec 32) : Nat :=
  let c0_i32_1982 : BitVec 32 := 0#32
  let c1_i32_1981 : BitVec 32 := 1#32
  let v1879 : BitVec 32 := Scalar.muli v1 c1_i32_1981
  let v1880 : BitVec 32 := Scalar.addi c0_i32_1982 v1879
  v1880.toNat
def k0_dev92 (v0 : BitVec 32) : Nat :=
  let c0_i32_1990 : BitVec 32 := 0#32
  let c1_i32_1989 : BitVec 32 := 1#32
  let v1881 : BitVec 32 := Scalar.muli v0 c1_i32_1989
  let v1882 : BitVec 32 := Scalar.addi c0_i32_1990 v1881
  v1882.toNat
def k0_dev93 (v0 : BitVec 32) : Nat :=
  let c0_i32_2022 : BitVec 32 := 0#32
  let c1_i32_2021 : BitVec 32 := 1#32
  let v1913 : BitVec 32 := Scalar.muli v0 c1_i32_2021
  let v1914 : BitVec 32 := Scalar.addi c0_i32_2022 v1913
  v1914.toNat
def k0_dev94 (v1 : BitVec 32) : Nat :=
  let c0_i32_2030 : BitVec 32 := 0#32
  let c1_i32_2029 : BitVec 32 := 1#32
  let v1915 : BitVec 32 := Scalar.muli v1 c1_i32_2029
  let v1916 : BitVec 32 := Scalar.addi c0_i32_2030 v1915
  v1916.toNat
def k0_off49 (v1925 : BitVec 32) : Fin 2 → Nat :=
  let c128_i32_2035 : BitVec 32 := 128#32
  let v1926 : BitVec 32 := Scalar.muli v1925 c128_i32_2035
  let v1927 : Index := Scalar.indexCast v1926
  let c0_2036 : Index := 0#32
  ![v1927.toNat, 0]

def k0_chk51 (v1925 : BitVec 32) : Prop :=
  (∀ a, (k0_off49 v1925) a + S128x128.size a ≤ S4096x128.size a)
theorem k0_off49_inb : ∀ (v1925 : BitVec 32) (k0_hw51 : k0_chk51 v1925), ∀ a, (k0_off49 v1925) a + S128x128.size a ≤ S4096x128.size a := fun v1925 k0_hw51 => k0_hw51

def k0_off50 (v1933 : BitVec 32) : Fin 2 → Nat :=
  let c128_i32_2040 : BitVec 32 := 128#32
  let v1934 : BitVec 32 := Scalar.muli v1933 c128_i32_2040
  let v1935 : Index := Scalar.indexCast v1934
  let c0_2041 : Index := 0#32
  ![v1935.toNat, 0]

def k0_chk52 (v1933 : BitVec 32) : Prop :=
  (∀ a, (k0_off50 v1933) a + S128x128.size a ≤ S4096x128.size a)
theorem k0_off50_inb : ∀ (v1933 : BitVec 32) (k0_hw52 : k0_chk52 v1933), ∀ a, (k0_off50 v1933) a + S128x128.size a ≤ S4096x128.size a := fun v1933 k0_hw52 => k0_hw52

def k0_off51 (v1941 : BitVec 32) : Fin 2 → Nat :=
  let c128_i32_2046 : BitVec 32 := 128#32
  let v1942 : BitVec 32 := Scalar.muli v1941 c128_i32_2046
  let v1943 : Index := Scalar.indexCast v1942
  let c0_2047 : Index := 0#32
  ![v1943.toNat, 0]

def k0_chk53 (v1941 : BitVec 32) : Prop :=
  (∀ a, (k0_off51 v1941) a + S128x128.size a ≤ S4096x128.size a)
theorem k0_off51_inb : ∀ (v1941 : BitVec 32) (k0_hw53 : k0_chk53 v1941), ∀ a, (k0_off51 v1941) a + S128x128.size a ≤ S4096x128.size a := fun v1941 k0_hw53 => k0_hw53

def k0_off52 (v1949 : BitVec 32) : Fin 2 → Nat :=
  let c128_i32_2052 : BitVec 32 := 128#32
  let v1950 : BitVec 32 := Scalar.muli v1949 c128_i32_2052
  let v1951 : Index := Scalar.indexCast v1950
  let c0_2053 : Index := 0#32
  ![v1951.toNat, 0]

def k0_chk54 (v1949 : BitVec 32) : Prop :=
  (∀ a, (k0_off52 v1949) a + S128x128.size a ≤ S4096x128.size a)
theorem k0_off52_inb : ∀ (v1949 : BitVec 32) (k0_hw54 : k0_chk54 v1949), ∀ a, (k0_off52 v1949) a + S128x128.size a ≤ S4096x128.size a := fun v1949 k0_hw54 => k0_hw54

def k0_dev95 (v1 : BitVec 32) : Nat :=
  let c0_i32_2084 : BitVec 32 := 0#32
  let c1_i32_2083 : BitVec 32 := 1#32
  let v1979 : BitVec 32 := Scalar.muli v1 c1_i32_2083
  let v1980 : BitVec 32 := Scalar.addi c0_i32_2084 v1979
  v1980.toNat
def k0_dev96 (v0 : BitVec 32) : Nat :=
  let c0_i32_2092 : BitVec 32 := 0#32
  let c1_i32_2091 : BitVec 32 := 1#32
  let v1981 : BitVec 32 := Scalar.muli v0 c1_i32_2091
  let v1982 : BitVec 32 := Scalar.addi c0_i32_2092 v1981
  v1982.toNat
def k0_dev97 (v0 : BitVec 32) : Nat :=
  let c0_i32_2124 : BitVec 32 := 0#32
  let c1_i32_2123 : BitVec 32 := 1#32
  let v2013 : BitVec 32 := Scalar.muli v0 c1_i32_2123
  let v2014 : BitVec 32 := Scalar.addi c0_i32_2124 v2013
  v2014.toNat
def k0_dev98 (v1 : BitVec 32) : Nat :=
  let c0_i32_2132 : BitVec 32 := 0#32
  let c1_i32_2131 : BitVec 32 := 1#32
  let v2015 : BitVec 32 := Scalar.muli v1 c1_i32_2131
  let v2016 : BitVec 32 := Scalar.addi c0_i32_2132 v2015
  v2016.toNat
def k0_dev99 (v1 : BitVec 32) : Nat :=
  let c0_i32_2164 : BitVec 32 := 0#32
  let c1_i32_2163 : BitVec 32 := 1#32
  let v2047 : BitVec 32 := Scalar.muli v1 c1_i32_2163
  let v2048 : BitVec 32 := Scalar.addi c0_i32_2164 v2047
  v2048.toNat
def k0_dev100 (v0 : BitVec 32) : Nat :=
  let c0_i32_2172 : BitVec 32 := 0#32
  let c1_i32_2171 : BitVec 32 := 1#32
  let v2049 : BitVec 32 := Scalar.muli v0 c1_i32_2171
  let v2050 : BitVec 32 := Scalar.addi c0_i32_2172 v2049
  v2050.toNat
def k0_dev101 (v0 : BitVec 32) : Nat :=
  let c0_i32_2204 : BitVec 32 := 0#32
  let c1_i32_2203 : BitVec 32 := 1#32
  let v2081 : BitVec 32 := Scalar.muli v0 c1_i32_2203
  let v2082 : BitVec 32 := Scalar.addi c0_i32_2204 v2081
  v2082.toNat
def k0_dev102 (v1 : BitVec 32) : Nat :=
  let c0_i32_2212 : BitVec 32 := 0#32
  let c1_i32_2211 : BitVec 32 := 1#32
  let v2083 : BitVec 32 := Scalar.muli v1 c1_i32_2211
  let v2084 : BitVec 32 := Scalar.addi c0_i32_2212 v2083
  v2084.toNat
def k0_off53 (v2093 : BitVec 32) : Fin 2 → Nat :=
  let c128_i32_2217 : BitVec 32 := 128#32
  let v2094 : BitVec 32 := Scalar.muli v2093 c128_i32_2217
  let v2095 : Index := Scalar.indexCast v2094
  let c0_2218 : Index := 0#32
  ![v2095.toNat, 0]

def k0_chk55 (v2093 : BitVec 32) : Prop :=
  (∀ a, (k0_off53 v2093) a + S128x128.size a ≤ S4096x128.size a)
theorem k0_off53_inb : ∀ (v2093 : BitVec 32) (k0_hw55 : k0_chk55 v2093), ∀ a, (k0_off53 v2093) a + S128x128.size a ≤ S4096x128.size a := fun v2093 k0_hw55 => k0_hw55

def k0_off54 (v2101 : BitVec 32) : Fin 2 → Nat :=
  let c128_i32_2222 : BitVec 32 := 128#32
  let v2102 : BitVec 32 := Scalar.muli v2101 c128_i32_2222
  let v2103 : Index := Scalar.indexCast v2102
  let c0_2223 : Index := 0#32
  ![v2103.toNat, 0]

def k0_chk56 (v2101 : BitVec 32) : Prop :=
  (∀ a, (k0_off54 v2101) a + S128x128.size a ≤ S4096x128.size a)
theorem k0_off54_inb : ∀ (v2101 : BitVec 32) (k0_hw56 : k0_chk56 v2101), ∀ a, (k0_off54 v2101) a + S128x128.size a ≤ S4096x128.size a := fun v2101 k0_hw56 => k0_hw56

def k0_off55 (v2109 : BitVec 32) : Fin 2 → Nat :=
  let c128_i32_2228 : BitVec 32 := 128#32
  let v2110 : BitVec 32 := Scalar.muli v2109 c128_i32_2228
  let v2111 : Index := Scalar.indexCast v2110
  let c0_2229 : Index := 0#32
  ![v2111.toNat, 0]

def k0_chk57 (v2109 : BitVec 32) : Prop :=
  (∀ a, (k0_off55 v2109) a + S128x128.size a ≤ S4096x128.size a)
theorem k0_off55_inb : ∀ (v2109 : BitVec 32) (k0_hw57 : k0_chk57 v2109), ∀ a, (k0_off55 v2109) a + S128x128.size a ≤ S4096x128.size a := fun v2109 k0_hw57 => k0_hw57

def k0_off56 (v2117 : BitVec 32) : Fin 2 → Nat :=
  let c128_i32_2234 : BitVec 32 := 128#32
  let v2118 : BitVec 32 := Scalar.muli v2117 c128_i32_2234
  let v2119 : Index := Scalar.indexCast v2118
  let c0_2235 : Index := 0#32
  ![v2119.toNat, 0]

def k0_chk58 (v2117 : BitVec 32) : Prop :=
  (∀ a, (k0_off56 v2117) a + S128x128.size a ≤ S4096x128.size a)
theorem k0_off56_inb : ∀ (v2117 : BitVec 32) (k0_hw58 : k0_chk58 v2117), ∀ a, (k0_off56 v2117) a + S128x128.size a ≤ S4096x128.size a := fun v2117 k0_hw58 => k0_hw58

def k0_dev103 (v1 : BitVec 32) : Nat :=
  let c0_i32_2266 : BitVec 32 := 0#32
  let c1_i32_2265 : BitVec 32 := 1#32
  let v2147 : BitVec 32 := Scalar.muli v1 c1_i32_2265
  let v2148 : BitVec 32 := Scalar.addi c0_i32_2266 v2147
  v2148.toNat
def k0_dev104 (v0 : BitVec 32) : Nat :=
  let c0_i32_2274 : BitVec 32 := 0#32
  let c1_i32_2273 : BitVec 32 := 1#32
  let v2149 : BitVec 32 := Scalar.muli v0 c1_i32_2273
  let v2150 : BitVec 32 := Scalar.addi c0_i32_2274 v2149
  v2150.toNat
def k0_dev105 (v0 : BitVec 32) : Nat :=
  let c0_i32_2306 : BitVec 32 := 0#32
  let c1_i32_2305 : BitVec 32 := 1#32
  let v2181 : BitVec 32 := Scalar.muli v0 c1_i32_2305
  let v2182 : BitVec 32 := Scalar.addi c0_i32_2306 v2181
  v2182.toNat
def k0_dev106 (v1 : BitVec 32) : Nat :=
  let c0_i32_2314 : BitVec 32 := 0#32
  let c1_i32_2313 : BitVec 32 := 1#32
  let v2183 : BitVec 32 := Scalar.muli v1 c1_i32_2313
  let v2184 : BitVec 32 := Scalar.addi c0_i32_2314 v2183
  v2184.toNat
def k0_dev107 (v1 : BitVec 32) : Nat :=
  let c0_i32_2346 : BitVec 32 := 0#32
  let c1_i32_2345 : BitVec 32 := 1#32
  let v2215 : BitVec 32 := Scalar.muli v1 c1_i32_2345
  let v2216 : BitVec 32 := Scalar.addi c0_i32_2346 v2215
  v2216.toNat
def k0_dev108 (v0 : BitVec 32) : Nat :=
  let c0_i32_2354 : BitVec 32 := 0#32
  let c1_i32_2353 : BitVec 32 := 1#32
  let v2217 : BitVec 32 := Scalar.muli v0 c1_i32_2353
  let v2218 : BitVec 32 := Scalar.addi c0_i32_2354 v2217
  v2218.toNat
def k0_dev109 (v0 : BitVec 32) : Nat :=
  let c0_i32_2386 : BitVec 32 := 0#32
  let c1_i32_2385 : BitVec 32 := 1#32
  let v2249 : BitVec 32 := Scalar.muli v0 c1_i32_2385
  let v2250 : BitVec 32 := Scalar.addi c0_i32_2386 v2249
  v2250.toNat
def k0_dev110 (v1 : BitVec 32) : Nat :=
  let c0_i32_2394 : BitVec 32 := 0#32
  let c1_i32_2393 : BitVec 32 := 1#32
  let v2251 : BitVec 32 := Scalar.muli v1 c1_i32_2393
  let v2252 : BitVec 32 := Scalar.addi c0_i32_2394 v2251
  v2252.toNat
def k0_off57 (v2261 : BitVec 32) : Fin 2 → Nat :=
  let c128_i32_2399 : BitVec 32 := 128#32
  let v2262 : BitVec 32 := Scalar.muli v2261 c128_i32_2399
  let v2263 : Index := Scalar.indexCast v2262
  let c0_2400 : Index := 0#32
  ![v2263.toNat, 0]

def k0_chk59 (v2261 : BitVec 32) : Prop :=
  (∀ a, (k0_off57 v2261) a + S128x128.size a ≤ S4096x128.size a)
theorem k0_off57_inb : ∀ (v2261 : BitVec 32) (k0_hw59 : k0_chk59 v2261), ∀ a, (k0_off57 v2261) a + S128x128.size a ≤ S4096x128.size a := fun v2261 k0_hw59 => k0_hw59

def k0_off58 (v2269 : BitVec 32) : Fin 2 → Nat :=
  let c128_i32_2404 : BitVec 32 := 128#32
  let v2270 : BitVec 32 := Scalar.muli v2269 c128_i32_2404
  let v2271 : Index := Scalar.indexCast v2270
  let c0_2405 : Index := 0#32
  ![v2271.toNat, 0]

def k0_chk60 (v2269 : BitVec 32) : Prop :=
  (∀ a, (k0_off58 v2269) a + S128x128.size a ≤ S4096x128.size a)
theorem k0_off58_inb : ∀ (v2269 : BitVec 32) (k0_hw60 : k0_chk60 v2269), ∀ a, (k0_off58 v2269) a + S128x128.size a ≤ S4096x128.size a := fun v2269 k0_hw60 => k0_hw60

def k0_off59 (v2277 : BitVec 32) : Fin 2 → Nat :=
  let c128_i32_2410 : BitVec 32 := 128#32
  let v2278 : BitVec 32 := Scalar.muli v2277 c128_i32_2410
  let v2279 : Index := Scalar.indexCast v2278
  let c0_2411 : Index := 0#32
  ![v2279.toNat, 0]

def k0_chk61 (v2277 : BitVec 32) : Prop :=
  (∀ a, (k0_off59 v2277) a + S128x128.size a ≤ S4096x128.size a)
theorem k0_off59_inb : ∀ (v2277 : BitVec 32) (k0_hw61 : k0_chk61 v2277), ∀ a, (k0_off59 v2277) a + S128x128.size a ≤ S4096x128.size a := fun v2277 k0_hw61 => k0_hw61

def k0_off60 (v2285 : BitVec 32) : Fin 2 → Nat :=
  let c128_i32_2416 : BitVec 32 := 128#32
  let v2286 : BitVec 32 := Scalar.muli v2285 c128_i32_2416
  let v2287 : Index := Scalar.indexCast v2286
  let c0_2417 : Index := 0#32
  ![v2287.toNat, 0]

def k0_chk62 (v2285 : BitVec 32) : Prop :=
  (∀ a, (k0_off60 v2285) a + S128x128.size a ≤ S4096x128.size a)
theorem k0_off60_inb : ∀ (v2285 : BitVec 32) (k0_hw62 : k0_chk62 v2285), ∀ a, (k0_off60 v2285) a + S128x128.size a ≤ S4096x128.size a := fun v2285 k0_hw62 => k0_hw62

def k0_dev111 (v1 : BitVec 32) : Nat :=
  let c0_i32_2448 : BitVec 32 := 0#32
  let c1_i32_2447 : BitVec 32 := 1#32
  let v2315 : BitVec 32 := Scalar.muli v1 c1_i32_2447
  let v2316 : BitVec 32 := Scalar.addi c0_i32_2448 v2315
  v2316.toNat
def k0_dev112 (v0 : BitVec 32) : Nat :=
  let c0_i32_2456 : BitVec 32 := 0#32
  let c1_i32_2455 : BitVec 32 := 1#32
  let v2317 : BitVec 32 := Scalar.muli v0 c1_i32_2455
  let v2318 : BitVec 32 := Scalar.addi c0_i32_2456 v2317
  v2318.toNat
def k0_dev113 (v0 : BitVec 32) : Nat :=
  let c0_i32_2488 : BitVec 32 := 0#32
  let c1_i32_2487 : BitVec 32 := 1#32
  let v2349 : BitVec 32 := Scalar.muli v0 c1_i32_2487
  let v2350 : BitVec 32 := Scalar.addi c0_i32_2488 v2349
  v2350.toNat
def k0_dev114 (v1 : BitVec 32) : Nat :=
  let c0_i32_2496 : BitVec 32 := 0#32
  let c1_i32_2495 : BitVec 32 := 1#32
  let v2351 : BitVec 32 := Scalar.muli v1 c1_i32_2495
  let v2352 : BitVec 32 := Scalar.addi c0_i32_2496 v2351
  v2352.toNat
def k0_dev115 (v1 : BitVec 32) : Nat :=
  let c0_i32_2528 : BitVec 32 := 0#32
  let c1_i32_2527 : BitVec 32 := 1#32
  let v2383 : BitVec 32 := Scalar.muli v1 c1_i32_2527
  let v2384 : BitVec 32 := Scalar.addi c0_i32_2528 v2383
  v2384.toNat
def k0_dev116 (v0 : BitVec 32) : Nat :=
  let c0_i32_2536 : BitVec 32 := 0#32
  let c1_i32_2535 : BitVec 32 := 1#32
  let v2385 : BitVec 32 := Scalar.muli v0 c1_i32_2535
  let v2386 : BitVec 32 := Scalar.addi c0_i32_2536 v2385
  v2386.toNat
def k0_dev117 (v0 : BitVec 32) : Nat :=
  let c0_i32_2568 : BitVec 32 := 0#32
  let c1_i32_2567 : BitVec 32 := 1#32
  let v2417 : BitVec 32 := Scalar.muli v0 c1_i32_2567
  let v2418 : BitVec 32 := Scalar.addi c0_i32_2568 v2417
  v2418.toNat
def k0_dev118 (v1 : BitVec 32) : Nat :=
  let c0_i32_2576 : BitVec 32 := 0#32
  let c1_i32_2575 : BitVec 32 := 1#32
  let v2419 : BitVec 32 := Scalar.muli v1 c1_i32_2575
  let v2420 : BitVec 32 := Scalar.addi c0_i32_2576 v2419
  v2420.toNat
def k0_off61 (v2429 : BitVec 32) : Fin 2 → Nat :=
  let c128_i32_2581 : BitVec 32 := 128#32
  let v2430 : BitVec 32 := Scalar.muli v2429 c128_i32_2581
  let v2431 : Index := Scalar.indexCast v2430
  let c0_2582 : Index := 0#32
  ![v2431.toNat, 0]

def k0_chk63 (v2429 : BitVec 32) : Prop :=
  (∀ a, (k0_off61 v2429) a + S128x128.size a ≤ S4096x128.size a)
theorem k0_off61_inb : ∀ (v2429 : BitVec 32) (k0_hw63 : k0_chk63 v2429), ∀ a, (k0_off61 v2429) a + S128x128.size a ≤ S4096x128.size a := fun v2429 k0_hw63 => k0_hw63

def k0_off62 (v2437 : BitVec 32) : Fin 2 → Nat :=
  let c128_i32_2586 : BitVec 32 := 128#32
  let v2438 : BitVec 32 := Scalar.muli v2437 c128_i32_2586
  let v2439 : Index := Scalar.indexCast v2438
  let c0_2587 : Index := 0#32
  ![v2439.toNat, 0]

def k0_chk64 (v2437 : BitVec 32) : Prop :=
  (∀ a, (k0_off62 v2437) a + S128x128.size a ≤ S4096x128.size a)
theorem k0_off62_inb : ∀ (v2437 : BitVec 32) (k0_hw64 : k0_chk64 v2437), ∀ a, (k0_off62 v2437) a + S128x128.size a ≤ S4096x128.size a := fun v2437 k0_hw64 => k0_hw64

def k0_off63 (v2445 : BitVec 32) : Fin 2 → Nat :=
  let c128_i32_2592 : BitVec 32 := 128#32
  let v2446 : BitVec 32 := Scalar.muli v2445 c128_i32_2592
  let v2447 : Index := Scalar.indexCast v2446
  let c0_2593 : Index := 0#32
  ![v2447.toNat, 0]

def k0_chk65 (v2445 : BitVec 32) : Prop :=
  (∀ a, (k0_off63 v2445) a + S128x128.size a ≤ S4096x128.size a)
theorem k0_off63_inb : ∀ (v2445 : BitVec 32) (k0_hw65 : k0_chk65 v2445), ∀ a, (k0_off63 v2445) a + S128x128.size a ≤ S4096x128.size a := fun v2445 k0_hw65 => k0_hw65

def k0_off64 (v2453 : BitVec 32) : Fin 2 → Nat :=
  let c128_i32_2598 : BitVec 32 := 128#32
  let v2454 : BitVec 32 := Scalar.muli v2453 c128_i32_2598
  let v2455 : Index := Scalar.indexCast v2454
  let c0_2599 : Index := 0#32
  ![v2455.toNat, 0]

def k0_chk66 (v2453 : BitVec 32) : Prop :=
  (∀ a, (k0_off64 v2453) a + S128x128.size a ≤ S4096x128.size a)
theorem k0_off64_inb : ∀ (v2453 : BitVec 32) (k0_hw66 : k0_chk66 v2453), ∀ a, (k0_off64 v2453) a + S128x128.size a ≤ S4096x128.size a := fun v2453 k0_hw66 => k0_hw66

def k0_dev119 (v1 : BitVec 32) : Nat :=
  let c0_i32_2630 : BitVec 32 := 0#32
  let c1_i32_2629 : BitVec 32 := 1#32
  let v2483 : BitVec 32 := Scalar.muli v1 c1_i32_2629
  let v2484 : BitVec 32 := Scalar.addi c0_i32_2630 v2483
  v2484.toNat
def k0_dev120 (v0 : BitVec 32) : Nat :=
  let c0_i32_2638 : BitVec 32 := 0#32
  let c1_i32_2637 : BitVec 32 := 1#32
  let v2485 : BitVec 32 := Scalar.muli v0 c1_i32_2637
  let v2486 : BitVec 32 := Scalar.addi c0_i32_2638 v2485
  v2486.toNat
def k0_dev121 (v0 : BitVec 32) : Nat :=
  let c0_i32_2670 : BitVec 32 := 0#32
  let c1_i32_2669 : BitVec 32 := 1#32
  let v2517 : BitVec 32 := Scalar.muli v0 c1_i32_2669
  let v2518 : BitVec 32 := Scalar.addi c0_i32_2670 v2517
  v2518.toNat
def k0_dev122 (v1 : BitVec 32) : Nat :=
  let c0_i32_2678 : BitVec 32 := 0#32
  let c1_i32_2677 : BitVec 32 := 1#32
  let v2519 : BitVec 32 := Scalar.muli v1 c1_i32_2677
  let v2520 : BitVec 32 := Scalar.addi c0_i32_2678 v2519
  v2520.toNat
def k0_dev123 (v1 : BitVec 32) : Nat :=
  let c0_i32_2710 : BitVec 32 := 0#32
  let c1_i32_2709 : BitVec 32 := 1#32
  let v2551 : BitVec 32 := Scalar.muli v1 c1_i32_2709
  let v2552 : BitVec 32 := Scalar.addi c0_i32_2710 v2551
  v2552.toNat
def k0_dev124 (v0 : BitVec 32) : Nat :=
  let c0_i32_2718 : BitVec 32 := 0#32
  let c1_i32_2717 : BitVec 32 := 1#32
  let v2553 : BitVec 32 := Scalar.muli v0 c1_i32_2717
  let v2554 : BitVec 32 := Scalar.addi c0_i32_2718 v2553
  v2554.toNat
def k0_dev125 (v0 : BitVec 32) : Nat :=
  let c0_i32_2750 : BitVec 32 := 0#32
  let c1_i32_2749 : BitVec 32 := 1#32
  let v2585 : BitVec 32 := Scalar.muli v0 c1_i32_2749
  let v2586 : BitVec 32 := Scalar.addi c0_i32_2750 v2585
  v2586.toNat
def k0_dev126 (v1 : BitVec 32) : Nat :=
  let c0_i32_2758 : BitVec 32 := 0#32
  let c1_i32_2757 : BitVec 32 := 1#32
  let v2587 : BitVec 32 := Scalar.muli v1 c1_i32_2757
  let v2588 : BitVec 32 := Scalar.addi c0_i32_2758 v2587
  v2588.toNat
def k0_off65 (v2597 : BitVec 32) : Fin 2 → Nat :=
  let c128_i32_2763 : BitVec 32 := 128#32
  let v2598 : BitVec 32 := Scalar.muli v2597 c128_i32_2763
  let v2599 : Index := Scalar.indexCast v2598
  let c0_2764 : Index := 0#32
  ![v2599.toNat, 0]

def k0_chk67 (v2597 : BitVec 32) : Prop :=
  (∀ a, (k0_off65 v2597) a + S128x128.size a ≤ S4096x128.size a)
theorem k0_off65_inb : ∀ (v2597 : BitVec 32) (k0_hw67 : k0_chk67 v2597), ∀ a, (k0_off65 v2597) a + S128x128.size a ≤ S4096x128.size a := fun v2597 k0_hw67 => k0_hw67

def k0_off66 (v2605 : BitVec 32) : Fin 2 → Nat :=
  let c128_i32_2768 : BitVec 32 := 128#32
  let v2606 : BitVec 32 := Scalar.muli v2605 c128_i32_2768
  let v2607 : Index := Scalar.indexCast v2606
  let c0_2769 : Index := 0#32
  ![v2607.toNat, 0]

def k0_chk68 (v2605 : BitVec 32) : Prop :=
  (∀ a, (k0_off66 v2605) a + S128x128.size a ≤ S4096x128.size a)
theorem k0_off66_inb : ∀ (v2605 : BitVec 32) (k0_hw68 : k0_chk68 v2605), ∀ a, (k0_off66 v2605) a + S128x128.size a ≤ S4096x128.size a := fun v2605 k0_hw68 => k0_hw68

def k0_off67 (v2613 : BitVec 32) : Fin 2 → Nat :=
  let c128_i32_2774 : BitVec 32 := 128#32
  let v2614 : BitVec 32 := Scalar.muli v2613 c128_i32_2774
  let v2615 : Index := Scalar.indexCast v2614
  let c0_2775 : Index := 0#32
  ![v2615.toNat, 0]

def k0_chk69 (v2613 : BitVec 32) : Prop :=
  (∀ a, (k0_off67 v2613) a + S128x128.size a ≤ S4096x128.size a)
theorem k0_off67_inb : ∀ (v2613 : BitVec 32) (k0_hw69 : k0_chk69 v2613), ∀ a, (k0_off67 v2613) a + S128x128.size a ≤ S4096x128.size a := fun v2613 k0_hw69 => k0_hw69

def k0_off68 (v2621 : BitVec 32) : Fin 2 → Nat :=
  let c128_i32_2780 : BitVec 32 := 128#32
  let v2622 : BitVec 32 := Scalar.muli v2621 c128_i32_2780
  let v2623 : Index := Scalar.indexCast v2622
  let c0_2781 : Index := 0#32
  ![v2623.toNat, 0]

def k0_chk70 (v2621 : BitVec 32) : Prop :=
  (∀ a, (k0_off68 v2621) a + S128x128.size a ≤ S4096x128.size a)
theorem k0_off68_inb : ∀ (v2621 : BitVec 32) (k0_hw70 : k0_chk70 v2621), ∀ a, (k0_off68 v2621) a + S128x128.size a ≤ S4096x128.size a := fun v2621 k0_hw70 => k0_hw70

def k0_dev127 (v1 : BitVec 32) : Nat :=
  let c0_i32_2812 : BitVec 32 := 0#32
  let c1_i32_2811 : BitVec 32 := 1#32
  let v2651 : BitVec 32 := Scalar.muli v1 c1_i32_2811
  let v2652 : BitVec 32 := Scalar.addi c0_i32_2812 v2651
  v2652.toNat
def k0_dev128 (v0 : BitVec 32) : Nat :=
  let c0_i32_2820 : BitVec 32 := 0#32
  let c1_i32_2819 : BitVec 32 := 1#32
  let v2653 : BitVec 32 := Scalar.muli v0 c1_i32_2819
  let v2654 : BitVec 32 := Scalar.addi c0_i32_2820 v2653
  v2654.toNat
def k0_dev129 (v0 : BitVec 32) : Nat :=
  let c0_i32_2852 : BitVec 32 := 0#32
  let c1_i32_2851 : BitVec 32 := 1#32
  let v2685 : BitVec 32 := Scalar.muli v0 c1_i32_2851
  let v2686 : BitVec 32 := Scalar.addi c0_i32_2852 v2685
  v2686.toNat
def k0_dev130 (v1 : BitVec 32) : Nat :=
  let c0_i32_2860 : BitVec 32 := 0#32
  let c1_i32_2859 : BitVec 32 := 1#32
  let v2687 : BitVec 32 := Scalar.muli v1 c1_i32_2859
  let v2688 : BitVec 32 := Scalar.addi c0_i32_2860 v2687
  v2688.toNat
def k0_dev131 (v1 : BitVec 32) : Nat :=
  let c0_i32_2892 : BitVec 32 := 0#32
  let c1_i32_2891 : BitVec 32 := 1#32
  let v2719 : BitVec 32 := Scalar.muli v1 c1_i32_2891
  let v2720 : BitVec 32 := Scalar.addi c0_i32_2892 v2719
  v2720.toNat
def k0_dev132 (v0 : BitVec 32) : Nat :=
  let c0_i32_2900 : BitVec 32 := 0#32
  let c1_i32_2899 : BitVec 32 := 1#32
  let v2721 : BitVec 32 := Scalar.muli v0 c1_i32_2899
  let v2722 : BitVec 32 := Scalar.addi c0_i32_2900 v2721
  v2722.toNat
def k0_dev133 (v0 : BitVec 32) : Nat :=
  let c0_i32_2932 : BitVec 32 := 0#32
  let c1_i32_2931 : BitVec 32 := 1#32
  let v2753 : BitVec 32 := Scalar.muli v0 c1_i32_2931
  let v2754 : BitVec 32 := Scalar.addi c0_i32_2932 v2753
  v2754.toNat
def k0_dev134 (v1 : BitVec 32) : Nat :=
  let c0_i32_2940 : BitVec 32 := 0#32
  let c1_i32_2939 : BitVec 32 := 1#32
  let v2755 : BitVec 32 := Scalar.muli v1 c1_i32_2939
  let v2756 : BitVec 32 := Scalar.addi c0_i32_2940 v2755
  v2756.toNat
def k0_off69 (v2765 : BitVec 32) : Fin 2 → Nat :=
  let c128_i32_2945 : BitVec 32 := 128#32
  let v2766 : BitVec 32 := Scalar.muli v2765 c128_i32_2945
  let v2767 : Index := Scalar.indexCast v2766
  let c0_2946 : Index := 0#32
  ![v2767.toNat, 0]

def k0_chk71 (v2765 : BitVec 32) : Prop :=
  (∀ a, (k0_off69 v2765) a + S128x128.size a ≤ S4096x128.size a)
theorem k0_off69_inb : ∀ (v2765 : BitVec 32) (k0_hw71 : k0_chk71 v2765), ∀ a, (k0_off69 v2765) a + S128x128.size a ≤ S4096x128.size a := fun v2765 k0_hw71 => k0_hw71

def k0_off70 (v2773 : BitVec 32) : Fin 2 → Nat :=
  let c128_i32_2950 : BitVec 32 := 128#32
  let v2774 : BitVec 32 := Scalar.muli v2773 c128_i32_2950
  let v2775 : Index := Scalar.indexCast v2774
  let c0_2951 : Index := 0#32
  ![v2775.toNat, 0]

def k0_chk72 (v2773 : BitVec 32) : Prop :=
  (∀ a, (k0_off70 v2773) a + S128x128.size a ≤ S4096x128.size a)
theorem k0_off70_inb : ∀ (v2773 : BitVec 32) (k0_hw72 : k0_chk72 v2773), ∀ a, (k0_off70 v2773) a + S128x128.size a ≤ S4096x128.size a := fun v2773 k0_hw72 => k0_hw72

def k0_off71 (v2781 : BitVec 32) : Fin 2 → Nat :=
  let c128_i32_2956 : BitVec 32 := 128#32
  let v2782 : BitVec 32 := Scalar.muli v2781 c128_i32_2956
  let v2783 : Index := Scalar.indexCast v2782
  let c0_2957 : Index := 0#32
  ![v2783.toNat, 0]

def k0_chk73 (v2781 : BitVec 32) : Prop :=
  (∀ a, (k0_off71 v2781) a + S128x128.size a ≤ S4096x128.size a)
theorem k0_off71_inb : ∀ (v2781 : BitVec 32) (k0_hw73 : k0_chk73 v2781), ∀ a, (k0_off71 v2781) a + S128x128.size a ≤ S4096x128.size a := fun v2781 k0_hw73 => k0_hw73

def k0_off72 (v2789 : BitVec 32) : Fin 2 → Nat :=
  let c128_i32_2962 : BitVec 32 := 128#32
  let v2790 : BitVec 32 := Scalar.muli v2789 c128_i32_2962
  let v2791 : Index := Scalar.indexCast v2790
  let c0_2963 : Index := 0#32
  ![v2791.toNat, 0]

def k0_chk74 (v2789 : BitVec 32) : Prop :=
  (∀ a, (k0_off72 v2789) a + S128x128.size a ≤ S4096x128.size a)
theorem k0_off72_inb : ∀ (v2789 : BitVec 32) (k0_hw74 : k0_chk74 v2789), ∀ a, (k0_off72 v2789) a + S128x128.size a ≤ S4096x128.size a := fun v2789 k0_hw74 => k0_hw74

def k0_dev135 (v1 : BitVec 32) : Nat :=
  let c0_i32_2994 : BitVec 32 := 0#32
  let c1_i32_2993 : BitVec 32 := 1#32
  let v2819 : BitVec 32 := Scalar.muli v1 c1_i32_2993
  let v2820 : BitVec 32 := Scalar.addi c0_i32_2994 v2819
  v2820.toNat
def k0_dev136 (v0 : BitVec 32) : Nat :=
  let c0_i32_3002 : BitVec 32 := 0#32
  let c1_i32_3001 : BitVec 32 := 1#32
  let v2821 : BitVec 32 := Scalar.muli v0 c1_i32_3001
  let v2822 : BitVec 32 := Scalar.addi c0_i32_3002 v2821
  v2822.toNat
def k0_dev137 (v0 : BitVec 32) : Nat :=
  let c0_i32_3034 : BitVec 32 := 0#32
  let c1_i32_3033 : BitVec 32 := 1#32
  let v2853 : BitVec 32 := Scalar.muli v0 c1_i32_3033
  let v2854 : BitVec 32 := Scalar.addi c0_i32_3034 v2853
  v2854.toNat
def k0_dev138 (v1 : BitVec 32) : Nat :=
  let c0_i32_3042 : BitVec 32 := 0#32
  let c1_i32_3041 : BitVec 32 := 1#32
  let v2855 : BitVec 32 := Scalar.muli v1 c1_i32_3041
  let v2856 : BitVec 32 := Scalar.addi c0_i32_3042 v2855
  v2856.toNat
def k0_dev139 (v1 : BitVec 32) : Nat :=
  let c0_i32_3074 : BitVec 32 := 0#32
  let c1_i32_3073 : BitVec 32 := 1#32
  let v2887 : BitVec 32 := Scalar.muli v1 c1_i32_3073
  let v2888 : BitVec 32 := Scalar.addi c0_i32_3074 v2887
  v2888.toNat
def k0_dev140 (v0 : BitVec 32) : Nat :=
  let c0_i32_3082 : BitVec 32 := 0#32
  let c1_i32_3081 : BitVec 32 := 1#32
  let v2889 : BitVec 32 := Scalar.muli v0 c1_i32_3081
  let v2890 : BitVec 32 := Scalar.addi c0_i32_3082 v2889
  v2890.toNat
def k0_dev141 (v0 : BitVec 32) : Nat :=
  let c0_i32_3114 : BitVec 32 := 0#32
  let c1_i32_3113 : BitVec 32 := 1#32
  let v2921 : BitVec 32 := Scalar.muli v0 c1_i32_3113
  let v2922 : BitVec 32 := Scalar.addi c0_i32_3114 v2921
  v2922.toNat
def k0_dev142 (v1 : BitVec 32) : Nat :=
  let c0_i32_3122 : BitVec 32 := 0#32
  let c1_i32_3121 : BitVec 32 := 1#32
  let v2923 : BitVec 32 := Scalar.muli v1 c1_i32_3121
  let v2924 : BitVec 32 := Scalar.addi c0_i32_3122 v2923
  v2924.toNat
def k0_off73 (v2933 : BitVec 32) : Fin 2 → Nat :=
  let c128_i32_3127 : BitVec 32 := 128#32
  let v2934 : BitVec 32 := Scalar.muli v2933 c128_i32_3127
  let v2935 : Index := Scalar.indexCast v2934
  let c0_3128 : Index := 0#32
  ![v2935.toNat, 0]

def k0_chk75 (v2933 : BitVec 32) : Prop :=
  (∀ a, (k0_off73 v2933) a + S128x128.size a ≤ S4096x128.size a)
theorem k0_off73_inb : ∀ (v2933 : BitVec 32) (k0_hw75 : k0_chk75 v2933), ∀ a, (k0_off73 v2933) a + S128x128.size a ≤ S4096x128.size a := fun v2933 k0_hw75 => k0_hw75

def k0_off74 (v2941 : BitVec 32) : Fin 2 → Nat :=
  let c128_i32_3132 : BitVec 32 := 128#32
  let v2942 : BitVec 32 := Scalar.muli v2941 c128_i32_3132
  let v2943 : Index := Scalar.indexCast v2942
  let c0_3133 : Index := 0#32
  ![v2943.toNat, 0]

def k0_chk76 (v2941 : BitVec 32) : Prop :=
  (∀ a, (k0_off74 v2941) a + S128x128.size a ≤ S4096x128.size a)
theorem k0_off74_inb : ∀ (v2941 : BitVec 32) (k0_hw76 : k0_chk76 v2941), ∀ a, (k0_off74 v2941) a + S128x128.size a ≤ S4096x128.size a := fun v2941 k0_hw76 => k0_hw76

def k0_off75 (v2949 : BitVec 32) : Fin 2 → Nat :=
  let c128_i32_3138 : BitVec 32 := 128#32
  let v2950 : BitVec 32 := Scalar.muli v2949 c128_i32_3138
  let v2951 : Index := Scalar.indexCast v2950
  let c0_3139 : Index := 0#32
  ![v2951.toNat, 0]

def k0_chk77 (v2949 : BitVec 32) : Prop :=
  (∀ a, (k0_off75 v2949) a + S128x128.size a ≤ S4096x128.size a)
theorem k0_off75_inb : ∀ (v2949 : BitVec 32) (k0_hw77 : k0_chk77 v2949), ∀ a, (k0_off75 v2949) a + S128x128.size a ≤ S4096x128.size a := fun v2949 k0_hw77 => k0_hw77

def k0_off76 (v2957 : BitVec 32) : Fin 2 → Nat :=
  let c128_i32_3144 : BitVec 32 := 128#32
  let v2958 : BitVec 32 := Scalar.muli v2957 c128_i32_3144
  let v2959 : Index := Scalar.indexCast v2958
  let c0_3145 : Index := 0#32
  ![v2959.toNat, 0]

def k0_chk78 (v2957 : BitVec 32) : Prop :=
  (∀ a, (k0_off76 v2957) a + S128x128.size a ≤ S4096x128.size a)
theorem k0_off76_inb : ∀ (v2957 : BitVec 32) (k0_hw78 : k0_chk78 v2957), ∀ a, (k0_off76 v2957) a + S128x128.size a ≤ S4096x128.size a := fun v2957 k0_hw78 => k0_hw78

def k0_dev143 (v1 : BitVec 32) : Nat :=
  let c0_i32_3176 : BitVec 32 := 0#32
  let c1_i32_3175 : BitVec 32 := 1#32
  let v2987 : BitVec 32 := Scalar.muli v1 c1_i32_3175
  let v2988 : BitVec 32 := Scalar.addi c0_i32_3176 v2987
  v2988.toNat
def k0_dev144 (v0 : BitVec 32) : Nat :=
  let c0_i32_3184 : BitVec 32 := 0#32
  let c1_i32_3183 : BitVec 32 := 1#32
  let v2989 : BitVec 32 := Scalar.muli v0 c1_i32_3183
  let v2990 : BitVec 32 := Scalar.addi c0_i32_3184 v2989
  v2990.toNat
def k0_dev145 (v0 : BitVec 32) : Nat :=
  let c0_i32_3216 : BitVec 32 := 0#32
  let c1_i32_3215 : BitVec 32 := 1#32
  let v3021 : BitVec 32 := Scalar.muli v0 c1_i32_3215
  let v3022 : BitVec 32 := Scalar.addi c0_i32_3216 v3021
  v3022.toNat
def k0_dev146 (v1 : BitVec 32) : Nat :=
  let c0_i32_3224 : BitVec 32 := 0#32
  let c1_i32_3223 : BitVec 32 := 1#32
  let v3023 : BitVec 32 := Scalar.muli v1 c1_i32_3223
  let v3024 : BitVec 32 := Scalar.addi c0_i32_3224 v3023
  v3024.toNat
def k0_dev147 (v1 : BitVec 32) : Nat :=
  let c0_i32_3256 : BitVec 32 := 0#32
  let c1_i32_3255 : BitVec 32 := 1#32
  let v3055 : BitVec 32 := Scalar.muli v1 c1_i32_3255
  let v3056 : BitVec 32 := Scalar.addi c0_i32_3256 v3055
  v3056.toNat
def k0_dev148 (v0 : BitVec 32) : Nat :=
  let c0_i32_3264 : BitVec 32 := 0#32
  let c1_i32_3263 : BitVec 32 := 1#32
  let v3057 : BitVec 32 := Scalar.muli v0 c1_i32_3263
  let v3058 : BitVec 32 := Scalar.addi c0_i32_3264 v3057
  v3058.toNat
def k0_dev149 (v0 : BitVec 32) : Nat :=
  let c0_i32_3296 : BitVec 32 := 0#32
  let c1_i32_3295 : BitVec 32 := 1#32
  let v3089 : BitVec 32 := Scalar.muli v0 c1_i32_3295
  let v3090 : BitVec 32 := Scalar.addi c0_i32_3296 v3089
  v3090.toNat
def k0_dev150 (v1 : BitVec 32) : Nat :=
  let c0_i32_3304 : BitVec 32 := 0#32
  let c1_i32_3303 : BitVec 32 := 1#32
  let v3091 : BitVec 32 := Scalar.muli v1 c1_i32_3303
  let v3092 : BitVec 32 := Scalar.addi c0_i32_3304 v3091
  v3092.toNat
def k0_off77 (v3101 : BitVec 32) : Fin 2 → Nat :=
  let c128_i32_3309 : BitVec 32 := 128#32
  let v3102 : BitVec 32 := Scalar.muli v3101 c128_i32_3309
  let v3103 : Index := Scalar.indexCast v3102
  let c0_3310 : Index := 0#32
  ![v3103.toNat, 0]

def k0_chk79 (v3101 : BitVec 32) : Prop :=
  (∀ a, (k0_off77 v3101) a + S128x128.size a ≤ S4096x128.size a)
theorem k0_off77_inb : ∀ (v3101 : BitVec 32) (k0_hw79 : k0_chk79 v3101), ∀ a, (k0_off77 v3101) a + S128x128.size a ≤ S4096x128.size a := fun v3101 k0_hw79 => k0_hw79

def k0_off78 (v3109 : BitVec 32) : Fin 2 → Nat :=
  let c128_i32_3314 : BitVec 32 := 128#32
  let v3110 : BitVec 32 := Scalar.muli v3109 c128_i32_3314
  let v3111 : Index := Scalar.indexCast v3110
  let c0_3315 : Index := 0#32
  ![v3111.toNat, 0]

def k0_chk80 (v3109 : BitVec 32) : Prop :=
  (∀ a, (k0_off78 v3109) a + S128x128.size a ≤ S4096x128.size a)
theorem k0_off78_inb : ∀ (v3109 : BitVec 32) (k0_hw80 : k0_chk80 v3109), ∀ a, (k0_off78 v3109) a + S128x128.size a ≤ S4096x128.size a := fun v3109 k0_hw80 => k0_hw80

def k0_off79 (v3117 : BitVec 32) : Fin 2 → Nat :=
  let c128_i32_3320 : BitVec 32 := 128#32
  let v3118 : BitVec 32 := Scalar.muli v3117 c128_i32_3320
  let v3119 : Index := Scalar.indexCast v3118
  let c0_3321 : Index := 0#32
  ![v3119.toNat, 0]

def k0_chk81 (v3117 : BitVec 32) : Prop :=
  (∀ a, (k0_off79 v3117) a + S128x128.size a ≤ S4096x128.size a)
theorem k0_off79_inb : ∀ (v3117 : BitVec 32) (k0_hw81 : k0_chk81 v3117), ∀ a, (k0_off79 v3117) a + S128x128.size a ≤ S4096x128.size a := fun v3117 k0_hw81 => k0_hw81

def k0_off80 (v3125 : BitVec 32) : Fin 2 → Nat :=
  let c128_i32_3326 : BitVec 32 := 128#32
  let v3126 : BitVec 32 := Scalar.muli v3125 c128_i32_3326
  let v3127 : Index := Scalar.indexCast v3126
  let c0_3327 : Index := 0#32
  ![v3127.toNat, 0]

def k0_chk82 (v3125 : BitVec 32) : Prop :=
  (∀ a, (k0_off80 v3125) a + S128x128.size a ≤ S4096x128.size a)
theorem k0_off80_inb : ∀ (v3125 : BitVec 32) (k0_hw82 : k0_chk82 v3125), ∀ a, (k0_off80 v3125) a + S128x128.size a ≤ S4096x128.size a := fun v3125 k0_hw82 => k0_hw82

def k0_dev151 (v1 : BitVec 32) : Nat :=
  let c0_i32_3358 : BitVec 32 := 0#32
  let c1_i32_3357 : BitVec 32 := 1#32
  let v3155 : BitVec 32 := Scalar.muli v1 c1_i32_3357
  let v3156 : BitVec 32 := Scalar.addi c0_i32_3358 v3155
  v3156.toNat
def k0_dev152 (v0 : BitVec 32) : Nat :=
  let c0_i32_3366 : BitVec 32 := 0#32
  let c1_i32_3365 : BitVec 32 := 1#32
  let v3157 : BitVec 32 := Scalar.muli v0 c1_i32_3365
  let v3158 : BitVec 32 := Scalar.addi c0_i32_3366 v3157
  v3158.toNat
def k0_dev153 (v0 : BitVec 32) : Nat :=
  let c0_i32_3398 : BitVec 32 := 0#32
  let c1_i32_3397 : BitVec 32 := 1#32
  let v3189 : BitVec 32 := Scalar.muli v0 c1_i32_3397
  let v3190 : BitVec 32 := Scalar.addi c0_i32_3398 v3189
  v3190.toNat
def k0_dev154 (v1 : BitVec 32) : Nat :=
  let c0_i32_3406 : BitVec 32 := 0#32
  let c1_i32_3405 : BitVec 32 := 1#32
  let v3191 : BitVec 32 := Scalar.muli v1 c1_i32_3405
  let v3192 : BitVec 32 := Scalar.addi c0_i32_3406 v3191
  v3192.toNat
def k0_dev155 (v1 : BitVec 32) : Nat :=
  let c0_i32_3438 : BitVec 32 := 0#32
  let c1_i32_3437 : BitVec 32 := 1#32
  let v3223 : BitVec 32 := Scalar.muli v1 c1_i32_3437
  let v3224 : BitVec 32 := Scalar.addi c0_i32_3438 v3223
  v3224.toNat
def k0_dev156 (v0 : BitVec 32) : Nat :=
  let c0_i32_3446 : BitVec 32 := 0#32
  let c1_i32_3445 : BitVec 32 := 1#32
  let v3225 : BitVec 32 := Scalar.muli v0 c1_i32_3445
  let v3226 : BitVec 32 := Scalar.addi c0_i32_3446 v3225
  v3226.toNat
def k0_dev157 (v0 : BitVec 32) : Nat :=
  let c0_i32_3478 : BitVec 32 := 0#32
  let c1_i32_3477 : BitVec 32 := 1#32
  let v3257 : BitVec 32 := Scalar.muli v0 c1_i32_3477
  let v3258 : BitVec 32 := Scalar.addi c0_i32_3478 v3257
  v3258.toNat
def k0_dev158 (v1 : BitVec 32) : Nat :=
  let c0_i32_3486 : BitVec 32 := 0#32
  let c1_i32_3485 : BitVec 32 := 1#32
  let v3259 : BitVec 32 := Scalar.muli v1 c1_i32_3485
  let v3260 : BitVec 32 := Scalar.addi c0_i32_3486 v3259
  v3260.toNat
def k0_off81 (v3269 : BitVec 32) : Fin 2 → Nat :=
  let c128_i32_3491 : BitVec 32 := 128#32
  let v3270 : BitVec 32 := Scalar.muli v3269 c128_i32_3491
  let v3271 : Index := Scalar.indexCast v3270
  let c0_3492 : Index := 0#32
  ![v3271.toNat, 0]

def k0_chk83 (v3269 : BitVec 32) : Prop :=
  (∀ a, (k0_off81 v3269) a + S128x128.size a ≤ S4096x128.size a)
theorem k0_off81_inb : ∀ (v3269 : BitVec 32) (k0_hw83 : k0_chk83 v3269), ∀ a, (k0_off81 v3269) a + S128x128.size a ≤ S4096x128.size a := fun v3269 k0_hw83 => k0_hw83

def k0_off82 (v3277 : BitVec 32) : Fin 2 → Nat :=
  let c128_i32_3496 : BitVec 32 := 128#32
  let v3278 : BitVec 32 := Scalar.muli v3277 c128_i32_3496
  let v3279 : Index := Scalar.indexCast v3278
  let c0_3497 : Index := 0#32
  ![v3279.toNat, 0]

def k0_chk84 (v3277 : BitVec 32) : Prop :=
  (∀ a, (k0_off82 v3277) a + S128x128.size a ≤ S4096x128.size a)
theorem k0_off82_inb : ∀ (v3277 : BitVec 32) (k0_hw84 : k0_chk84 v3277), ∀ a, (k0_off82 v3277) a + S128x128.size a ≤ S4096x128.size a := fun v3277 k0_hw84 => k0_hw84

def k0_off83 (v3285 : BitVec 32) : Fin 2 → Nat :=
  let c128_i32_3502 : BitVec 32 := 128#32
  let v3286 : BitVec 32 := Scalar.muli v3285 c128_i32_3502
  let v3287 : Index := Scalar.indexCast v3286
  let c0_3503 : Index := 0#32
  ![v3287.toNat, 0]

def k0_chk85 (v3285 : BitVec 32) : Prop :=
  (∀ a, (k0_off83 v3285) a + S128x128.size a ≤ S4096x128.size a)
theorem k0_off83_inb : ∀ (v3285 : BitVec 32) (k0_hw85 : k0_chk85 v3285), ∀ a, (k0_off83 v3285) a + S128x128.size a ≤ S4096x128.size a := fun v3285 k0_hw85 => k0_hw85

def k0_off84 (v3293 : BitVec 32) : Fin 2 → Nat :=
  let c128_i32_3508 : BitVec 32 := 128#32
  let v3294 : BitVec 32 := Scalar.muli v3293 c128_i32_3508
  let v3295 : Index := Scalar.indexCast v3294
  let c0_3509 : Index := 0#32
  ![v3295.toNat, 0]

def k0_chk86 (v3293 : BitVec 32) : Prop :=
  (∀ a, (k0_off84 v3293) a + S128x128.size a ≤ S4096x128.size a)
theorem k0_off84_inb : ∀ (v3293 : BitVec 32) (k0_hw86 : k0_chk86 v3293), ∀ a, (k0_off84 v3293) a + S128x128.size a ≤ S4096x128.size a := fun v3293 k0_hw86 => k0_hw86

def k0_dev159 (v1 : BitVec 32) : Nat :=
  let c0_i32_3540 : BitVec 32 := 0#32
  let c1_i32_3539 : BitVec 32 := 1#32
  let v3323 : BitVec 32 := Scalar.muli v1 c1_i32_3539
  let v3324 : BitVec 32 := Scalar.addi c0_i32_3540 v3323
  v3324.toNat
def k0_dev160 (v0 : BitVec 32) : Nat :=
  let c0_i32_3548 : BitVec 32 := 0#32
  let c1_i32_3547 : BitVec 32 := 1#32
  let v3325 : BitVec 32 := Scalar.muli v0 c1_i32_3547
  let v3326 : BitVec 32 := Scalar.addi c0_i32_3548 v3325
  v3326.toNat
def k0_dev161 (v0 : BitVec 32) : Nat :=
  let c0_i32_3580 : BitVec 32 := 0#32
  let c1_i32_3579 : BitVec 32 := 1#32
  let v3357 : BitVec 32 := Scalar.muli v0 c1_i32_3579
  let v3358 : BitVec 32 := Scalar.addi c0_i32_3580 v3357
  v3358.toNat
def k0_dev162 (v1 : BitVec 32) : Nat :=
  let c0_i32_3588 : BitVec 32 := 0#32
  let c1_i32_3587 : BitVec 32 := 1#32
  let v3359 : BitVec 32 := Scalar.muli v1 c1_i32_3587
  let v3360 : BitVec 32 := Scalar.addi c0_i32_3588 v3359
  v3360.toNat
def k0_dev163 (v1 : BitVec 32) : Nat :=
  let c0_i32_3620 : BitVec 32 := 0#32
  let c1_i32_3619 : BitVec 32 := 1#32
  let v3391 : BitVec 32 := Scalar.muli v1 c1_i32_3619
  let v3392 : BitVec 32 := Scalar.addi c0_i32_3620 v3391
  v3392.toNat
def k0_dev164 (v0 : BitVec 32) : Nat :=
  let c0_i32_3628 : BitVec 32 := 0#32
  let c1_i32_3627 : BitVec 32 := 1#32
  let v3393 : BitVec 32 := Scalar.muli v0 c1_i32_3627
  let v3394 : BitVec 32 := Scalar.addi c0_i32_3628 v3393
  v3394.toNat
def k0_dev165 (v0 : BitVec 32) : Nat :=
  let c0_i32_3660 : BitVec 32 := 0#32
  let c1_i32_3659 : BitVec 32 := 1#32
  let v3425 : BitVec 32 := Scalar.muli v0 c1_i32_3659
  let v3426 : BitVec 32 := Scalar.addi c0_i32_3660 v3425
  v3426.toNat
def k0_dev166 (v1 : BitVec 32) : Nat :=
  let c0_i32_3668 : BitVec 32 := 0#32
  let c1_i32_3667 : BitVec 32 := 1#32
  let v3427 : BitVec 32 := Scalar.muli v1 c1_i32_3667
  let v3428 : BitVec 32 := Scalar.addi c0_i32_3668 v3427
  v3428.toNat
def k0_off85 (v3437 : BitVec 32) : Fin 2 → Nat :=
  let c128_i32_3673 : BitVec 32 := 128#32
  let v3438 : BitVec 32 := Scalar.muli v3437 c128_i32_3673
  let v3439 : Index := Scalar.indexCast v3438
  let c0_3674 : Index := 0#32
  ![v3439.toNat, 0]

def k0_chk87 (v3437 : BitVec 32) : Prop :=
  (∀ a, (k0_off85 v3437) a + S128x128.size a ≤ S4096x128.size a)
theorem k0_off85_inb : ∀ (v3437 : BitVec 32) (k0_hw87 : k0_chk87 v3437), ∀ a, (k0_off85 v3437) a + S128x128.size a ≤ S4096x128.size a := fun v3437 k0_hw87 => k0_hw87

def k0_off86 (v3445 : BitVec 32) : Fin 2 → Nat :=
  let c128_i32_3678 : BitVec 32 := 128#32
  let v3446 : BitVec 32 := Scalar.muli v3445 c128_i32_3678
  let v3447 : Index := Scalar.indexCast v3446
  let c0_3679 : Index := 0#32
  ![v3447.toNat, 0]

def k0_chk88 (v3445 : BitVec 32) : Prop :=
  (∀ a, (k0_off86 v3445) a + S128x128.size a ≤ S4096x128.size a)
theorem k0_off86_inb : ∀ (v3445 : BitVec 32) (k0_hw88 : k0_chk88 v3445), ∀ a, (k0_off86 v3445) a + S128x128.size a ≤ S4096x128.size a := fun v3445 k0_hw88 => k0_hw88

def k0_off87 (v3453 : BitVec 32) : Fin 2 → Nat :=
  let c128_i32_3684 : BitVec 32 := 128#32
  let v3454 : BitVec 32 := Scalar.muli v3453 c128_i32_3684
  let v3455 : Index := Scalar.indexCast v3454
  let c0_3685 : Index := 0#32
  ![v3455.toNat, 0]

def k0_chk89 (v3453 : BitVec 32) : Prop :=
  (∀ a, (k0_off87 v3453) a + S128x128.size a ≤ S4096x128.size a)
theorem k0_off87_inb : ∀ (v3453 : BitVec 32) (k0_hw89 : k0_chk89 v3453), ∀ a, (k0_off87 v3453) a + S128x128.size a ≤ S4096x128.size a := fun v3453 k0_hw89 => k0_hw89

def k0_off88 (v3461 : BitVec 32) : Fin 2 → Nat :=
  let c128_i32_3690 : BitVec 32 := 128#32
  let v3462 : BitVec 32 := Scalar.muli v3461 c128_i32_3690
  let v3463 : Index := Scalar.indexCast v3462
  let c0_3691 : Index := 0#32
  ![v3463.toNat, 0]

def k0_chk90 (v3461 : BitVec 32) : Prop :=
  (∀ a, (k0_off88 v3461) a + S128x128.size a ≤ S4096x128.size a)
theorem k0_off88_inb : ∀ (v3461 : BitVec 32) (k0_hw90 : k0_chk90 v3461), ∀ a, (k0_off88 v3461) a + S128x128.size a ≤ S4096x128.size a := fun v3461 k0_hw90 => k0_hw90

def k0_dev167 (v1 : BitVec 32) : Nat :=
  let c0_i32_3722 : BitVec 32 := 0#32
  let c1_i32_3721 : BitVec 32 := 1#32
  let v3491 : BitVec 32 := Scalar.muli v1 c1_i32_3721
  let v3492 : BitVec 32 := Scalar.addi c0_i32_3722 v3491
  v3492.toNat
def k0_dev168 (v0 : BitVec 32) : Nat :=
  let c0_i32_3730 : BitVec 32 := 0#32
  let c1_i32_3729 : BitVec 32 := 1#32
  let v3493 : BitVec 32 := Scalar.muli v0 c1_i32_3729
  let v3494 : BitVec 32 := Scalar.addi c0_i32_3730 v3493
  v3494.toNat
def k0_dev169 (v0 : BitVec 32) : Nat :=
  let c0_i32_3762 : BitVec 32 := 0#32
  let c1_i32_3761 : BitVec 32 := 1#32
  let v3525 : BitVec 32 := Scalar.muli v0 c1_i32_3761
  let v3526 : BitVec 32 := Scalar.addi c0_i32_3762 v3525
  v3526.toNat
def k0_dev170 (v1 : BitVec 32) : Nat :=
  let c0_i32_3770 : BitVec 32 := 0#32
  let c1_i32_3769 : BitVec 32 := 1#32
  let v3527 : BitVec 32 := Scalar.muli v1 c1_i32_3769
  let v3528 : BitVec 32 := Scalar.addi c0_i32_3770 v3527
  v3528.toNat
def k0_dev171 (v1 : BitVec 32) : Nat :=
  let c0_i32_3802 : BitVec 32 := 0#32
  let c1_i32_3801 : BitVec 32 := 1#32
  let v3559 : BitVec 32 := Scalar.muli v1 c1_i32_3801
  let v3560 : BitVec 32 := Scalar.addi c0_i32_3802 v3559
  v3560.toNat
def k0_dev172 (v0 : BitVec 32) : Nat :=
  let c0_i32_3810 : BitVec 32 := 0#32
  let c1_i32_3809 : BitVec 32 := 1#32
  let v3561 : BitVec 32 := Scalar.muli v0 c1_i32_3809
  let v3562 : BitVec 32 := Scalar.addi c0_i32_3810 v3561
  v3562.toNat
def k0_dev173 (v0 : BitVec 32) : Nat :=
  let c0_i32_3842 : BitVec 32 := 0#32
  let c1_i32_3841 : BitVec 32 := 1#32
  let v3593 : BitVec 32 := Scalar.muli v0 c1_i32_3841
  let v3594 : BitVec 32 := Scalar.addi c0_i32_3842 v3593
  v3594.toNat
def k0_dev174 (v1 : BitVec 32) : Nat :=
  let c0_i32_3850 : BitVec 32 := 0#32
  let c1_i32_3849 : BitVec 32 := 1#32
  let v3595 : BitVec 32 := Scalar.muli v1 c1_i32_3849
  let v3596 : BitVec 32 := Scalar.addi c0_i32_3850 v3595
  v3596.toNat
def k0_off89 (v3605 : BitVec 32) : Fin 2 → Nat :=
  let c128_i32_3855 : BitVec 32 := 128#32
  let v3606 : BitVec 32 := Scalar.muli v3605 c128_i32_3855
  let v3607 : Index := Scalar.indexCast v3606
  let c0_3856 : Index := 0#32
  ![v3607.toNat, 0]

def k0_chk91 (v3605 : BitVec 32) : Prop :=
  (∀ a, (k0_off89 v3605) a + S128x128.size a ≤ S4096x128.size a)
theorem k0_off89_inb : ∀ (v3605 : BitVec 32) (k0_hw91 : k0_chk91 v3605), ∀ a, (k0_off89 v3605) a + S128x128.size a ≤ S4096x128.size a := fun v3605 k0_hw91 => k0_hw91

def k0_off90 (v3613 : BitVec 32) : Fin 2 → Nat :=
  let c128_i32_3860 : BitVec 32 := 128#32
  let v3614 : BitVec 32 := Scalar.muli v3613 c128_i32_3860
  let v3615 : Index := Scalar.indexCast v3614
  let c0_3861 : Index := 0#32
  ![v3615.toNat, 0]

def k0_chk92 (v3613 : BitVec 32) : Prop :=
  (∀ a, (k0_off90 v3613) a + S128x128.size a ≤ S4096x128.size a)
theorem k0_off90_inb : ∀ (v3613 : BitVec 32) (k0_hw92 : k0_chk92 v3613), ∀ a, (k0_off90 v3613) a + S128x128.size a ≤ S4096x128.size a := fun v3613 k0_hw92 => k0_hw92

def k0_off91 (v3621 : BitVec 32) : Fin 2 → Nat :=
  let c128_i32_3866 : BitVec 32 := 128#32
  let v3622 : BitVec 32 := Scalar.muli v3621 c128_i32_3866
  let v3623 : Index := Scalar.indexCast v3622
  let c0_3867 : Index := 0#32
  ![v3623.toNat, 0]

def k0_chk93 (v3621 : BitVec 32) : Prop :=
  (∀ a, (k0_off91 v3621) a + S128x128.size a ≤ S4096x128.size a)
theorem k0_off91_inb : ∀ (v3621 : BitVec 32) (k0_hw93 : k0_chk93 v3621), ∀ a, (k0_off91 v3621) a + S128x128.size a ≤ S4096x128.size a := fun v3621 k0_hw93 => k0_hw93

def k0_off92 (v3629 : BitVec 32) : Fin 2 → Nat :=
  let c128_i32_3872 : BitVec 32 := 128#32
  let v3630 : BitVec 32 := Scalar.muli v3629 c128_i32_3872
  let v3631 : Index := Scalar.indexCast v3630
  let c0_3873 : Index := 0#32
  ![v3631.toNat, 0]

def k0_chk94 (v3629 : BitVec 32) : Prop :=
  (∀ a, (k0_off92 v3629) a + S128x128.size a ≤ S4096x128.size a)
theorem k0_off92_inb : ∀ (v3629 : BitVec 32) (k0_hw94 : k0_chk94 v3629), ∀ a, (k0_off92 v3629) a + S128x128.size a ≤ S4096x128.size a := fun v3629 k0_hw94 => k0_hw94

def k0_dev175 (v1 : BitVec 32) : Nat :=
  let c0_i32_3904 : BitVec 32 := 0#32
  let c1_i32_3903 : BitVec 32 := 1#32
  let v3659 : BitVec 32 := Scalar.muli v1 c1_i32_3903
  let v3660 : BitVec 32 := Scalar.addi c0_i32_3904 v3659
  v3660.toNat
def k0_dev176 (v0 : BitVec 32) : Nat :=
  let c0_i32_3912 : BitVec 32 := 0#32
  let c1_i32_3911 : BitVec 32 := 1#32
  let v3661 : BitVec 32 := Scalar.muli v0 c1_i32_3911
  let v3662 : BitVec 32 := Scalar.addi c0_i32_3912 v3661
  v3662.toNat
def k0_dev177 (v0 : BitVec 32) : Nat :=
  let c0_i32_3944 : BitVec 32 := 0#32
  let c1_i32_3943 : BitVec 32 := 1#32
  let v3693 : BitVec 32 := Scalar.muli v0 c1_i32_3943
  let v3694 : BitVec 32 := Scalar.addi c0_i32_3944 v3693
  v3694.toNat
def k0_dev178 (v1 : BitVec 32) : Nat :=
  let c0_i32_3952 : BitVec 32 := 0#32
  let c1_i32_3951 : BitVec 32 := 1#32
  let v3695 : BitVec 32 := Scalar.muli v1 c1_i32_3951
  let v3696 : BitVec 32 := Scalar.addi c0_i32_3952 v3695
  v3696.toNat
def k0_dev179 (v1 : BitVec 32) : Nat :=
  let c0_i32_3984 : BitVec 32 := 0#32
  let c1_i32_3983 : BitVec 32 := 1#32
  let v3727 : BitVec 32 := Scalar.muli v1 c1_i32_3983
  let v3728 : BitVec 32 := Scalar.addi c0_i32_3984 v3727
  v3728.toNat
def k0_dev180 (v0 : BitVec 32) : Nat :=
  let c0_i32_3992 : BitVec 32 := 0#32
  let c1_i32_3991 : BitVec 32 := 1#32
  let v3729 : BitVec 32 := Scalar.muli v0 c1_i32_3991
  let v3730 : BitVec 32 := Scalar.addi c0_i32_3992 v3729
  v3730.toNat
def k0_dev181 (v0 : BitVec 32) : Nat :=
  let c0_i32_4024 : BitVec 32 := 0#32
  let c1_i32_4023 : BitVec 32 := 1#32
  let v3761 : BitVec 32 := Scalar.muli v0 c1_i32_4023
  let v3762 : BitVec 32 := Scalar.addi c0_i32_4024 v3761
  v3762.toNat
def k0_dev182 (v1 : BitVec 32) : Nat :=
  let c0_i32_4032 : BitVec 32 := 0#32
  let c1_i32_4031 : BitVec 32 := 1#32
  let v3763 : BitVec 32 := Scalar.muli v1 c1_i32_4031
  let v3764 : BitVec 32 := Scalar.addi c0_i32_4032 v3763
  v3764.toNat
def k0_off93 (v3773 : BitVec 32) : Fin 2 → Nat :=
  let c128_i32_4037 : BitVec 32 := 128#32
  let v3774 : BitVec 32 := Scalar.muli v3773 c128_i32_4037
  let v3775 : Index := Scalar.indexCast v3774
  let c0_4038 : Index := 0#32
  ![v3775.toNat, 0]

def k0_chk95 (v3773 : BitVec 32) : Prop :=
  (∀ a, (k0_off93 v3773) a + S128x128.size a ≤ S4096x128.size a)
theorem k0_off93_inb : ∀ (v3773 : BitVec 32) (k0_hw95 : k0_chk95 v3773), ∀ a, (k0_off93 v3773) a + S128x128.size a ≤ S4096x128.size a := fun v3773 k0_hw95 => k0_hw95

def k0_off94 (v3781 : BitVec 32) : Fin 2 → Nat :=
  let c128_i32_4042 : BitVec 32 := 128#32
  let v3782 : BitVec 32 := Scalar.muli v3781 c128_i32_4042
  let v3783 : Index := Scalar.indexCast v3782
  let c0_4043 : Index := 0#32
  ![v3783.toNat, 0]

def k0_chk96 (v3781 : BitVec 32) : Prop :=
  (∀ a, (k0_off94 v3781) a + S128x128.size a ≤ S4096x128.size a)
theorem k0_off94_inb : ∀ (v3781 : BitVec 32) (k0_hw96 : k0_chk96 v3781), ∀ a, (k0_off94 v3781) a + S128x128.size a ≤ S4096x128.size a := fun v3781 k0_hw96 => k0_hw96

def k0_off95 (v3789 : BitVec 32) : Fin 2 → Nat :=
  let c128_i32_4048 : BitVec 32 := 128#32
  let v3790 : BitVec 32 := Scalar.muli v3789 c128_i32_4048
  let v3791 : Index := Scalar.indexCast v3790
  let c0_4049 : Index := 0#32
  ![v3791.toNat, 0]

def k0_chk97 (v3789 : BitVec 32) : Prop :=
  (∀ a, (k0_off95 v3789) a + S128x128.size a ≤ S4096x128.size a)
theorem k0_off95_inb : ∀ (v3789 : BitVec 32) (k0_hw97 : k0_chk97 v3789), ∀ a, (k0_off95 v3789) a + S128x128.size a ≤ S4096x128.size a := fun v3789 k0_hw97 => k0_hw97

def k0_off96 (v3797 : BitVec 32) : Fin 2 → Nat :=
  let c128_i32_4054 : BitVec 32 := 128#32
  let v3798 : BitVec 32 := Scalar.muli v3797 c128_i32_4054
  let v3799 : Index := Scalar.indexCast v3798
  let c0_4055 : Index := 0#32
  ![v3799.toNat, 0]

def k0_chk98 (v3797 : BitVec 32) : Prop :=
  (∀ a, (k0_off96 v3797) a + S128x128.size a ≤ S4096x128.size a)
theorem k0_off96_inb : ∀ (v3797 : BitVec 32) (k0_hw98 : k0_chk98 v3797), ∀ a, (k0_off96 v3797) a + S128x128.size a ≤ S4096x128.size a := fun v3797 k0_hw98 => k0_hw98

def k0_dev183 (v1 : BitVec 32) : Nat :=
  let c0_i32_4086 : BitVec 32 := 0#32
  let c1_i32_4085 : BitVec 32 := 1#32
  let v3827 : BitVec 32 := Scalar.muli v1 c1_i32_4085
  let v3828 : BitVec 32 := Scalar.addi c0_i32_4086 v3827
  v3828.toNat
def k0_dev184 (v0 : BitVec 32) : Nat :=
  let c0_i32_4094 : BitVec 32 := 0#32
  let c1_i32_4093 : BitVec 32 := 1#32
  let v3829 : BitVec 32 := Scalar.muli v0 c1_i32_4093
  let v3830 : BitVec 32 := Scalar.addi c0_i32_4094 v3829
  v3830.toNat
def k0_dev185 (v0 : BitVec 32) : Nat :=
  let c0_i32_4126 : BitVec 32 := 0#32
  let c1_i32_4125 : BitVec 32 := 1#32
  let v3861 : BitVec 32 := Scalar.muli v0 c1_i32_4125
  let v3862 : BitVec 32 := Scalar.addi c0_i32_4126 v3861
  v3862.toNat
def k0_dev186 (v1 : BitVec 32) : Nat :=
  let c0_i32_4134 : BitVec 32 := 0#32
  let c1_i32_4133 : BitVec 32 := 1#32
  let v3863 : BitVec 32 := Scalar.muli v1 c1_i32_4133
  let v3864 : BitVec 32 := Scalar.addi c0_i32_4134 v3863
  v3864.toNat
def k0_dev187 (v1 : BitVec 32) : Nat :=
  let c0_i32_4166 : BitVec 32 := 0#32
  let c1_i32_4165 : BitVec 32 := 1#32
  let v3895 : BitVec 32 := Scalar.muli v1 c1_i32_4165
  let v3896 : BitVec 32 := Scalar.addi c0_i32_4166 v3895
  v3896.toNat
def k0_dev188 (v0 : BitVec 32) : Nat :=
  let c0_i32_4174 : BitVec 32 := 0#32
  let c1_i32_4173 : BitVec 32 := 1#32
  let v3897 : BitVec 32 := Scalar.muli v0 c1_i32_4173
  let v3898 : BitVec 32 := Scalar.addi c0_i32_4174 v3897
  v3898.toNat
def k0_dev189 (v0 : BitVec 32) : Nat :=
  let c0_i32_4206 : BitVec 32 := 0#32
  let c1_i32_4205 : BitVec 32 := 1#32
  let v3929 : BitVec 32 := Scalar.muli v0 c1_i32_4205
  let v3930 : BitVec 32 := Scalar.addi c0_i32_4206 v3929
  v3930.toNat
def k0_dev190 (v1 : BitVec 32) : Nat :=
  let c0_i32_4214 : BitVec 32 := 0#32
  let c1_i32_4213 : BitVec 32 := 1#32
  let v3931 : BitVec 32 := Scalar.muli v1 c1_i32_4213
  let v3932 : BitVec 32 := Scalar.addi c0_i32_4214 v3931
  v3932.toNat
def k0_off97 (v3941 : BitVec 32) : Fin 2 → Nat :=
  let c128_i32_4219 : BitVec 32 := 128#32
  let v3942 : BitVec 32 := Scalar.muli v3941 c128_i32_4219
  let v3943 : Index := Scalar.indexCast v3942
  let c0_4220 : Index := 0#32
  ![v3943.toNat, 0]

def k0_chk99 (v3941 : BitVec 32) : Prop :=
  (∀ a, (k0_off97 v3941) a + S128x128.size a ≤ S4096x128.size a)
theorem k0_off97_inb : ∀ (v3941 : BitVec 32) (k0_hw99 : k0_chk99 v3941), ∀ a, (k0_off97 v3941) a + S128x128.size a ≤ S4096x128.size a := fun v3941 k0_hw99 => k0_hw99

def k0_off98 (v3949 : BitVec 32) : Fin 2 → Nat :=
  let c128_i32_4224 : BitVec 32 := 128#32
  let v3950 : BitVec 32 := Scalar.muli v3949 c128_i32_4224
  let v3951 : Index := Scalar.indexCast v3950
  let c0_4225 : Index := 0#32
  ![v3951.toNat, 0]

def k0_chk100 (v3949 : BitVec 32) : Prop :=
  (∀ a, (k0_off98 v3949) a + S128x128.size a ≤ S4096x128.size a)
theorem k0_off98_inb : ∀ (v3949 : BitVec 32) (k0_hw100 : k0_chk100 v3949), ∀ a, (k0_off98 v3949) a + S128x128.size a ≤ S4096x128.size a := fun v3949 k0_hw100 => k0_hw100

def k0_off99 (v3957 : BitVec 32) : Fin 2 → Nat :=
  let c128_i32_4230 : BitVec 32 := 128#32
  let v3958 : BitVec 32 := Scalar.muli v3957 c128_i32_4230
  let v3959 : Index := Scalar.indexCast v3958
  let c0_4231 : Index := 0#32
  ![v3959.toNat, 0]

def k0_chk101 (v3957 : BitVec 32) : Prop :=
  (∀ a, (k0_off99 v3957) a + S128x128.size a ≤ S4096x128.size a)
theorem k0_off99_inb : ∀ (v3957 : BitVec 32) (k0_hw101 : k0_chk101 v3957), ∀ a, (k0_off99 v3957) a + S128x128.size a ≤ S4096x128.size a := fun v3957 k0_hw101 => k0_hw101

def k0_off100 (v3965 : BitVec 32) : Fin 2 → Nat :=
  let c128_i32_4236 : BitVec 32 := 128#32
  let v3966 : BitVec 32 := Scalar.muli v3965 c128_i32_4236
  let v3967 : Index := Scalar.indexCast v3966
  let c0_4237 : Index := 0#32
  ![v3967.toNat, 0]

def k0_chk102 (v3965 : BitVec 32) : Prop :=
  (∀ a, (k0_off100 v3965) a + S128x128.size a ≤ S4096x128.size a)
theorem k0_off100_inb : ∀ (v3965 : BitVec 32) (k0_hw102 : k0_chk102 v3965), ∀ a, (k0_off100 v3965) a + S128x128.size a ≤ S4096x128.size a := fun v3965 k0_hw102 => k0_hw102

def k0_dev191 (v1 : BitVec 32) : Nat :=
  let c0_i32_4268 : BitVec 32 := 0#32
  let c1_i32_4267 : BitVec 32 := 1#32
  let v3995 : BitVec 32 := Scalar.muli v1 c1_i32_4267
  let v3996 : BitVec 32 := Scalar.addi c0_i32_4268 v3995
  v3996.toNat
def k0_dev192 (v0 : BitVec 32) : Nat :=
  let c0_i32_4276 : BitVec 32 := 0#32
  let c1_i32_4275 : BitVec 32 := 1#32
  let v3997 : BitVec 32 := Scalar.muli v0 c1_i32_4275
  let v3998 : BitVec 32 := Scalar.addi c0_i32_4276 v3997
  v3998.toNat
def k0_dev193 (v0 : BitVec 32) : Nat :=
  let c0_i32_4308 : BitVec 32 := 0#32
  let c1_i32_4307 : BitVec 32 := 1#32
  let v4029 : BitVec 32 := Scalar.muli v0 c1_i32_4307
  let v4030 : BitVec 32 := Scalar.addi c0_i32_4308 v4029
  v4030.toNat
def k0_dev194 (v1 : BitVec 32) : Nat :=
  let c0_i32_4316 : BitVec 32 := 0#32
  let c1_i32_4315 : BitVec 32 := 1#32
  let v4031 : BitVec 32 := Scalar.muli v1 c1_i32_4315
  let v4032 : BitVec 32 := Scalar.addi c0_i32_4316 v4031
  v4032.toNat
def k0_dev195 (v1 : BitVec 32) : Nat :=
  let c0_i32_4348 : BitVec 32 := 0#32
  let c1_i32_4347 : BitVec 32 := 1#32
  let v4063 : BitVec 32 := Scalar.muli v1 c1_i32_4347
  let v4064 : BitVec 32 := Scalar.addi c0_i32_4348 v4063
  v4064.toNat
def k0_dev196 (v0 : BitVec 32) : Nat :=
  let c0_i32_4356 : BitVec 32 := 0#32
  let c1_i32_4355 : BitVec 32 := 1#32
  let v4065 : BitVec 32 := Scalar.muli v0 c1_i32_4355
  let v4066 : BitVec 32 := Scalar.addi c0_i32_4356 v4065
  v4066.toNat
def k0_dev197 (v0 : BitVec 32) : Nat :=
  let c0_i32_4388 : BitVec 32 := 0#32
  let c1_i32_4387 : BitVec 32 := 1#32
  let v4097 : BitVec 32 := Scalar.muli v0 c1_i32_4387
  let v4098 : BitVec 32 := Scalar.addi c0_i32_4388 v4097
  v4098.toNat
def k0_dev198 (v1 : BitVec 32) : Nat :=
  let c0_i32_4396 : BitVec 32 := 0#32
  let c1_i32_4395 : BitVec 32 := 1#32
  let v4099 : BitVec 32 := Scalar.muli v1 c1_i32_4395
  let v4100 : BitVec 32 := Scalar.addi c0_i32_4396 v4099
  v4100.toNat
def k0_off101 (v4109 : BitVec 32) : Fin 2 → Nat :=
  let c128_i32_4401 : BitVec 32 := 128#32
  let v4110 : BitVec 32 := Scalar.muli v4109 c128_i32_4401
  let v4111 : Index := Scalar.indexCast v4110
  let c0_4402 : Index := 0#32
  ![v4111.toNat, 0]

def k0_chk103 (v4109 : BitVec 32) : Prop :=
  (∀ a, (k0_off101 v4109) a + S128x128.size a ≤ S4096x128.size a)
theorem k0_off101_inb : ∀ (v4109 : BitVec 32) (k0_hw103 : k0_chk103 v4109), ∀ a, (k0_off101 v4109) a + S128x128.size a ≤ S4096x128.size a := fun v4109 k0_hw103 => k0_hw103

def k0_off102 (v4117 : BitVec 32) : Fin 2 → Nat :=
  let c128_i32_4406 : BitVec 32 := 128#32
  let v4118 : BitVec 32 := Scalar.muli v4117 c128_i32_4406
  let v4119 : Index := Scalar.indexCast v4118
  let c0_4407 : Index := 0#32
  ![v4119.toNat, 0]

def k0_chk104 (v4117 : BitVec 32) : Prop :=
  (∀ a, (k0_off102 v4117) a + S128x128.size a ≤ S4096x128.size a)
theorem k0_off102_inb : ∀ (v4117 : BitVec 32) (k0_hw104 : k0_chk104 v4117), ∀ a, (k0_off102 v4117) a + S128x128.size a ≤ S4096x128.size a := fun v4117 k0_hw104 => k0_hw104

def k0_off103 (v4125 : BitVec 32) : Fin 2 → Nat :=
  let c128_i32_4412 : BitVec 32 := 128#32
  let v4126 : BitVec 32 := Scalar.muli v4125 c128_i32_4412
  let v4127 : Index := Scalar.indexCast v4126
  let c0_4413 : Index := 0#32
  ![v4127.toNat, 0]

def k0_chk105 (v4125 : BitVec 32) : Prop :=
  (∀ a, (k0_off103 v4125) a + S128x128.size a ≤ S4096x128.size a)
theorem k0_off103_inb : ∀ (v4125 : BitVec 32) (k0_hw105 : k0_chk105 v4125), ∀ a, (k0_off103 v4125) a + S128x128.size a ≤ S4096x128.size a := fun v4125 k0_hw105 => k0_hw105

def k0_off104 (v4133 : BitVec 32) : Fin 2 → Nat :=
  let c128_i32_4418 : BitVec 32 := 128#32
  let v4134 : BitVec 32 := Scalar.muli v4133 c128_i32_4418
  let v4135 : Index := Scalar.indexCast v4134
  let c0_4419 : Index := 0#32
  ![v4135.toNat, 0]

def k0_chk106 (v4133 : BitVec 32) : Prop :=
  (∀ a, (k0_off104 v4133) a + S128x128.size a ≤ S4096x128.size a)
theorem k0_off104_inb : ∀ (v4133 : BitVec 32) (k0_hw106 : k0_chk106 v4133), ∀ a, (k0_off104 v4133) a + S128x128.size a ≤ S4096x128.size a := fun v4133 k0_hw106 => k0_hw106

def k0_dev199 (v1 : BitVec 32) : Nat :=
  let c0_i32_4450 : BitVec 32 := 0#32
  let c1_i32_4449 : BitVec 32 := 1#32
  let v4163 : BitVec 32 := Scalar.muli v1 c1_i32_4449
  let v4164 : BitVec 32 := Scalar.addi c0_i32_4450 v4163
  v4164.toNat
def k0_dev200 (v0 : BitVec 32) : Nat :=
  let c0_i32_4458 : BitVec 32 := 0#32
  let c1_i32_4457 : BitVec 32 := 1#32
  let v4165 : BitVec 32 := Scalar.muli v0 c1_i32_4457
  let v4166 : BitVec 32 := Scalar.addi c0_i32_4458 v4165
  v4166.toNat
def k0_dev201 (v0 : BitVec 32) : Nat :=
  let c0_i32_4490 : BitVec 32 := 0#32
  let c1_i32_4489 : BitVec 32 := 1#32
  let v4197 : BitVec 32 := Scalar.muli v0 c1_i32_4489
  let v4198 : BitVec 32 := Scalar.addi c0_i32_4490 v4197
  v4198.toNat
def k0_dev202 (v1 : BitVec 32) : Nat :=
  let c0_i32_4498 : BitVec 32 := 0#32
  let c1_i32_4497 : BitVec 32 := 1#32
  let v4199 : BitVec 32 := Scalar.muli v1 c1_i32_4497
  let v4200 : BitVec 32 := Scalar.addi c0_i32_4498 v4199
  v4200.toNat
def k0_dev203 (v1 : BitVec 32) : Nat :=
  let c0_i32_4530 : BitVec 32 := 0#32
  let c1_i32_4529 : BitVec 32 := 1#32
  let v4231 : BitVec 32 := Scalar.muli v1 c1_i32_4529
  let v4232 : BitVec 32 := Scalar.addi c0_i32_4530 v4231
  v4232.toNat
def k0_dev204 (v0 : BitVec 32) : Nat :=
  let c0_i32_4538 : BitVec 32 := 0#32
  let c1_i32_4537 : BitVec 32 := 1#32
  let v4233 : BitVec 32 := Scalar.muli v0 c1_i32_4537
  let v4234 : BitVec 32 := Scalar.addi c0_i32_4538 v4233
  v4234.toNat
def k0_dev205 (v0 : BitVec 32) : Nat :=
  let c0_i32_4570 : BitVec 32 := 0#32
  let c1_i32_4569 : BitVec 32 := 1#32
  let v4265 : BitVec 32 := Scalar.muli v0 c1_i32_4569
  let v4266 : BitVec 32 := Scalar.addi c0_i32_4570 v4265
  v4266.toNat
def k0_dev206 (v1 : BitVec 32) : Nat :=
  let c0_i32_4578 : BitVec 32 := 0#32
  let c1_i32_4577 : BitVec 32 := 1#32
  let v4267 : BitVec 32 := Scalar.muli v1 c1_i32_4577
  let v4268 : BitVec 32 := Scalar.addi c0_i32_4578 v4267
  v4268.toNat
def k0_off105 (v4277 : BitVec 32) : Fin 2 → Nat :=
  let c128_i32_4583 : BitVec 32 := 128#32
  let v4278 : BitVec 32 := Scalar.muli v4277 c128_i32_4583
  let v4279 : Index := Scalar.indexCast v4278
  let c0_4584 : Index := 0#32
  ![v4279.toNat, 0]

def k0_chk107 (v4277 : BitVec 32) : Prop :=
  (∀ a, (k0_off105 v4277) a + S128x128.size a ≤ S4096x128.size a)
theorem k0_off105_inb : ∀ (v4277 : BitVec 32) (k0_hw107 : k0_chk107 v4277), ∀ a, (k0_off105 v4277) a + S128x128.size a ≤ S4096x128.size a := fun v4277 k0_hw107 => k0_hw107

def k0_off106 (v4285 : BitVec 32) : Fin 2 → Nat :=
  let c128_i32_4588 : BitVec 32 := 128#32
  let v4286 : BitVec 32 := Scalar.muli v4285 c128_i32_4588
  let v4287 : Index := Scalar.indexCast v4286
  let c0_4589 : Index := 0#32
  ![v4287.toNat, 0]

def k0_chk108 (v4285 : BitVec 32) : Prop :=
  (∀ a, (k0_off106 v4285) a + S128x128.size a ≤ S4096x128.size a)
theorem k0_off106_inb : ∀ (v4285 : BitVec 32) (k0_hw108 : k0_chk108 v4285), ∀ a, (k0_off106 v4285) a + S128x128.size a ≤ S4096x128.size a := fun v4285 k0_hw108 => k0_hw108

def k0_off107 (v4293 : BitVec 32) : Fin 2 → Nat :=
  let c128_i32_4594 : BitVec 32 := 128#32
  let v4294 : BitVec 32 := Scalar.muli v4293 c128_i32_4594
  let v4295 : Index := Scalar.indexCast v4294
  let c0_4595 : Index := 0#32
  ![v4295.toNat, 0]

def k0_chk109 (v4293 : BitVec 32) : Prop :=
  (∀ a, (k0_off107 v4293) a + S128x128.size a ≤ S4096x128.size a)
theorem k0_off107_inb : ∀ (v4293 : BitVec 32) (k0_hw109 : k0_chk109 v4293), ∀ a, (k0_off107 v4293) a + S128x128.size a ≤ S4096x128.size a := fun v4293 k0_hw109 => k0_hw109

def k0_off108 (v4301 : BitVec 32) : Fin 2 → Nat :=
  let c128_i32_4600 : BitVec 32 := 128#32
  let v4302 : BitVec 32 := Scalar.muli v4301 c128_i32_4600
  let v4303 : Index := Scalar.indexCast v4302
  let c0_4601 : Index := 0#32
  ![v4303.toNat, 0]

def k0_chk110 (v4301 : BitVec 32) : Prop :=
  (∀ a, (k0_off108 v4301) a + S128x128.size a ≤ S4096x128.size a)
theorem k0_off108_inb : ∀ (v4301 : BitVec 32) (k0_hw110 : k0_chk110 v4301), ∀ a, (k0_off108 v4301) a + S128x128.size a ≤ S4096x128.size a := fun v4301 k0_hw110 => k0_hw110

def k0_dev207 (v1 : BitVec 32) : Nat :=
  let c0_i32_4632 : BitVec 32 := 0#32
  let c1_i32_4631 : BitVec 32 := 1#32
  let v4331 : BitVec 32 := Scalar.muli v1 c1_i32_4631
  let v4332 : BitVec 32 := Scalar.addi c0_i32_4632 v4331
  v4332.toNat
def k0_dev208 (v0 : BitVec 32) : Nat :=
  let c0_i32_4640 : BitVec 32 := 0#32
  let c1_i32_4639 : BitVec 32 := 1#32
  let v4333 : BitVec 32 := Scalar.muli v0 c1_i32_4639
  let v4334 : BitVec 32 := Scalar.addi c0_i32_4640 v4333
  v4334.toNat
def k0_dev209 (v0 : BitVec 32) : Nat :=
  let c0_i32_4672 : BitVec 32 := 0#32
  let c1_i32_4671 : BitVec 32 := 1#32
  let v4365 : BitVec 32 := Scalar.muli v0 c1_i32_4671
  let v4366 : BitVec 32 := Scalar.addi c0_i32_4672 v4365
  v4366.toNat
def k0_dev210 (v1 : BitVec 32) : Nat :=
  let c0_i32_4680 : BitVec 32 := 0#32
  let c1_i32_4679 : BitVec 32 := 1#32
  let v4367 : BitVec 32 := Scalar.muli v1 c1_i32_4679
  let v4368 : BitVec 32 := Scalar.addi c0_i32_4680 v4367
  v4368.toNat
def k0_dev211 (v1 : BitVec 32) : Nat :=
  let c0_i32_4712 : BitVec 32 := 0#32
  let c1_i32_4711 : BitVec 32 := 1#32
  let v4399 : BitVec 32 := Scalar.muli v1 c1_i32_4711
  let v4400 : BitVec 32 := Scalar.addi c0_i32_4712 v4399
  v4400.toNat
def k0_dev212 (v0 : BitVec 32) : Nat :=
  let c0_i32_4720 : BitVec 32 := 0#32
  let c1_i32_4719 : BitVec 32 := 1#32
  let v4401 : BitVec 32 := Scalar.muli v0 c1_i32_4719
  let v4402 : BitVec 32 := Scalar.addi c0_i32_4720 v4401
  v4402.toNat
def k0_dev213 (v0 : BitVec 32) : Nat :=
  let c0_i32_4752 : BitVec 32 := 0#32
  let c1_i32_4751 : BitVec 32 := 1#32
  let v4433 : BitVec 32 := Scalar.muli v0 c1_i32_4751
  let v4434 : BitVec 32 := Scalar.addi c0_i32_4752 v4433
  v4434.toNat
def k0_dev214 (v1 : BitVec 32) : Nat :=
  let c0_i32_4760 : BitVec 32 := 0#32
  let c1_i32_4759 : BitVec 32 := 1#32
  let v4435 : BitVec 32 := Scalar.muli v1 c1_i32_4759
  let v4436 : BitVec 32 := Scalar.addi c0_i32_4760 v4435
  v4436.toNat
def k0_off109 (v4445 : BitVec 32) : Fin 2 → Nat :=
  let c128_i32_4765 : BitVec 32 := 128#32
  let v4446 : BitVec 32 := Scalar.muli v4445 c128_i32_4765
  let v4447 : Index := Scalar.indexCast v4446
  let c0_4766 : Index := 0#32
  ![v4447.toNat, 0]

def k0_chk111 (v4445 : BitVec 32) : Prop :=
  (∀ a, (k0_off109 v4445) a + S128x128.size a ≤ S4096x128.size a)
theorem k0_off109_inb : ∀ (v4445 : BitVec 32) (k0_hw111 : k0_chk111 v4445), ∀ a, (k0_off109 v4445) a + S128x128.size a ≤ S4096x128.size a := fun v4445 k0_hw111 => k0_hw111

def k0_off110 (v4453 : BitVec 32) : Fin 2 → Nat :=
  let c128_i32_4770 : BitVec 32 := 128#32
  let v4454 : BitVec 32 := Scalar.muli v4453 c128_i32_4770
  let v4455 : Index := Scalar.indexCast v4454
  let c0_4771 : Index := 0#32
  ![v4455.toNat, 0]

def k0_chk112 (v4453 : BitVec 32) : Prop :=
  (∀ a, (k0_off110 v4453) a + S128x128.size a ≤ S4096x128.size a)
theorem k0_off110_inb : ∀ (v4453 : BitVec 32) (k0_hw112 : k0_chk112 v4453), ∀ a, (k0_off110 v4453) a + S128x128.size a ≤ S4096x128.size a := fun v4453 k0_hw112 => k0_hw112

def k0_off111 (v4461 : BitVec 32) : Fin 2 → Nat :=
  let c128_i32_4776 : BitVec 32 := 128#32
  let v4462 : BitVec 32 := Scalar.muli v4461 c128_i32_4776
  let v4463 : Index := Scalar.indexCast v4462
  let c0_4777 : Index := 0#32
  ![v4463.toNat, 0]

def k0_chk113 (v4461 : BitVec 32) : Prop :=
  (∀ a, (k0_off111 v4461) a + S128x128.size a ≤ S4096x128.size a)
theorem k0_off111_inb : ∀ (v4461 : BitVec 32) (k0_hw113 : k0_chk113 v4461), ∀ a, (k0_off111 v4461) a + S128x128.size a ≤ S4096x128.size a := fun v4461 k0_hw113 => k0_hw113

def k0_off112 (v4469 : BitVec 32) : Fin 2 → Nat :=
  let c128_i32_4782 : BitVec 32 := 128#32
  let v4470 : BitVec 32 := Scalar.muli v4469 c128_i32_4782
  let v4471 : Index := Scalar.indexCast v4470
  let c0_4783 : Index := 0#32
  ![v4471.toNat, 0]

def k0_chk114 (v4469 : BitVec 32) : Prop :=
  (∀ a, (k0_off112 v4469) a + S128x128.size a ≤ S4096x128.size a)
theorem k0_off112_inb : ∀ (v4469 : BitVec 32) (k0_hw114 : k0_chk114 v4469), ∀ a, (k0_off112 v4469) a + S128x128.size a ≤ S4096x128.size a := fun v4469 k0_hw114 => k0_hw114

def k0_dev215 (v1 : BitVec 32) : Nat :=
  let c0_i32_4814 : BitVec 32 := 0#32
  let c1_i32_4813 : BitVec 32 := 1#32
  let v4499 : BitVec 32 := Scalar.muli v1 c1_i32_4813
  let v4500 : BitVec 32 := Scalar.addi c0_i32_4814 v4499
  v4500.toNat
def k0_dev216 (v0 : BitVec 32) : Nat :=
  let c0_i32_4822 : BitVec 32 := 0#32
  let c1_i32_4821 : BitVec 32 := 1#32
  let v4501 : BitVec 32 := Scalar.muli v0 c1_i32_4821
  let v4502 : BitVec 32 := Scalar.addi c0_i32_4822 v4501
  v4502.toNat
def k0_dev217 (v0 : BitVec 32) : Nat :=
  let c0_i32_4854 : BitVec 32 := 0#32
  let c1_i32_4853 : BitVec 32 := 1#32
  let v4533 : BitVec 32 := Scalar.muli v0 c1_i32_4853
  let v4534 : BitVec 32 := Scalar.addi c0_i32_4854 v4533
  v4534.toNat
def k0_dev218 (v1 : BitVec 32) : Nat :=
  let c0_i32_4862 : BitVec 32 := 0#32
  let c1_i32_4861 : BitVec 32 := 1#32
  let v4535 : BitVec 32 := Scalar.muli v1 c1_i32_4861
  let v4536 : BitVec 32 := Scalar.addi c0_i32_4862 v4535
  v4536.toNat
def k0_dev219 (v1 : BitVec 32) : Nat :=
  let c0_i32_4894 : BitVec 32 := 0#32
  let c1_i32_4893 : BitVec 32 := 1#32
  let v4567 : BitVec 32 := Scalar.muli v1 c1_i32_4893
  let v4568 : BitVec 32 := Scalar.addi c0_i32_4894 v4567
  v4568.toNat
def k0_dev220 (v0 : BitVec 32) : Nat :=
  let c0_i32_4902 : BitVec 32 := 0#32
  let c1_i32_4901 : BitVec 32 := 1#32
  let v4569 : BitVec 32 := Scalar.muli v0 c1_i32_4901
  let v4570 : BitVec 32 := Scalar.addi c0_i32_4902 v4569
  v4570.toNat
def k0_dev221 (v0 : BitVec 32) : Nat :=
  let c0_i32_4934 : BitVec 32 := 0#32
  let c1_i32_4933 : BitVec 32 := 1#32
  let v4601 : BitVec 32 := Scalar.muli v0 c1_i32_4933
  let v4602 : BitVec 32 := Scalar.addi c0_i32_4934 v4601
  v4602.toNat
def k0_dev222 (v1 : BitVec 32) : Nat :=
  let c0_i32_4942 : BitVec 32 := 0#32
  let c1_i32_4941 : BitVec 32 := 1#32
  let v4603 : BitVec 32 := Scalar.muli v1 c1_i32_4941
  let v4604 : BitVec 32 := Scalar.addi c0_i32_4942 v4603
  v4604.toNat
def k0_off113 (v4613 : BitVec 32) : Fin 2 → Nat :=
  let c128_i32_4947 : BitVec 32 := 128#32
  let v4614 : BitVec 32 := Scalar.muli v4613 c128_i32_4947
  let v4615 : Index := Scalar.indexCast v4614
  let c0_4948 : Index := 0#32
  ![v4615.toNat, 0]

def k0_chk115 (v4613 : BitVec 32) : Prop :=
  (∀ a, (k0_off113 v4613) a + S128x128.size a ≤ S4096x128.size a)
theorem k0_off113_inb : ∀ (v4613 : BitVec 32) (k0_hw115 : k0_chk115 v4613), ∀ a, (k0_off113 v4613) a + S128x128.size a ≤ S4096x128.size a := fun v4613 k0_hw115 => k0_hw115

def k0_off114 (v4621 : BitVec 32) : Fin 2 → Nat :=
  let c128_i32_4952 : BitVec 32 := 128#32
  let v4622 : BitVec 32 := Scalar.muli v4621 c128_i32_4952
  let v4623 : Index := Scalar.indexCast v4622
  let c0_4953 : Index := 0#32
  ![v4623.toNat, 0]

def k0_chk116 (v4621 : BitVec 32) : Prop :=
  (∀ a, (k0_off114 v4621) a + S128x128.size a ≤ S4096x128.size a)
theorem k0_off114_inb : ∀ (v4621 : BitVec 32) (k0_hw116 : k0_chk116 v4621), ∀ a, (k0_off114 v4621) a + S128x128.size a ≤ S4096x128.size a := fun v4621 k0_hw116 => k0_hw116

def k0_off115 (v4629 : BitVec 32) : Fin 2 → Nat :=
  let c128_i32_4958 : BitVec 32 := 128#32
  let v4630 : BitVec 32 := Scalar.muli v4629 c128_i32_4958
  let v4631 : Index := Scalar.indexCast v4630
  let c0_4959 : Index := 0#32
  ![v4631.toNat, 0]

def k0_chk117 (v4629 : BitVec 32) : Prop :=
  (∀ a, (k0_off115 v4629) a + S128x128.size a ≤ S4096x128.size a)
theorem k0_off115_inb : ∀ (v4629 : BitVec 32) (k0_hw117 : k0_chk117 v4629), ∀ a, (k0_off115 v4629) a + S128x128.size a ≤ S4096x128.size a := fun v4629 k0_hw117 => k0_hw117

def k0_off116 (v4637 : BitVec 32) : Fin 2 → Nat :=
  let c128_i32_4964 : BitVec 32 := 128#32
  let v4638 : BitVec 32 := Scalar.muli v4637 c128_i32_4964
  let v4639 : Index := Scalar.indexCast v4638
  let c0_4965 : Index := 0#32
  ![v4639.toNat, 0]

def k0_chk118 (v4637 : BitVec 32) : Prop :=
  (∀ a, (k0_off116 v4637) a + S128x128.size a ≤ S4096x128.size a)
theorem k0_off116_inb : ∀ (v4637 : BitVec 32) (k0_hw118 : k0_chk118 v4637), ∀ a, (k0_off116 v4637) a + S128x128.size a ≤ S4096x128.size a := fun v4637 k0_hw118 => k0_hw118

def k0_dev223 (v1 : BitVec 32) : Nat :=
  let c0_i32_4996 : BitVec 32 := 0#32
  let c1_i32_4995 : BitVec 32 := 1#32
  let v4667 : BitVec 32 := Scalar.muli v1 c1_i32_4995
  let v4668 : BitVec 32 := Scalar.addi c0_i32_4996 v4667
  v4668.toNat
def k0_dev224 (v0 : BitVec 32) : Nat :=
  let c0_i32_5004 : BitVec 32 := 0#32
  let c1_i32_5003 : BitVec 32 := 1#32
  let v4669 : BitVec 32 := Scalar.muli v0 c1_i32_5003
  let v4670 : BitVec 32 := Scalar.addi c0_i32_5004 v4669
  v4670.toNat
def k0_dev225 (v0 : BitVec 32) : Nat :=
  let c0_i32_5036 : BitVec 32 := 0#32
  let c1_i32_5035 : BitVec 32 := 1#32
  let v4701 : BitVec 32 := Scalar.muli v0 c1_i32_5035
  let v4702 : BitVec 32 := Scalar.addi c0_i32_5036 v4701
  v4702.toNat
def k0_dev226 (v1 : BitVec 32) : Nat :=
  let c0_i32_5044 : BitVec 32 := 0#32
  let c1_i32_5043 : BitVec 32 := 1#32
  let v4703 : BitVec 32 := Scalar.muli v1 c1_i32_5043
  let v4704 : BitVec 32 := Scalar.addi c0_i32_5044 v4703
  v4704.toNat
def k0_dev227 (v1 : BitVec 32) : Nat :=
  let c0_i32_5076 : BitVec 32 := 0#32
  let c1_i32_5075 : BitVec 32 := 1#32
  let v4735 : BitVec 32 := Scalar.muli v1 c1_i32_5075
  let v4736 : BitVec 32 := Scalar.addi c0_i32_5076 v4735
  v4736.toNat
def k0_dev228 (v0 : BitVec 32) : Nat :=
  let c0_i32_5084 : BitVec 32 := 0#32
  let c1_i32_5083 : BitVec 32 := 1#32
  let v4737 : BitVec 32 := Scalar.muli v0 c1_i32_5083
  let v4738 : BitVec 32 := Scalar.addi c0_i32_5084 v4737
  v4738.toNat
def k0_dev229 (v0 : BitVec 32) : Nat :=
  let c0_i32_5116 : BitVec 32 := 0#32
  let c1_i32_5115 : BitVec 32 := 1#32
  let v4769 : BitVec 32 := Scalar.muli v0 c1_i32_5115
  let v4770 : BitVec 32 := Scalar.addi c0_i32_5116 v4769
  v4770.toNat
def k0_dev230 (v1 : BitVec 32) : Nat :=
  let c0_i32_5124 : BitVec 32 := 0#32
  let c1_i32_5123 : BitVec 32 := 1#32
  let v4771 : BitVec 32 := Scalar.muli v1 c1_i32_5123
  let v4772 : BitVec 32 := Scalar.addi c0_i32_5124 v4771
  v4772.toNat
def k0_off117 (v4781 : BitVec 32) : Fin 2 → Nat :=
  let c128_i32_5129 : BitVec 32 := 128#32
  let v4782 : BitVec 32 := Scalar.muli v4781 c128_i32_5129
  let v4783 : Index := Scalar.indexCast v4782
  let c0_5130 : Index := 0#32
  ![v4783.toNat, 0]

def k0_chk119 (v4781 : BitVec 32) : Prop :=
  (∀ a, (k0_off117 v4781) a + S128x128.size a ≤ S4096x128.size a)
theorem k0_off117_inb : ∀ (v4781 : BitVec 32) (k0_hw119 : k0_chk119 v4781), ∀ a, (k0_off117 v4781) a + S128x128.size a ≤ S4096x128.size a := fun v4781 k0_hw119 => k0_hw119

def k0_off118 (v4789 : BitVec 32) : Fin 2 → Nat :=
  let c128_i32_5134 : BitVec 32 := 128#32
  let v4790 : BitVec 32 := Scalar.muli v4789 c128_i32_5134
  let v4791 : Index := Scalar.indexCast v4790
  let c0_5135 : Index := 0#32
  ![v4791.toNat, 0]

def k0_chk120 (v4789 : BitVec 32) : Prop :=
  (∀ a, (k0_off118 v4789) a + S128x128.size a ≤ S4096x128.size a)
theorem k0_off118_inb : ∀ (v4789 : BitVec 32) (k0_hw120 : k0_chk120 v4789), ∀ a, (k0_off118 v4789) a + S128x128.size a ≤ S4096x128.size a := fun v4789 k0_hw120 => k0_hw120

def k0_off119 (v4797 : BitVec 32) : Fin 2 → Nat :=
  let c128_i32_5140 : BitVec 32 := 128#32
  let v4798 : BitVec 32 := Scalar.muli v4797 c128_i32_5140
  let v4799 : Index := Scalar.indexCast v4798
  let c0_5141 : Index := 0#32
  ![v4799.toNat, 0]

def k0_chk121 (v4797 : BitVec 32) : Prop :=
  (∀ a, (k0_off119 v4797) a + S128x128.size a ≤ S4096x128.size a)
theorem k0_off119_inb : ∀ (v4797 : BitVec 32) (k0_hw121 : k0_chk121 v4797), ∀ a, (k0_off119 v4797) a + S128x128.size a ≤ S4096x128.size a := fun v4797 k0_hw121 => k0_hw121

def k0_off120 (v4805 : BitVec 32) : Fin 2 → Nat :=
  let c128_i32_5146 : BitVec 32 := 128#32
  let v4806 : BitVec 32 := Scalar.muli v4805 c128_i32_5146
  let v4807 : Index := Scalar.indexCast v4806
  let c0_5147 : Index := 0#32
  ![v4807.toNat, 0]

def k0_chk122 (v4805 : BitVec 32) : Prop :=
  (∀ a, (k0_off120 v4805) a + S128x128.size a ≤ S4096x128.size a)
theorem k0_off120_inb : ∀ (v4805 : BitVec 32) (k0_hw122 : k0_chk122 v4805), ∀ a, (k0_off120 v4805) a + S128x128.size a ≤ S4096x128.size a := fun v4805 k0_hw122 => k0_hw122

def k0_dev231 (v1 : BitVec 32) : Nat :=
  let c0_i32_5178 : BitVec 32 := 0#32
  let c1_i32_5177 : BitVec 32 := 1#32
  let v4835 : BitVec 32 := Scalar.muli v1 c1_i32_5177
  let v4836 : BitVec 32 := Scalar.addi c0_i32_5178 v4835
  v4836.toNat
def k0_dev232 (v0 : BitVec 32) : Nat :=
  let c0_i32_5186 : BitVec 32 := 0#32
  let c1_i32_5185 : BitVec 32 := 1#32
  let v4837 : BitVec 32 := Scalar.muli v0 c1_i32_5185
  let v4838 : BitVec 32 := Scalar.addi c0_i32_5186 v4837
  v4838.toNat
def k0_dev233 (v0 : BitVec 32) : Nat :=
  let c0_i32_5218 : BitVec 32 := 0#32
  let c1_i32_5217 : BitVec 32 := 1#32
  let v4869 : BitVec 32 := Scalar.muli v0 c1_i32_5217
  let v4870 : BitVec 32 := Scalar.addi c0_i32_5218 v4869
  v4870.toNat
def k0_dev234 (v1 : BitVec 32) : Nat :=
  let c0_i32_5226 : BitVec 32 := 0#32
  let c1_i32_5225 : BitVec 32 := 1#32
  let v4871 : BitVec 32 := Scalar.muli v1 c1_i32_5225
  let v4872 : BitVec 32 := Scalar.addi c0_i32_5226 v4871
  v4872.toNat
def k0_dev235 (v1 : BitVec 32) : Nat :=
  let c0_i32_5258 : BitVec 32 := 0#32
  let c1_i32_5257 : BitVec 32 := 1#32
  let v4903 : BitVec 32 := Scalar.muli v1 c1_i32_5257
  let v4904 : BitVec 32 := Scalar.addi c0_i32_5258 v4903
  v4904.toNat
def k0_dev236 (v0 : BitVec 32) : Nat :=
  let c0_i32_5266 : BitVec 32 := 0#32
  let c1_i32_5265 : BitVec 32 := 1#32
  let v4905 : BitVec 32 := Scalar.muli v0 c1_i32_5265
  let v4906 : BitVec 32 := Scalar.addi c0_i32_5266 v4905
  v4906.toNat
def k0_dev237 (v0 : BitVec 32) : Nat :=
  let c0_i32_5298 : BitVec 32 := 0#32
  let c1_i32_5297 : BitVec 32 := 1#32
  let v4937 : BitVec 32 := Scalar.muli v0 c1_i32_5297
  let v4938 : BitVec 32 := Scalar.addi c0_i32_5298 v4937
  v4938.toNat
def k0_dev238 (v1 : BitVec 32) : Nat :=
  let c0_i32_5306 : BitVec 32 := 0#32
  let c1_i32_5305 : BitVec 32 := 1#32
  let v4939 : BitVec 32 := Scalar.muli v1 c1_i32_5305
  let v4940 : BitVec 32 := Scalar.addi c0_i32_5306 v4939
  v4940.toNat
def k0_off121 (v4949 : BitVec 32) : Fin 2 → Nat :=
  let c128_i32_5311 : BitVec 32 := 128#32
  let v4950 : BitVec 32 := Scalar.muli v4949 c128_i32_5311
  let v4951 : Index := Scalar.indexCast v4950
  let c0_5312 : Index := 0#32
  ![v4951.toNat, 0]

def k0_chk123 (v4949 : BitVec 32) : Prop :=
  (∀ a, (k0_off121 v4949) a + S128x128.size a ≤ S4096x128.size a)
theorem k0_off121_inb : ∀ (v4949 : BitVec 32) (k0_hw123 : k0_chk123 v4949), ∀ a, (k0_off121 v4949) a + S128x128.size a ≤ S4096x128.size a := fun v4949 k0_hw123 => k0_hw123

def k0_off122 (v4957 : BitVec 32) : Fin 2 → Nat :=
  let c128_i32_5316 : BitVec 32 := 128#32
  let v4958 : BitVec 32 := Scalar.muli v4957 c128_i32_5316
  let v4959 : Index := Scalar.indexCast v4958
  let c0_5317 : Index := 0#32
  ![v4959.toNat, 0]

def k0_chk124 (v4957 : BitVec 32) : Prop :=
  (∀ a, (k0_off122 v4957) a + S128x128.size a ≤ S4096x128.size a)
theorem k0_off122_inb : ∀ (v4957 : BitVec 32) (k0_hw124 : k0_chk124 v4957), ∀ a, (k0_off122 v4957) a + S128x128.size a ≤ S4096x128.size a := fun v4957 k0_hw124 => k0_hw124

def k0_off123 (v4965 : BitVec 32) : Fin 2 → Nat :=
  let c128_i32_5322 : BitVec 32 := 128#32
  let v4966 : BitVec 32 := Scalar.muli v4965 c128_i32_5322
  let v4967 : Index := Scalar.indexCast v4966
  let c0_5323 : Index := 0#32
  ![v4967.toNat, 0]

def k0_chk125 (v4965 : BitVec 32) : Prop :=
  (∀ a, (k0_off123 v4965) a + S128x128.size a ≤ S4096x128.size a)
theorem k0_off123_inb : ∀ (v4965 : BitVec 32) (k0_hw125 : k0_chk125 v4965), ∀ a, (k0_off123 v4965) a + S128x128.size a ≤ S4096x128.size a := fun v4965 k0_hw125 => k0_hw125

def k0_off124 (v4973 : BitVec 32) : Fin 2 → Nat :=
  let c128_i32_5328 : BitVec 32 := 128#32
  let v4974 : BitVec 32 := Scalar.muli v4973 c128_i32_5328
  let v4975 : Index := Scalar.indexCast v4974
  let c0_5329 : Index := 0#32
  ![v4975.toNat, 0]

def k0_chk126 (v4973 : BitVec 32) : Prop :=
  (∀ a, (k0_off124 v4973) a + S128x128.size a ≤ S4096x128.size a)
theorem k0_off124_inb : ∀ (v4973 : BitVec 32) (k0_hw126 : k0_chk126 v4973), ∀ a, (k0_off124 v4973) a + S128x128.size a ≤ S4096x128.size a := fun v4973 k0_hw126 => k0_hw126

def k0_dev239 (v0 : BitVec 32) : Nat :=
  let c0_i32_5365 : BitVec 32 := 0#32
  let c1_i32_5364 : BitVec 32 := 1#32
  let v5003 : BitVec 32 := Scalar.muli v0 c1_i32_5364
  let v5004 : BitVec 32 := Scalar.addi c0_i32_5365 v5003
  v5004.toNat
def k0_dev240 (v1 : BitVec 32) : Nat :=
  let c0_i32_5402 : BitVec 32 := 0#32
  let c1_i32_5401 : BitVec 32 := 1#32
  let v5035 : BitVec 32 := Scalar.muli v1 c1_i32_5401
  let v5036 : BitVec 32 := Scalar.addi c0_i32_5402 v5035
  v5036.toNat
def k0_dev241 (v0 : BitVec 32) : Nat :=
  let c0_i32_5439 : BitVec 32 := 0#32
  let c1_i32_5438 : BitVec 32 := 1#32
  let v5067 : BitVec 32 := Scalar.muli v0 c1_i32_5438
  let v5068 : BitVec 32 := Scalar.addi c0_i32_5439 v5067
  v5068.toNat

def k0_chk1_0 (v0 : BitVec 32) : Prop :=
  ((k0_dev1 v0) < nD) ∧
  ((k0_dev3 v0) < nD) ∧
  ((k0_dev5 v0) < nD) ∧
  ((k0_dev8 v0) < nD) ∧
  ((k0_dev9 v0) < nD) ∧
  ((k0_dev12 v0) < nD) ∧
  ((k0_dev13 v0) < nD) ∧
  ((k0_dev16 v0) < nD) ∧
  ((k0_dev17 v0) < nD) ∧
  ((k0_dev20 v0) < nD) ∧
  ((k0_dev21 v0) < nD) ∧
  ((k0_dev24 v0) < nD) ∧
  ((k0_dev25 v0) < nD) ∧
  ((k0_dev28 v0) < nD) ∧
  ((k0_dev29 v0) < nD) ∧
  ((k0_dev32 v0) < nD) ∧
  ((k0_dev33 v0) < nD) ∧
  ((k0_dev36 v0) < nD) ∧
  ((k0_dev37 v0) < nD) ∧
  ((k0_dev40 v0) < nD) ∧
  ((k0_dev41 v0) < nD) ∧
  ((k0_dev44 v0) < nD) ∧
  ((k0_dev45 v0) < nD) ∧
  ((k0_dev48 v0) < nD) ∧
  ((k0_dev49 v0) < nD) ∧
  ((k0_dev52 v0) < nD) ∧
  ((k0_dev53 v0) < nD) ∧
  ((k0_dev56 v0) < nD) ∧
  ((k0_dev57 v0) < nD) ∧
  ((k0_dev60 v0) < nD) ∧
  ((k0_dev61 v0) < nD) ∧
  ((k0_dev64 v0) < nD)
def k0_chk1_1 (v0 : BitVec 32) : Prop :=
  ((k0_dev65 v0) < nD) ∧
  ((k0_dev68 v0) < nD) ∧
  ((k0_dev69 v0) < nD) ∧
  ((k0_dev72 v0) < nD) ∧
  ((k0_dev73 v0) < nD) ∧
  ((k0_dev76 v0) < nD) ∧
  ((k0_dev77 v0) < nD) ∧
  ((k0_dev80 v0) < nD) ∧
  ((k0_dev81 v0) < nD) ∧
  ((k0_dev84 v0) < nD) ∧
  ((k0_dev85 v0) < nD) ∧
  ((k0_dev88 v0) < nD) ∧
  ((k0_dev89 v0) < nD) ∧
  ((k0_dev92 v0) < nD) ∧
  ((k0_dev93 v0) < nD) ∧
  ((k0_dev96 v0) < nD) ∧
  ((k0_dev97 v0) < nD) ∧
  ((k0_dev100 v0) < nD) ∧
  ((k0_dev101 v0) < nD) ∧
  ((k0_dev104 v0) < nD) ∧
  ((k0_dev105 v0) < nD) ∧
  ((k0_dev108 v0) < nD) ∧
  ((k0_dev109 v0) < nD) ∧
  ((k0_dev112 v0) < nD) ∧
  ((k0_dev113 v0) < nD) ∧
  ((k0_dev116 v0) < nD) ∧
  ((k0_dev117 v0) < nD) ∧
  ((k0_dev120 v0) < nD) ∧
  ((k0_dev121 v0) < nD) ∧
  ((k0_dev124 v0) < nD) ∧
  ((k0_dev125 v0) < nD) ∧
  ((k0_dev128 v0) < nD)
def k0_chk1_2 (v0 : BitVec 32) : Prop :=
  ((k0_dev129 v0) < nD) ∧
  ((k0_dev132 v0) < nD) ∧
  ((k0_dev133 v0) < nD) ∧
  ((k0_dev136 v0) < nD) ∧
  ((k0_dev137 v0) < nD) ∧
  ((k0_dev140 v0) < nD) ∧
  ((k0_dev141 v0) < nD) ∧
  ((k0_dev144 v0) < nD) ∧
  ((k0_dev145 v0) < nD) ∧
  ((k0_dev148 v0) < nD) ∧
  ((k0_dev149 v0) < nD) ∧
  ((k0_dev152 v0) < nD) ∧
  ((k0_dev153 v0) < nD) ∧
  ((k0_dev156 v0) < nD) ∧
  ((k0_dev157 v0) < nD) ∧
  ((k0_dev160 v0) < nD) ∧
  ((k0_dev161 v0) < nD) ∧
  ((k0_dev164 v0) < nD) ∧
  ((k0_dev165 v0) < nD) ∧
  ((k0_dev168 v0) < nD) ∧
  ((k0_dev169 v0) < nD) ∧
  ((k0_dev172 v0) < nD) ∧
  ((k0_dev173 v0) < nD) ∧
  ((k0_dev176 v0) < nD) ∧
  ((k0_dev177 v0) < nD) ∧
  ((k0_dev180 v0) < nD) ∧
  ((k0_dev181 v0) < nD) ∧
  ((k0_dev184 v0) < nD) ∧
  ((k0_dev185 v0) < nD) ∧
  ((k0_dev188 v0) < nD) ∧
  ((k0_dev189 v0) < nD) ∧
  ((k0_dev192 v0) < nD)
def k0_chk1_3 (v0 : BitVec 32) : Prop :=
  ((k0_dev193 v0) < nD) ∧
  ((k0_dev196 v0) < nD) ∧
  ((k0_dev197 v0) < nD) ∧
  ((k0_dev200 v0) < nD) ∧
  ((k0_dev201 v0) < nD) ∧
  ((k0_dev204 v0) < nD) ∧
  ((k0_dev205 v0) < nD) ∧
  ((k0_dev208 v0) < nD) ∧
  ((k0_dev209 v0) < nD) ∧
  ((k0_dev212 v0) < nD) ∧
  ((k0_dev213 v0) < nD) ∧
  ((k0_dev216 v0) < nD) ∧
  ((k0_dev217 v0) < nD) ∧
  ((k0_dev220 v0) < nD) ∧
  ((k0_dev221 v0) < nD) ∧
  ((k0_dev224 v0) < nD) ∧
  ((k0_dev225 v0) < nD) ∧
  ((k0_dev228 v0) < nD) ∧
  ((k0_dev229 v0) < nD) ∧
  ((k0_dev232 v0) < nD) ∧
  ((k0_dev233 v0) < nD) ∧
  ((k0_dev236 v0) < nD) ∧
  ((k0_dev237 v0) < nD) ∧
  ((k0_dev239 v0) < nD) ∧
  ((k0_dev241 v0) < nD)
def k0_chk1 (v0 : BitVec 32) : Prop :=
  k0_chk1_0 v0 ∧
  k0_chk1_1 v0 ∧
  k0_chk1_2 v0 ∧
  k0_chk1_3 v0
theorem k0_dev1_lt : ∀ (v0 : BitVec 32) (k0_hw1 : k0_chk1 v0), (k0_dev1 v0) < nD := fun v0 k0_hw1 => k0_hw1.1.1
theorem k0_dev3_lt : ∀ (v0 : BitVec 32) (k0_hw1 : k0_chk1 v0), (k0_dev3 v0) < nD := fun v0 k0_hw1 => k0_hw1.1.2.1
theorem k0_dev5_lt : ∀ (v0 : BitVec 32) (k0_hw1 : k0_chk1 v0), (k0_dev5 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev13_lt : ∀ (v0 : BitVec 32) (k0_hw1 : k0_chk1 v0), (k0_dev13 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1.1
theorem k0_dev68_lt : ∀ (v0 : BitVec 32) (k0_hw1 : k0_chk1 v0), (k0_dev68 v0) < nD := fun v0 k0_hw1 => k0_hw1.2.1.2.1
theorem k0_dev69_lt : ∀ (v0 : BitVec 32) (k0_hw1 : k0_chk1 v0), (k0_dev69 v0) < nD := fun v0 k0_hw1 => k0_hw1.2.1.2.2.1
theorem k0_dev72_lt : ∀ (v0 : BitVec 32) (k0_hw1 : k0_chk1 v0), (k0_dev72 v0) < nD := fun v0 k0_hw1 => k0_hw1.2.1.2.2.2.1
theorem k0_dev73_lt : ∀ (v0 : BitVec 32) (k0_hw1 : k0_chk1 v0), (k0_dev73 v0) < nD := fun v0 k0_hw1 => k0_hw1.2.1.2.2.2.2.1
theorem k0_dev76_lt : ∀ (v0 : BitVec 32) (k0_hw1 : k0_chk1 v0), (k0_dev76 v0) < nD := fun v0 k0_hw1 => k0_hw1.2.1.2.2.2.2.2.1
theorem k0_dev77_lt : ∀ (v0 : BitVec 32) (k0_hw1 : k0_chk1 v0), (k0_dev77 v0) < nD := fun v0 k0_hw1 => k0_hw1.2.1.2.2.2.2.2.2.1
theorem k0_dev80_lt : ∀ (v0 : BitVec 32) (k0_hw1 : k0_chk1 v0), (k0_dev80 v0) < nD := fun v0 k0_hw1 => k0_hw1.2.1.2.2.2.2.2.2.2.1
theorem k0_dev81_lt : ∀ (v0 : BitVec 32) (k0_hw1 : k0_chk1 v0), (k0_dev81 v0) < nD := fun v0 k0_hw1 => k0_hw1.2.1.2.2.2.2.2.2.2.2.1
theorem k0_dev84_lt : ∀ (v0 : BitVec 32) (k0_hw1 : k0_chk1 v0), (k0_dev84 v0) < nD := fun v0 k0_hw1 => k0_hw1.2.1.2.2.2.2.2.2.2.2.2.1
theorem k0_dev85_lt : ∀ (v0 : BitVec 32) (k0_hw1 : k0_chk1 v0), (k0_dev85 v0) < nD := fun v0 k0_hw1 => k0_hw1.2.1.2.2.2.2.2.2.2.2.2.2.1
theorem k0_dev88_lt : ∀ (v0 : BitVec 32) (k0_hw1 : k0_chk1 v0), (k0_dev88 v0) < nD := fun v0 k0_hw1 => k0_hw1.2.1.2.2.2.2.2.2.2.2.2.2.2.1
theorem k0_dev89_lt : ∀ (v0 : BitVec 32) (k0_hw1 : k0_chk1 v0), (k0_dev89 v0) < nD := fun v0 k0_hw1 => k0_hw1.2.1.2.2.2.2.2.2.2.2.2.2.2.2.1
theorem k0_dev92_lt : ∀ (v0 : BitVec 32) (k0_hw1 : k0_chk1 v0), (k0_dev92 v0) < nD := fun v0 k0_hw1 => k0_hw1.2.1.2.2.2.2.2.2.2.2.2.2.2.2.2.1
theorem k0_dev93_lt : ∀ (v0 : BitVec 32) (k0_hw1 : k0_chk1 v0), (k0_dev93 v0) < nD := fun v0 k0_hw1 => k0_hw1.2.1.2.2.2.2.2.2.2.2.2.2.2.2.2.2.1
theorem k0_dev96_lt : ∀ (v0 : BitVec 32) (k0_hw1 : k0_chk1 v0), (k0_dev96 v0) < nD := fun v0 k0_hw1 => k0_hw1.2.1.2.2.2.2.2.2.2.2.2.2.2.2.2.2.2.1
theorem k0_dev97_lt : ∀ (v0 : BitVec 32) (k0_hw1 : k0_chk1 v0), (k0_dev97 v0) < nD := fun v0 k0_hw1 => k0_hw1.2.1.2.2.2.2.2.2.2.2.2.2.2.2.2.2.2.2.1
theorem k0_dev100_lt : ∀ (v0 : BitVec 32) (k0_hw1 : k0_chk1 v0), (k0_dev100 v0) < nD := fun v0 k0_hw1 => k0_hw1.2.1.2.2.2.2.2.2.2.2.2.2.2.2.2.2.2.2.2.1
theorem k0_dev101_lt : ∀ (v0 : BitVec 32) (k0_hw1 : k0_chk1 v0), (k0_dev101 v0) < nD := fun v0 k0_hw1 => k0_hw1.2.1.2.2.2.2.2.2.2.2.2.2.2.2.2.2.2.2.2.2.1
theorem k0_dev104_lt : ∀ (v0 : BitVec 32) (k0_hw1 : k0_chk1 v0), (k0_dev104 v0) < nD := fun v0 k0_hw1 => k0_hw1.2.1.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.1.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.1.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.1.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.1.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.1.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.1.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.1.2.2.2.2.2.2.2.2.2.2.2.2.2.2.2.2.2.2.2.2.2.2.2.2.2.2.1
theorem k0_dev120_lt : ∀ (v0 : BitVec 32) (k0_hw1 : k0_chk1 v0), (k0_dev120 v0) < nD := fun v0 k0_hw1 => k0_hw1.2.1.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.1.2.2.2.2.2.2.2.2.2.2.2.2.2.2.2.2.2.2.2.2.2.2.2.2.2.2.2.2.1
theorem k0_dev124_lt : ∀ (v0 : BitVec 32) (k0_hw1 : k0_chk1 v0), (k0_dev124 v0) < nD := fun v0 k0_hw1 => k0_hw1.2.1.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.1.2.2.2.2.2.2.2.2.2.2.2.2.2.2.2.2.2.2.2.2.2.2.2.2.2.2.2.2.2.2.1
theorem k0_dev128_lt : ∀ (v0 : BitVec 32) (k0_hw1 : k0_chk1 v0), (k0_dev128 v0) < nD := fun v0 k0_hw1 => k0_hw1.2.1.2.2.2.2.2.2.2.2.2.2.2.2.2.2.2.2.2.2.2.2.2.2.2.2.2.2.2.2.2.2.2
theorem k0_dev129_lt : ∀ (v0 : BitVec 32) (k0_hw1 : k0_chk1 v0), (k0_dev129 v0) < nD := fun v0 k0_hw1 => k0_hw1.2.2.1.1
theorem k0_dev132_lt : ∀ (v0 : BitVec 32) (k0_hw1 : k0_chk1 v0), (k0_dev132 v0) < nD := fun v0 k0_hw1 => k0_hw1.2.2.1.2.1
theorem k0_dev133_lt : ∀ (v0 : BitVec 32) (k0_hw1 : k0_chk1 v0), (k0_dev133 v0) < nD := fun v0 k0_hw1 => k0_hw1.2.2.1.2.2.1
theorem k0_dev136_lt : ∀ (v0 : BitVec 32) (k0_hw1 : k0_chk1 v0), (k0_dev136 v0) < nD := fun v0 k0_hw1 => k0_hw1.2.2.1.2.2.2.1
theorem k0_dev137_lt : ∀ (v0 : BitVec 32) (k0_hw1 : k0_chk1 v0), (k0_dev137 v0) < nD := fun v0 k0_hw1 => k0_hw1.2.2.1.2.2.2.2.1
theorem k0_dev140_lt : ∀ (v0 : BitVec 32) (k0_hw1 : k0_chk1 v0), (k0_dev140 v0) < nD := fun v0 k0_hw1 => k0_hw1.2.2.1.2.2.2.2.2.1
theorem k0_dev141_lt : ∀ (v0 : BitVec 32) (k0_hw1 : k0_chk1 v0), (k0_dev141 v0) < nD := fun v0 k0_hw1 => k0_hw1.2.2.1.2.2.2.2.2.2.1
theorem k0_dev144_lt : ∀ (v0 : BitVec 32) (k0_hw1 : k0_chk1 v0), (k0_dev144 v0) < nD := fun v0 k0_hw1 => k0_hw1.2.2.1.2.2.2.2.2.2.2.1
theorem k0_dev145_lt : ∀ (v0 : BitVec 32) (k0_hw1 : k0_chk1 v0), (k0_dev145 v0) < nD := fun v0 k0_hw1 => k0_hw1.2.2.1.2.2.2.2.2.2.2.2.1
theorem k0_dev148_lt : ∀ (v0 : BitVec 32) (k0_hw1 : k0_chk1 v0), (k0_dev148 v0) < nD := fun v0 k0_hw1 => k0_hw1.2.2.1.2.2.2.2.2.2.2.2.2.1
theorem k0_dev149_lt : ∀ (v0 : BitVec 32) (k0_hw1 : k0_chk1 v0), (k0_dev149 v0) < nD := fun v0 k0_hw1 => k0_hw1.2.2.1.2.2.2.2.2.2.2.2.2.2.1
theorem k0_dev152_lt : ∀ (v0 : BitVec 32) (k0_hw1 : k0_chk1 v0), (k0_dev152 v0) < nD := fun v0 k0_hw1 => k0_hw1.2.2.1.2.2.2.2.2.2.2.2.2.2.2.1
theorem k0_dev153_lt : ∀ (v0 : BitVec 32) (k0_hw1 : k0_chk1 v0), (k0_dev153 v0) < nD := fun v0 k0_hw1 => k0_hw1.2.2.1.2.2.2.2.2.2.2.2.2.2.2.2.1
theorem k0_dev156_lt : ∀ (v0 : BitVec 32) (k0_hw1 : k0_chk1 v0), (k0_dev156 v0) < nD := fun v0 k0_hw1 => k0_hw1.2.2.1.2.2.2.2.2.2.2.2.2.2.2.2.2.1
theorem k0_dev157_lt : ∀ (v0 : BitVec 32) (k0_hw1 : k0_chk1 v0), (k0_dev157 v0) < nD := fun v0 k0_hw1 => k0_hw1.2.2.1.2.2.2.2.2.2.2.2.2.2.2.2.2.2.1
theorem k0_dev160_lt : ∀ (v0 : BitVec 32) (k0_hw1 : k0_chk1 v0), (k0_dev160 v0) < nD := fun v0 k0_hw1 => k0_hw1.2.2.1.2.2.2.2.2.2.2.2.2.2.2.2.2.2.2.1
theorem k0_dev161_lt : ∀ (v0 : BitVec 32) (k0_hw1 : k0_chk1 v0), (k0_dev161 v0) < nD := fun v0 k0_hw1 => k0_hw1.2.2.1.2.2.2.2.2.2.2.2.2.2.2.2.2.2.2.2.1
theorem k0_dev164_lt : ∀ (v0 : BitVec 32) (k0_hw1 : k0_chk1 v0), (k0_dev164 v0) < nD := fun v0 k0_hw1 => k0_hw1.2.2.1.2.2.2.2.2.2.2.2.2.2.2.2.2.2.2.2.2.1
theorem k0_dev165_lt : ∀ (v0 : BitVec 32) (k0_hw1 : k0_chk1 v0), (k0_dev165 v0) < nD := fun v0 k0_hw1 => k0_hw1.2.2.1.2.2.2.2.2.2.2.2.2.2.2.2.2.2.2.2.2.2.1
theorem k0_dev168_lt : ∀ (v0 : BitVec 32) (k0_hw1 : k0_chk1 v0), (k0_dev168 v0) < nD := fun v0 k0_hw1 => k0_hw1.2.2.1.2.2.2.2.2.2.2.2.2.2.2.2.2.2.2.2.2.2.2.1
theorem k0_dev169_lt : ∀ (v0 : BitVec 32) (k0_hw1 : k0_chk1 v0), (k0_dev169 v0) < nD := fun v0 k0_hw1 => k0_hw1.2.2.1.2.2.2.2.2.2.2.2.2.2.2.2.2.2.2.2.2.2.2.2.1
theorem k0_dev172_lt : ∀ (v0 : BitVec 32) (k0_hw1 : k0_chk1 v0), (k0_dev172 v0) < nD := fun v0 k0_hw1 => k0_hw1.2.2.1.2.2.2.2.2.2.2.2.2.2.2.2.2.2.2.2.2.2.2.2.2.1
theorem k0_dev173_lt : ∀ (v0 : BitVec 32) (k0_hw1 : k0_chk1 v0), (k0_dev173 v0) < nD := fun v0 k0_hw1 => k0_hw1.2.2.1.2.2.2.2.2.2.2.2.2.2.2.2.2.2.2.2.2.2.2.2.2.2.1
theorem k0_dev176_lt : ∀ (v0 : BitVec 32) (k0_hw1 : k0_chk1 v0), (k0_dev176 v0) < nD := fun v0 k0_hw1 => k0_hw1.2.2.1.2.2.2.2.2.2.2.2.2.2.2.2.2.2.2.2.2.2.2.2.2.2.2.1
theorem k0_dev177_lt : ∀ (v0 : BitVec 32) (k0_hw1 : k0_chk1 v0), (k0_dev177 v0) < nD := fun v0 k0_hw1 => k0_hw1.2.2.1.2.2.2.2.2.2.2.2.2.2.2.2.2.2.2.2.2.2.2.2.2.2.2.2.1
theorem k0_dev180_lt : ∀ (v0 : BitVec 32) (k0_hw1 : k0_chk1 v0), (k0_dev180 v0) < nD := fun v0 k0_hw1 => k0_hw1.2.2.1.2.2.2.2.2.2.2.2.2.2.2.2.2.2.2.2.2.2.2.2.2.2.2.2.2.1
theorem k0_dev181_lt : ∀ (v0 : BitVec 32) (k0_hw1 : k0_chk1 v0), (k0_dev181 v0) < nD := fun v0 k0_hw1 => k0_hw1.2.2.1.2.2.2.2.2.2.2.2.2.2.2.2.2.2.2.2.2.2.2.2.2.2.2.2.2.2.1
theorem k0_dev184_lt : ∀ (v0 : BitVec 32) (k0_hw1 : k0_chk1 v0), (k0_dev184 v0) < nD := fun v0 k0_hw1 => k0_hw1.2.2.1.2.2.2.2.2.2.2.2.2.2.2.2.2.2.2.2.2.2.2.2.2.2.2.2.2.2.2.1
theorem k0_dev185_lt : ∀ (v0 : BitVec 32) (k0_hw1 : k0_chk1 v0), (k0_dev185 v0) < nD := fun v0 k0_hw1 => k0_hw1.2.2.1.2.2.2.2.2.2.2.2.2.2.2.2.2.2.2.2.2.2.2.2.2.2.2.2.2.2.2.2.1
theorem k0_dev188_lt : ∀ (v0 : BitVec 32) (k0_hw1 : k0_chk1 v0), (k0_dev188 v0) < nD := fun v0 k0_hw1 => k0_hw1.2.2.1.2.2.2.2.2.2.2.2.2.2.2.2.2.2.2.2.2.2.2.2.2.2.2.2.2.2.2.2.2.1
theorem k0_dev189_lt : ∀ (v0 : BitVec 32) (k0_hw1 : k0_chk1 v0), (k0_dev189 v0) < nD := fun v0 k0_hw1 => k0_hw1.2.2.1.2.2.2.2.2.2.2.2.2.2.2.2.2.2.2.2.2.2.2.2.2.2.2.2.2.2.2.2.2.2.1
theorem k0_dev192_lt : ∀ (v0 : BitVec 32) (k0_hw1 : k0_chk1 v0), (k0_dev192 v0) < nD := fun v0 k0_hw1 => k0_hw1.2.2.1.2.2.2.2.2.2.2.2.2.2.2.2.2.2.2.2.2.2.2.2.2.2.2.2.2.2.2.2.2.2.2
theorem k0_dev193_lt : ∀ (v0 : BitVec 32) (k0_hw1 : k0_chk1 v0), (k0_dev193 v0) < nD := fun v0 k0_hw1 => k0_hw1.2.2.2.1
theorem k0_dev196_lt : ∀ (v0 : BitVec 32) (k0_hw1 : k0_chk1 v0), (k0_dev196 v0) < nD := fun v0 k0_hw1 => k0_hw1.2.2.2.2.1
theorem k0_dev197_lt : ∀ (v0 : BitVec 32) (k0_hw1 : k0_chk1 v0), (k0_dev197 v0) < nD := fun v0 k0_hw1 => k0_hw1.2.2.2.2.2.1
theorem k0_dev200_lt : ∀ (v0 : BitVec 32) (k0_hw1 : k0_chk1 v0), (k0_dev200 v0) < nD := fun v0 k0_hw1 => k0_hw1.2.2.2.2.2.2.1
theorem k0_dev201_lt : ∀ (v0 : BitVec 32) (k0_hw1 : k0_chk1 v0), (k0_dev201 v0) < nD := fun v0 k0_hw1 => k0_hw1.2.2.2.2.2.2.2.1
theorem k0_dev204_lt : ∀ (v0 : BitVec 32) (k0_hw1 : k0_chk1 v0), (k0_dev204 v0) < nD := fun v0 k0_hw1 => k0_hw1.2.2.2.2.2.2.2.2.1
theorem k0_dev205_lt : ∀ (v0 : BitVec 32) (k0_hw1 : k0_chk1 v0), (k0_dev205 v0) < nD := fun v0 k0_hw1 => k0_hw1.2.2.2.2.2.2.2.2.2.1
theorem k0_dev208_lt : ∀ (v0 : BitVec 32) (k0_hw1 : k0_chk1 v0), (k0_dev208 v0) < nD := fun v0 k0_hw1 => k0_hw1.2.2.2.2.2.2.2.2.2.2.1
theorem k0_dev209_lt : ∀ (v0 : BitVec 32) (k0_hw1 : k0_chk1 v0), (k0_dev209 v0) < nD := fun v0 k0_hw1 => k0_hw1.2.2.2.2.2.2.2.2.2.2.2.1
theorem k0_dev212_lt : ∀ (v0 : BitVec 32) (k0_hw1 : k0_chk1 v0), (k0_dev212 v0) < nD := fun v0 k0_hw1 => k0_hw1.2.2.2.2.2.2.2.2.2.2.2.2.1
theorem k0_dev213_lt : ∀ (v0 : BitVec 32) (k0_hw1 : k0_chk1 v0), (k0_dev213 v0) < nD := fun v0 k0_hw1 => k0_hw1.2.2.2.2.2.2.2.2.2.2.2.2.2.1
theorem k0_dev216_lt : ∀ (v0 : BitVec 32) (k0_hw1 : k0_chk1 v0), (k0_dev216 v0) < nD := fun v0 k0_hw1 => k0_hw1.2.2.2.2.2.2.2.2.2.2.2.2.2.2.1
theorem k0_dev217_lt : ∀ (v0 : BitVec 32) (k0_hw1 : k0_chk1 v0), (k0_dev217 v0) < nD := fun v0 k0_hw1 => k0_hw1.2.2.2.2.2.2.2.2.2.2.2.2.2.2.2.1
theorem k0_dev220_lt : ∀ (v0 : BitVec 32) (k0_hw1 : k0_chk1 v0), (k0_dev220 v0) < nD := fun v0 k0_hw1 => k0_hw1.2.2.2.2.2.2.2.2.2.2.2.2.2.2.2.2.1
theorem k0_dev221_lt : ∀ (v0 : BitVec 32) (k0_hw1 : k0_chk1 v0), (k0_dev221 v0) < nD := fun v0 k0_hw1 => k0_hw1.2.2.2.2.2.2.2.2.2.2.2.2.2.2.2.2.2.1
theorem k0_dev224_lt : ∀ (v0 : BitVec 32) (k0_hw1 : k0_chk1 v0), (k0_dev224 v0) < nD := fun v0 k0_hw1 => k0_hw1.2.2.2.2.2.2.2.2.2.2.2.2.2.2.2.2.2.2.1
theorem k0_dev225_lt : ∀ (v0 : BitVec 32) (k0_hw1 : k0_chk1 v0), (k0_dev225 v0) < nD := fun v0 k0_hw1 => k0_hw1.2.2.2.2.2.2.2.2.2.2.2.2.2.2.2.2.2.2.2.1
theorem k0_dev228_lt : ∀ (v0 : BitVec 32) (k0_hw1 : k0_chk1 v0), (k0_dev228 v0) < nD := fun v0 k0_hw1 => k0_hw1.2.2.2.2.2.2.2.2.2.2.2.2.2.2.2.2.2.2.2.2.1
theorem k0_dev229_lt : ∀ (v0 : BitVec 32) (k0_hw1 : k0_chk1 v0), (k0_dev229 v0) < nD := fun v0 k0_hw1 => k0_hw1.2.2.2.2.2.2.2.2.2.2.2.2.2.2.2.2.2.2.2.2.2.1
theorem k0_dev232_lt : ∀ (v0 : BitVec 32) (k0_hw1 : k0_chk1 v0), (k0_dev232 v0) < nD := fun v0 k0_hw1 => k0_hw1.2.2.2.2.2.2.2.2.2.2.2.2.2.2.2.2.2.2.2.2.2.2.1
theorem k0_dev233_lt : ∀ (v0 : BitVec 32) (k0_hw1 : k0_chk1 v0), (k0_dev233 v0) < nD := fun v0 k0_hw1 => k0_hw1.2.2.2.2.2.2.2.2.2.2.2.2.2.2.2.2.2.2.2.2.2.2.2.1
theorem k0_dev236_lt : ∀ (v0 : BitVec 32) (k0_hw1 : k0_chk1 v0), (k0_dev236 v0) < nD := fun v0 k0_hw1 => k0_hw1.2.2.2.2.2.2.2.2.2.2.2.2.2.2.2.2.2.2.2.2.2.2.2.2.1
theorem k0_dev237_lt : ∀ (v0 : BitVec 32) (k0_hw1 : k0_chk1 v0), (k0_dev237 v0) < nD := fun v0 k0_hw1 => k0_hw1.2.2.2.2.2.2.2.2.2.2.2.2.2.2.2.2.2.2.2.2.2.2.2.2.2.1
theorem k0_dev239_lt : ∀ (v0 : BitVec 32) (k0_hw1 : k0_chk1 v0), (k0_dev239 v0) < nD := fun v0 k0_hw1 => k0_hw1.2.2.2.2.2.2.2.2.2.2.2.2.2.2.2.2.2.2.2.2.2.2.2.2.2.2.1
theorem k0_dev241_lt : ∀ (v0 : BitVec 32) (k0_hw1 : k0_chk1 v0), (k0_dev241 v0) < nD := fun v0 k0_hw1 => k0_hw1.2.2.2.2.2.2.2.2.2.2.2.2.2.2.2.2.2.2.2.2.2.2.2.2.2.2.2

def k0_dev242 (v1 : BitVec 32) : Nat :=
  let c0_i32_5476 : BitVec 32 := 0#32
  let c1_i32_5475 : BitVec 32 := 1#32
  let v5099 : BitVec 32 := Scalar.muli v1 c1_i32_5475
  let v5100 : BitVec 32 := Scalar.addi c0_i32_5476 v5099
  v5100.toNat

def k0_chk2_0 (v1 : BitVec 32) : Prop :=
  ((k0_dev2 v1) < nD) ∧
  ((k0_dev4 v1) < nD) ∧
  ((k0_dev6 v1) < nD) ∧
  ((k0_dev7 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD) ∧
  ((k0_dev63 v1) < nD)
def k0_chk2_1 (v1 : BitVec 32) : Prop :=
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD) ∧
  ((k0_dev119 v1) < nD) ∧
  ((k0_dev122 v1) < nD) ∧
  ((k0_dev123 v1) < nD) ∧
  ((k0_dev126 v1) < nD) ∧
  ((k0_dev127 v1) < nD)
def k0_chk2_2 (v1 : BitVec 32) : Prop :=
  ((k0_dev130 v1) < nD) ∧
  ((k0_dev131 v1) < nD) ∧
  ((k0_dev134 v1) < nD) ∧
  ((k0_dev135 v1) < nD) ∧
  ((k0_dev138 v1) < nD) ∧
  ((k0_dev139 v1) < nD) ∧
  ((k0_dev142 v1) < nD) ∧
  ((k0_dev143 v1) < nD) ∧
  ((k0_dev146 v1) < nD) ∧
  ((k0_dev147 v1) < nD) ∧
  ((k0_dev150 v1) < nD) ∧
  ((k0_dev151 v1) < nD) ∧
  ((k0_dev154 v1) < nD) ∧
  ((k0_dev155 v1) < nD) ∧
  ((k0_dev158 v1) < nD) ∧
  ((k0_dev159 v1) < nD) ∧
  ((k0_dev162 v1) < nD) ∧
  ((k0_dev163 v1) < nD) ∧
  ((k0_dev166 v1) < nD) ∧
  ((k0_dev167 v1) < nD) ∧
  ((k0_dev170 v1) < nD) ∧
  ((k0_dev171 v1) < nD) ∧
  ((k0_dev174 v1) < nD) ∧
  ((k0_dev175 v1) < nD) ∧
  ((k0_dev178 v1) < nD) ∧
  ((k0_dev179 v1) < nD) ∧
  ((k0_dev182 v1) < nD) ∧
  ((k0_dev183 v1) < nD) ∧
  ((k0_dev186 v1) < nD) ∧
  ((k0_dev187 v1) < nD) ∧
  ((k0_dev190 v1) < nD) ∧
  ((k0_dev191 v1) < nD)
def k0_chk2_3 (v1 : BitVec 32) : Prop :=
  ((k0_dev194 v1) < nD) ∧
  ((k0_dev195 v1) < nD) ∧
  ((k0_dev198 v1) < nD) ∧
  ((k0_dev199 v1) < nD) ∧
  ((k0_dev202 v1) < nD) ∧
  ((k0_dev203 v1) < nD) ∧
  ((k0_dev206 v1) < nD) ∧
  ((k0_dev207 v1) < nD) ∧
  ((k0_dev210 v1) < nD) ∧
  ((k0_dev211 v1) < nD) ∧
  ((k0_dev214 v1) < nD) ∧
  ((k0_dev215 v1) < nD) ∧
  ((k0_dev218 v1) < nD) ∧
  ((k0_dev219 v1) < nD) ∧
  ((k0_dev222 v1) < nD) ∧
  ((k0_dev223 v1) < nD) ∧
  ((k0_dev226 v1) < nD) ∧
  ((k0_dev227 v1) < nD) ∧
  ((k0_dev230 v1) < nD) ∧
  ((k0_dev231 v1) < nD) ∧
  ((k0_dev234 v1) < nD) ∧
  ((k0_dev235 v1) < nD) ∧
  ((k0_dev238 v1) < nD) ∧
  ((k0_dev240 v1) < nD) ∧
  ((k0_dev242 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev4_lt : ∀ (v1 : BitVec 32) (k0_hw2 : k0_chk2 v1), (k0_dev4 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev130_lt : ∀ (v1 : BitVec 32) (k0_hw2 : k0_chk2 v1), (k0_dev130 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev134_lt : ∀ (v1 : BitVec 32) (k0_hw2 : k0_chk2 v1), (k0_dev134 v1) < nD := fun v1 k0_hw2 => k0_hw2.2.2.1.2.2.1
theorem k0_dev135_lt : ∀ (v1 : BitVec 32) (k0_hw2 : k0_chk2 v1), (k0_dev135 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev142_lt : ∀ (v1 : BitVec 32) (k0_hw2 : k0_chk2 v1), (k0_dev142 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev146_lt : ∀ (v1 : BitVec 32) (k0_hw2 : k0_chk2 v1), (k0_dev146 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.1
theorem k0_dev151_lt : ∀ (v1 : BitVec 32) (k0_hw2 : k0_chk2 v1), (k0_dev151 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev158_lt : ∀ (v1 : BitVec 32) (k0_hw2 : k0_chk2 v1), (k0_dev158 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev162_lt : ∀ (v1 : BitVec 32) (k0_hw2 : k0_chk2 v1), (k0_dev162 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.1
theorem k0_dev167_lt : ∀ (v1 : BitVec 32) (k0_hw2 : k0_chk2 v1), (k0_dev167 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev174_lt : ∀ (v1 : BitVec 32) (k0_hw2 : k0_chk2 v1), (k0_dev174 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev178_lt : ∀ (v1 : BitVec 32) (k0_hw2 : k0_chk2 v1), (k0_dev178 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.1
theorem k0_dev183_lt : ∀ (v1 : BitVec 32) (k0_hw2 : k0_chk2 v1), (k0_dev183 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev190_lt : ∀ (v1 : BitVec 32) (k0_hw2 : k0_chk2 v1), (k0_dev190 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev194_lt : ∀ (v1 : BitVec 32) (k0_hw2 : k0_chk2 v1), (k0_dev194 v1) < nD := fun v1 k0_hw2 => k0_hw2.2.2.2.1
theorem k0_dev195_lt : ∀ (v1 : BitVec 32) (k0_hw2 : k0_chk2 v1), (k0_dev195 v1) < nD := fun v1 k0_hw2 => k0_hw2.2.2.2.2.1
theorem k0_dev198_lt : ∀ (v1 : BitVec 32) (k0_hw2 : k0_chk2 v1), (k0_dev198 v1) < nD := fun v1 k0_hw2 => k0_hw2.2.2.2.2.2.1
theorem k0_dev199_lt : ∀ (v1 : BitVec 32) (k0_hw2 : k0_chk2 v1), (k0_dev199 v1) < nD := fun v1 k0_hw2 => k0_hw2.2.2.2.2.2.2.1
theorem k0_dev202_lt : ∀ (v1 : BitVec 32) (k0_hw2 : k0_chk2 v1), (k0_dev202 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev206_lt : ∀ (v1 : BitVec 32) (k0_hw2 : k0_chk2 v1), (k0_dev206 v1) < nD := fun v1 k0_hw2 => k0_hw2.2.2.2.2.2.2.2.2.2.1
theorem k0_dev207_lt : ∀ (v1 : BitVec 32) (k0_hw2 : k0_chk2 v1), (k0_dev207 v1) < nD := fun v1 k0_hw2 => k0_hw2.2.2.2.2.2.2.2.2.2.2.1
theorem k0_dev210_lt : ∀ (v1 : BitVec 32) (k0_hw2 : k0_chk2 v1), (k0_dev210 v1) < nD := fun v1 k0_hw2 => k0_hw2.2.2.2.2.2.2.2.2.2.2.2.1
theorem k0_dev211_lt : ∀ (v1 : BitVec 32) (k0_hw2 : k0_chk2 v1), (k0_dev211 v1) < nD := fun v1 k0_hw2 => k0_hw2.2.2.2.2.2.2.2.2.2.2.2.2.1
theorem k0_dev214_lt : ∀ (v1 : BitVec 32) (k0_hw2 : k0_chk2 v1), (k0_dev214 v1) < nD := fun v1 k0_hw2 => k0_hw2.2.2.2.2.2.2.2.2.2.2.2.2.2.1
theorem k0_dev215_lt : ∀ (v1 : BitVec 32) (k0_hw2 : k0_chk2 v1), (k0_dev215 v1) < nD := fun v1 k0_hw2 => k0_hw2.2.2.2.2.2.2.2.2.2.2.2.2.2.2.1
theorem k0_dev218_lt : ∀ (v1 : BitVec 32) (k0_hw2 : k0_chk2 v1), (k0_dev218 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev222_lt : ∀ (v1 : BitVec 32) (k0_hw2 : k0_chk2 v1), (k0_dev222 v1) < nD := fun v1 k0_hw2 => k0_hw2.2.2.2.2.2.2.2.2.2.2.2.2.2.2.2.2.2.1
theorem k0_dev223_lt : ∀ (v1 : BitVec 32) (k0_hw2 : k0_chk2 v1), (k0_dev223 v1) < nD := fun v1 k0_hw2 => k0_hw2.2.2.2.2.2.2.2.2.2.2.2.2.2.2.2.2.2.2.1
theorem k0_dev226_lt : ∀ (v1 : BitVec 32) (k0_hw2 : k0_chk2 v1), (k0_dev226 v1) < nD := fun v1 k0_hw2 => k0_hw2.2.2.2.2.2.2.2.2.2.2.2.2.2.2.2.2.2.2.2.1
theorem k0_dev227_lt : ∀ (v1 : BitVec 32) (k0_hw2 : k0_chk2 v1), (k0_dev227 v1) < nD := fun v1 k0_hw2 => k0_hw2.2.2.2.2.2.2.2.2.2.2.2.2.2.2.2.2.2.2.2.2.1
theorem k0_dev230_lt : ∀ (v1 : BitVec 32) (k0_hw2 : k0_chk2 v1), (k0_dev230 v1) < nD := fun v1 k0_hw2 => k0_hw2.2.2.2.2.2.2.2.2.2.2.2.2.2.2.2.2.2.2.2.2.2.1
theorem k0_dev231_lt : ∀ (v1 : BitVec 32) (k0_hw2 : k0_chk2 v1), (k0_dev231 v1) < nD := fun v1 k0_hw2 => k0_hw2.2.2.2.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.2.2.2.2.2.2.2.2.2.2.2.2.2.2.2.2.2.2.2.2.2.1
theorem k0_dev238_lt : ∀ (v1 : BitVec 32) (k0_hw2 : k0_chk2 v1), (k0_dev238 v1) < nD := fun v1 k0_hw2 => k0_hw2.2.2.2.2.2.2.2.2.2.2.2.2.2.2.2.2.2.2.2.2.2.2.2.2.2.1
theorem k0_dev240_lt : ∀ (v1 : BitVec 32) (k0_hw2 : k0_chk2 v1), (k0_dev240 v1) < nD := fun v1 k0_hw2 => k0_hw2.2.2.2.2.2.2.2.2.2.2.2.2.2.2.2.2.2.2.2.2.2.2.2.2.2.2.1
theorem k0_dev242_lt : ∀ (v1 : BitVec 32) (k0_hw2 : k0_chk2 v1), (k0_dev242 v1) < nD := fun v1 k0_hw2 => k0_hw2.2.2.2.2.2.2.2.2.2.2.2.2.2.2.2.2.2.2.2.2.2.2.2.2.2.2.2

def k0_off125 (d5109 : Dev nD) : Fin 2 → Nat :=
  let v5109 : BitVec 32 := Dev.word d5109
  let c1_i32_5481 : BitVec 32 := 1#32
  let v5110 : BitVec 32 := Scalar.divsi v5109 c1_i32_5481
  let c32_i32 : BitVec 32 := 32#32
  let v5111 : BitVec 32 := Scalar.remsi v5110 c32_i32
  let c128_i32_5484 : BitVec 32 := 128#32
  let v5115 : BitVec 32 := Scalar.muli v5111 c128_i32_5484
  let v5116 : Index := Scalar.indexCast v5115
  let c0_5485 : Index := 0#32
  ![v5116.toNat, 0]
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S66 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ideal.Prog.lean ====
module

public import proofs.«01_k».proof.Proof.Gen.KernelIdeal

@[expose] public section

noncomputable section

/-! # The body as a program over the pipe and the step

The kernel prints its body as one straight line: a barrier, thirty-one steps of four pipes each, and
an end. Here the same line is written once per pipe and per step, over the pipe's buffers, counters
and neighbours, and the two are equal. -/

namespace Cert.KernelIdeal.Ring

open Cert.KernelIdeal Cert.KernelIdeal.Gen
open Idealize.ShloMosaic Idealize.SL.Sem

variable {F : FTy → Type} [FloatOps F]

/-- The programs of a TensorCore. -/
abbrev P (F : FTy → Type) [FloatOps F] : Type 1 := Prog (TpuEff nD τ sig (Elt F) Λ₀ .tc) PUnit

/-- A pipe's two send buffers. -/
def sbM : Fin 4 → Memref sig .tc .vmem S2x128x2048 .bf16
  | ⟨0, _⟩ => Memref.whole cc0_scratch1
  | ⟨1, _⟩ => Memref.whole cc0_scratch2
  | ⟨2, _⟩ => Memref.whole cc0_scratch3
  | ⟨3, _⟩ => Memref.whole cc0_scratch4

/-- A pipe's two receive buffers. -/
def rbM : Fin 4 → Memref sig .tc .vmem S2x128x2048 .bf16
  | ⟨0, _⟩ => Memref.whole cc0_scratch5
  | ⟨1, _⟩ => Memref.whole cc0_scratch6
  | ⟨2, _⟩ => Memref.whole cc0_scratch7
  | ⟨3, _⟩ => Memref.whole cc0_scratch8

/-- A pipe's two send counters. -/
def ssA : Fin 4 → DmaSems sig S2
  | ⟨0, _⟩ => cc0_scratch9
  | ⟨1, _⟩ => cc0_scratch10
  | ⟨2, _⟩ => cc0_scratch11
  | ⟨3, _⟩ => cc0_scratch12

/-- A pipe's two receive counters. -/
def rsA : Fin 4 → DmaSems sig S2
  | ⟨0, _⟩ => cc0_scratch13
  | ⟨1, _⟩ => cc0_scratch14
  | ⟨2, _⟩ => cc0_scratch15
  | ⟨3, _⟩ => cc0_scratch16

/-- A pipe's credit counter. -/
def crA : Fin 4 → Sems sig S_
  | ⟨0, _⟩ => cc0_scratch17
  | ⟨1, _⟩ => cc0_scratch18
  | ⟨2, _⟩ => cc0_scratch19
  | ⟨3, _⟩ => cc0_scratch20

theorem sbM_whole : ∀ p, (sbM p).IsWhole
  | ⟨0, _⟩ => Memref.isWhole_whole _
  | ⟨1, _⟩ => Memref.isWhole_whole _
  | ⟨2, _⟩ => Memref.isWhole_whole _
  | ⟨3, _⟩ => Memref.isWhole_whole _

theorem rbM_whole : ∀ p, (rbM p).IsWhole
  | ⟨0, _⟩ => Memref.isWhole_whole _
  | ⟨1, _⟩ => Memref.isWhole_whole _
  | ⟨2, _⟩ => Memref.isWhole_whole _
  | ⟨3, _⟩ => Memref.isWhole_whole _

/-- Pipes 0 and 1 go forward round the ring, 2 and 3 backward. -/
def isFwd (p : Fin 4) : Bool := decide (p.1 < 2)

/-- The column at which a pipe's part of the result begins. -/
def colOf : Fin 4 → ℕ
  | ⟨0, _⟩ => 0
  | ⟨1, _⟩ => 2048
  | ⟨2, _⟩ => 4096
  | ⟨3, _⟩ => 6144

theorem inb_col : ∀ p, ∀ a, (![0, colOf p] : Fin 2 → ℕ) a + S128x2048.size a ≤ S128x8192.size a
  | ⟨0, _⟩ => inb_S128x8192_S128x2048_0_0
  | ⟨1, _⟩ => inb_S128x8192_S128x2048_0_2048
  | ⟨2, _⟩ => inb_S128x8192_S128x2048_0_4096
  | ⟨3, _⟩ => inb_S128x8192_S128x2048_0_6144

theorem inb_slot (k : ℕ) : ∀ a, (![k % 2, 0, 0] : Fin 3 → ℕ) a + S1x128x2048.size a ≤ S2x128x2048.size a := by
  rcases Nat.mod_two_eq_zero_or_one k with h | h <;> rw [h]
  · exact inb_S2x128x2048_S1x128x2048_0_0_0
  · exact inb_S2x128x2048_S1x128x2048_1_0_0

theorem inb_sem (k : ℕ) : ∀ a, (![k % 2] : Fin 1 → ℕ) a + S1.size a ≤ S2.size a := by
  rcases Nat.mod_two_eq_zero_or_one k with h | h <;> rw [h]
  · exact inb_S2_S1_0
  · exact inb_S2_S1_1

/-- The rectangle of message `k`'s slot in a pair of buffers. -/
abbrev slotR (k : ℕ) : Rect S2x128x2048 := Rect.unit (s := S2x128x2048) ![k % 2, 0, 0] S1x128x2048.size (inb_slot k)

theorem words_slot (k : ℕ) : (slotR k).WholeWords (EltTy.packing .bf16) := by
  rcases Nat.mod_two_eq_zero_or_one k with h | h <;> simp only [slotR, h]
  · exact wordsbf16_S2x128x2048_S1x128x2048_0_0_0
  · exact wordsbf16_S2x128x2048_S1x128x2048_1_0_0

theorem packed_slot (k : ℕ) : (slotR k).PackedRows (EltTy.packing .bf16) := by
  rcases Nat.mod_two_eq_zero_or_one k with h | h <;> simp only [slotR, h]
  · exact packedbf16_S2x128x2048_S1x128x2048_0_0_0
  · exact packedbf16_S2x128x2048_S1x128x2048_1_0_0

/-- Message `k`'s slot of a pair of buffers, as a buffer of its own. -/
abbrev slotM (m : Memref sig .tc .vmem S2x128x2048 .bf16) (k : ℕ) : Memref sig .tc .vmem S128x2048 .bf16 :=
  (m.slice (slotR k) (fun _ => rfl)).squeeze S128x2048 squeezes_S1x128x2048_S128x2048

/-- Message `k`'s counter of a pair. -/
abbrev slotS (a : DmaSems sig S2) (k : ℕ) : DmaSems sig S_ :=
  (a.slice (Rect.unit (s := S2) ![k % 2] S1.size (inb_sem k))).squeeze S_ squeezes_S1_S_

/-- The rectangle of a pipe's columns. -/
abbrev colR (p : Fin 4) : Rect S128x8192 := Rect.unit (s := S128x8192) ![0, colOf p] S128x2048.size (inb_col p)

/-- The rectangle of one word of the table. -/
abbrev wordR (j : Fin 66) : Rect S66 := Rect.unit (s := S66) ![j.1] S1.size (fun a => by
  have h := j.2; fin_cases a; show j.1 + 1 ≤ 66; omega)

/-- Where in the device's columns of `x` the rows of chunk `w` begin. -/
def offX (w : BitVec 32) : Fin 2 → ℕ := ![(Scalar.indexCast (Scalar.muli w 128#32)).toNat, 0]

/-- The check on a chunk number the table holds. -/
def chkX (w : BitVec 32) : Prop := ∀ a, (offX w) a + S128x128.size a ≤ S4096x128.size a
instance chkX.dec (w : BitVec 32) : Decidable (chkX w) := decidable_of_iff' _ (Iff.of_eq (chkX.eq_1 w))

/-- The device a word names. -/
def devOf (w : BitVec 32) : ℕ := (Scalar.addi 0#32 (Scalar.muli w 1#32)).toNat

/-- One device's product: a block of rows of `x` by a pipe's columns of `w`. -/
def prodP (x : Vec F S128x128 .fp8e4m3) (w : Vec F S128x2048 .bf16) : FVec F S128x2048 .f32 :=
  matmul dot_S128x128_S128x2048_S128x2048_1_0_0_1_n_n none
    (extf .bf16 (shapeCast S128x128 x shapeCasts_S128x128_S128x128) bitsLt_fp8e4m3_bf16) w
    (constant S128x2048 .f32 0x00000000#32)

/-- A message: the narrowed sum, laid out as a slot. -/
def msgP (y : FVec F S128x2048 .f32) : FVec F S1x128x2048 .bf16 :=
  shapeCast S1x128x2048 (truncf .bf16 y bitsLt_bf16_f32) shapeCasts_S128x2048_S1x128x2048

/-- A received message widened. -/
def recvP (r : Vec F S1x128x2048 .bf16) : FVec F S128x2048 .f32 :=
  extf .f32 (shapeCast S128x2048 r shapeCasts_S1x128x2048_S128x2048) bitsLt_bf16_f32

/-- The last step: the whole sum scaled, and its product with its logistic. -/
def outP (sc : F .f32) (y : FVec F S128x2048 .f32) : FVec F S128x2048 .f32 :=
  mulf (mulf y (broadcast S128x2048 sc)) (logistic (mulf y (broadcast S128x2048 sc)))

/-- The columns of `w` widened. -/
def wideP (v : Vec F S128x8192 .fp8e4m3) : FVec F S128x8192 .bf16 :=
  shapeCast S128x8192 (extf .bf16 (shapeCast S128x8192 v shapeCasts_S128x8192_S128x8192) bitsLt_fp8e4m3_bf16)
    shapeCasts_S128x8192_S128x8192

variable (x : Memref sig .tc .vmem S4096x128 .fp8e4m3) (wb : Memref sig .tc .vmem S128x8192 .fp8e4m3)
  (sx sw : Memref sig .tc .smem S1 .f32) (tab : Memref sig .tc .smem S66 .i32)
  (o : Memref sig .tc .vmem S128x8192 .f32)

/-- The buffer of the widened columns. -/
abbrev wM : Memref sig .tc .vmem S128x8192 .bf16 := Memref.whole cc0_scratch0

/-- The program's step kinds, each followed by the rest. -/
def loadX (off : Fin 2 → ℕ) (h : ∀ a, off a + S128x128.size a ≤ S4096x128.size a)
    (k : Vec F S128x128 .fp8e4m3 → P F) : P F :=
  .op (.load x (Rect.unit (s := S4096x128) off S128x128.size h).toLoadRect (View.loadsAt_vmem h_S128x128)) k

def loadW (p : Fin 4) (k : Vec F S128x2048 .bf16 → P F) : P F :=
  .op (.load wM (colR p).toLoadRect (View.loadsAt_vmem h_S128x2048)) k

/-- A device's own part of a chunk's sum. -/
def partAt (p : Fin 4) (off : Fin 2 → ℕ) (h : ∀ a, off a + S128x128.size a ≤ S4096x128.size a)
    (k : FVec F S128x2048 .f32 → P F) : P F :=
  loadX x off h fun vx => loadW p fun vw => k (prodP vx vw)

def wordAt (j : Fin 66) (k : Elt F .i32 → P F) : P F :=
  Prog.bind (smemLoad tab (wordR j) numel1_S1 rfl) k

/-- Its own part of the chunk the table names at entry `j`. -/
def partP (p : Fin 4) (j : Fin 66) (k : FVec F S128x2048 .f32 → P F) : P F :=
  wordAt tab j fun w =>
    .op (TpuEff.assume (chkX w) (chkX.dec w)) fun h => partAt x p (offX w) h.down k

def waitR (p : Fin 4) (s : ℕ) (k : P F) : P F :=
  .op (.waitDma2 (slotS (rsA p) s).sem (slotM (sbM p) s) (slotM (rbM p) s)
    (((sbM_whole p).wordExact_slice rfl _ (words_slot s)).reshape _ _)
    (((rbM_whole p).wordExact_slice rfl _ (words_slot s)).reshape _ _)) fun _ => k

def waitS (p : Fin 4) (s : ℕ) (k : P F) : P F :=
  .op (.waitDma2 (slotS (ssA p) s).sem (slotM (rbM p) s) (slotM (sbM p) s)
    (((rbM_whole p).wordExact_slice rfl _ (words_slot s)).reshape _ _)
    (((sbM_whole p).wordExact_slice rfl _ (words_slot s)).reshape _ _)) fun _ => k

def loadR (p : Fin 4) (s : ℕ) (k : Vec F S1x128x2048 .bf16 → P F) : P F :=
  .op (.load (rbM p) (slotR s).toLoadRect (View.loadsAt_vmem h_S1x128x2048)) k

/-- A message into its send slot (the old contents are read and dropped). -/
def putS (p : Fin 4) (s : ℕ) (v : FVec F S1x128x2048 .bf16) (k : P F) : P F :=
  .op (.load (sbM p) (slotR s).toLoadRect (View.loadsAt_vmem h_S1x128x2048)) fun _ =>
  .op (.store (sbM p) (slotR s) v Finset.univ (View.stores_vmem h_S1x128x2048
    ((sbM_whole p).storeExact_slice rfl _ (packed_slot s)) (fun _ => rfl)) (.inl rfl)) fun _ => k

def sendP (p : Fin 4) (s : ℕ) (d : Dev nD) (k : P F) : P F :=
  .op (.enqueueDma (slotM (sbM p) s) (.remote (Dev.tc d) (slotM (rbM p) s) (.dma (slotS (ssA p) s).sem))
    (.dma (slotS (rsA p) s).sem)
    (((sbM_whole p).wordExact_slice rfl _ (words_slot s)).reshape _ _)
    (((rbM_whole p).wordExact_slice rfl _ (words_slot s)).reshape _ _) ⟨⟨rfl, Or.inl rfl⟩, trivial⟩) fun _ => k

def signalP (sem : Sem sig) (d : Dev nD) (k : P F) : P F :=
  Prog.bind (semSignalWord d sem 1#32) fun _ => k

def waitC (sem : Sem sig) (n : BitVec 32) (k : P F) : P F :=
  Prog.bind (semWaitWord sem n) fun _ => k

/-- A step present only when `b`. -/
def opt (b : Bool) (f : P F → P F) (k : P F) : P F :=
  match b with
  | true => f k
  | false => k

/-- The neighbour a pipe sends to, of the next and the previous in the ring. -/
def toward (p : Fin 4) (nxt prv : Dev nD) : Dev nD := bif isFwd p then nxt else prv

/-- The table's entry for a pipe's chunk of step `s`. -/
def entry (p : Fin 4) (s : ℕ) : Fin 66 := Fin.ofNat 66 ((bif isFwd p then 2 else 34) + s)

variable (nxt prv : Dev nD)

/-- Step 0 of a pipe: its own part goes out. -/
def firstPipe (p : Fin 4) (k : P F) : P F :=
  partP x tab p (entry p 0) fun y => putS p 0 (msgP y) <| sendP p 0 (toward p nxt prv) k

/-- What a pipe does in step `s ≥ 1` once its own part is computed. -/
def exchPipe (p : Fin 4) (s : ℕ) (y : FVec F S128x2048 .f32) (k : P F) : P F :=
  waitR p (s - 1) <| loadR p (s - 1) fun r =>
  opt (Nat.ble 2 s) (waitS p (s - 2)) <|
  putS p s (msgP (addf y (recvP r))) <|
  opt (Nat.ble s 29) (signalP (crA p).sem (toward p prv nxt)) <|
  opt (Nat.ble 2 s) (waitC (crA p).sem 1#32) <|
  sendP p s (toward p nxt prv) k

/-- Step `s ≥ 1`: the four parts, then the four exchanges. -/
def stepP (s : ℕ) (k : P F) : P F :=
  partP x tab 0 (entry 0 s) fun y0 => partP x tab 2 (entry 2 s) fun y2 =>
  partP x tab 1 (entry 1 s) fun y1 => partP x tab 3 (entry 3 s) fun y3 =>
  exchPipe nxt prv 0 s y0 <| exchPipe nxt prv 2 s y2 <| exchPipe nxt prv 1 s y1 <| exchPipe nxt prv 3 s y3 k

/-- `n` steps from step `s`. -/
def stepsP : ℕ → ℕ → P F → P F
  | 0, _, k => k
  | n + 1, s, k => stepP x tab nxt prv s (stepsP n (s + 1) k)

/-- The end of a pipe: the last message completes the sum, and the result is stored. -/
def lastPipe (me : Dev nD) (sc : F .f32) (p : Fin 4) (k : P F) : P F :=
  partAt x p (k0_off125 me) (k0_off125_inb me) fun y =>
  waitR p 30 <| loadR p 30 fun r =>
  .op (.load o (colR p).toLoadRect (View.loadsAt_vmem h_S128x2048)) fun _ =>
  .op (.store o (colR p) (outP sc (addf y (recvP r))) Finset.univ
    (View.stores_vmem_bits_univ h_S128x2048 rfl) (.inl rfl)) fun _ => k

def scaleAt (m : Memref sig .tc .smem S1 .f32) (k : Elt F .f32 → P F) : P F :=
  Prog.bind (smemLoad m (Rect.unit (s := S1) ![0] S1.size inb_S1_S1_0) numel1_S1 rfl) k

def drainP (p : Fin 4) (k : P F) : P F := waitS p 29 <| waitS p 30 k

/-- After the last step. -/
def endP (k : P F) : P F :=
  .op .deviceId fun me => scaleAt sx fun a => scaleAt sw fun b =>
  lastPipe x o me (Scalar.mulf a b) 0 <| lastPipe x o me (Scalar.mulf a b) 2 <|
  lastPipe x o me (Scalar.mulf a b) 1 <| lastPipe x o me (Scalar.mulf a b) 3 <|
  drainP 0 <| drainP 1 <| drainP 2 <| drainP 3 k

/-- The whole of `w` widened into its buffer. -/
def widenP (k : P F) : P F :=
  .op (.load wb (Rect.unit (s := S128x8192) ![0, 0] S128x8192.size inb_S128x8192_S128x8192_0_0).toLoadRect (View.loadsAt_vmem h_S128x8192)) fun v =>
  .op (.load wM (Rect.unit (s := S128x8192) ![0, 0] S128x8192.size inb_S128x8192_S128x8192_0_0).toLoadRect (View.loadsAt_vmem h_S128x8192)) fun _ =>
  .op (.store wM (Rect.unit (s := S128x8192) ![0, 0] S128x8192.size inb_S128x8192_S128x8192_0_0) (wideP v) Finset.univ
    (View.stores_vmem h_S128x8192 ((Memref.isWhole_whole cc0_scratch0).storeExact_slice rfl _ packedbf16_S128x8192_S128x8192_0_0) (fun _ => rfl)) (.inl rfl)) fun _ => k

/-- The counter of the barrier. -/
abbrev barS : Sem sig := (SemArray.scalar (sig.barrier 0 rfl) : Sems sig S_).sem

/-- From the barrier to the end of step 0. -/
def headP (k : P F) : P F :=
  signalP barS nxt <| signalP barS prv <| waitC barS 2#32 <| widenP wb <|
  firstPipe x tab nxt prv 0 <| firstPipe x tab nxt prv 2 <| firstPipe x tab nxt prv 1 <| firstPipe x tab nxt prv 3 k

/-- The whole body. -/
def bodyP : P F :=
  wordAt tab 0 fun v0 => .op (TpuEff.assume (k0_chk1 v0) (k0_chk1.dec v0)) fun h0 =>
  wordAt tab 1 fun v1 => .op (TpuEff.assume (k0_chk2 v1) (k0_chk2.dec v1)) fun h1 =>
  headP x wb tab ⟨devOf v0, k0_dev1_lt v0 h0.down⟩ ⟨devOf v1, k0_dev2_lt v1 h1.down⟩ <|
  stepsP x tab ⟨devOf v0, k0_dev1_lt v0 h0.down⟩ ⟨devOf v1, k0_dev2_lt v1 h1.down⟩ 30 1 <|
  endP x sx sw o <| .ret ⟨⟩

end Cert.KernelIdeal.Ring
-- ==== Proof.Ideal.Mem.lean ====
module

public import proofs.«01_k».proof.Proof.Ideal.Prog
public import Idealize.ShloMosaic.Lib.Pipeline.Regions
public import Idealize.ShloMosaic.Lib.Pipeline.Kit
public import Idealize.ShloMosaic.Lib.Pipeline.Value
public import Idealize.ShloMosaic.Lib.Release
public import Idealize.ShloMosaic.Lib.Rounds
public import Idealize.ShloMosaic.Lib.Memref
public import Idealize.ShloMosaic.Lib.Tactic

@[expose] public section

noncomputable section

/-! # Loads and stores on what a device holds

A device holds a buffer, or one slot of a pair of buffers, at named contents. These are the program's
loads and stores over such holdings. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-- A slot: the device, the pipe, and which of the two. -/
abbrev Key : Type := Dev nD × Fin 4 × Fin 2

/-- The ghost state: the staging copies', the ring's rounds, and the slots' releases. -/
abbrev UU : Type := UR sig nD τ × (URounds (GSem nD τ sig) ℕ × USlots Key)

local notation "𝕄" => MT nD τ sig ℕ (Elt F) ℕ UU ℕ

abbrev EP : Emb (UR sig nD τ) 𝕄 := embL
abbrev ER : Emb (URounds (GSem nD τ sig) ℕ) 𝕄 :=
  (Emb.inl : Emb (URounds (GSem nD τ sig) ℕ) (URounds (GSem nD τ sig) ℕ × USlots Key)).trans embR
abbrev ES : Emb (USlots Key) 𝕄 :=
  (Emb.inr : Emb (USlots Key) (URounds (GSem nD τ sig) ℕ × USlots Key)).trans embR

abbrev 𝒱₀ : Variants := Variants.none

/-- A device running a program to a postcondition. -/
abbrev wpB (c : Dev nD) (prog : P F) (Q : PUnit → sProp 𝕄) : sProp 𝕄 :=
  wp frame (wpE (defs₀ (F := F)) 𝒱₀ (c : Thread nD τ) none) Set.univ prog Q

section Mem

variable (c : Dev nD) {cs : CoreSpace} {s : Shape} {e : EltTy} (m : Memref sig .tc cs s e)

theorem load_owns (r : Rect s) {hl : m.view.LoadsAt r.toLoadRect} {k : (r.shape.Idx → Elt F e) → P F}
    {q : PosShare TreeShare} (X : s.Idx → Elt F e) (Q : PUnit → sProp 𝕄) :
    (owns (c : Thread nD τ) m q X : sProp 𝕄)
      ⊢ iprop((owns (c : Thread nD τ) m q X -∗ wpB c (k fun j => X (r.emb j)) Q)
        -∗ wpB c (.op (.load m r.toLoadRect hl) k) Q) := by
  iintro H
  ihave H := (show owns (c : Thread nD τ) m q X ⊢ iprop(∃ f, ⌜m.view.read (Elt F) f = X⌝ ∗ (m.view.loc (c : Thread nD τ) ↦[m.view.set]{q} f)) from .rfl) $$ H
  icases H with ⟨%f, %hf, H⟩
  iintro Hk
  iapply (wp_load_rect 𝒱₀ (c : Thread nD τ) none Set.univ (m := m) (r := r) (S := m.view.set) (f := f) (View.set_slice_subset _ _)) $$ H
  iintro H
  rw [show ((m.access r).read (Elt F) f) = fun j => X (r.emb j) from by subst hf; rfl]
  iapply Hk
  iapply (show iprop(m.view.loc (c : Thread nD τ) ↦[m.view.set]{q} f) ⊢ owns (c : Thread nD τ) m q X from by
    subst hf; exact owns_intro _ _ _ _) $$ H

theorem store_owns (r : Rect s) {w : r.shape.Idx → Elt F e} {hx : (m.access r).Stores Finset.univ}
    {hm : Finset.univ = (Finset.univ : Finset r.shape.Idx) ∨ ∀ a, r.stride a = 1} {k : PUnit → P F}
    (X : s.Idx → Elt F e) (Q : PUnit → sProp 𝕄) :
    (owns (c : Thread nD τ) m fullShare X : sProp 𝕄)
      ⊢ iprop((owns (c : Thread nD τ) m fullShare (r.overlay X w) -∗ wpB c (k ⟨⟩) Q)
        -∗ wpB c (.op (.store m r w Finset.univ hx hm) k) Q) := by
  iintro H
  ihave H := (show owns (c : Thread nD τ) m fullShare X ⊢ iprop(∃ f, ⌜m.view.read (Elt F) f = X⌝ ∗ (m.view.loc (c : Thread nD τ) ↦[m.view.set]{fullShare} f)) from .rfl) $$ H
  icases H with ⟨%f, %hf, H⟩
  iintro Hk
  iapply (wp_store 𝒱₀ (c : Thread nD τ) none Set.univ (m := m) (r := r) (Mk := Finset.univ) (S := m.view.set) (f := f)
    (by rw [View.setOn_univ]; exact View.set_slice_subset _ _)) $$ H
  iintro H
  iapply Hk
  have e : m.view.read (Elt F) ((m.access r).write (Elt F) f w Finset.univ) = r.overlay X w := by
    funext y
    by_cases hy : y ∈ Finset.univ.map r.emb
    · obtain ⟨x, -, rfl⟩ := Finset.mem_map.mp hy
      rw [Rect.overlay_emb]
      exact View.read_slice_write_emb r f w (Finset.mem_univ x)
    · rw [show r.overlay X w y = X y from Rect.overlay_of_not_mem _ _ _ (by rwa [Rect.map_emb_univ] at hy), ← hf]
      exact View.read_slice_write_of_not_mem r f w _ hy
  iapply (show iprop(m.view.loc (c : Thread nD τ) ↦[m.view.set]{fullShare} ((m.access r).write (Elt F) f w Finset.univ)) ⊢ owns (c : Thread nD τ) m fullShare (r.overlay X w) from by
    rw [← e]; exact owns_intro _ _ _ _) $$ H

variable (r : Rect s) (hr : ∀ a, r.stride a = 1) (s' : Shape) (h : r.shape.Squeezes s')

theorem load_sq {hl : m.view.LoadsAt r.toLoadRect} {k : (r.shape.Idx → Elt F e) → P F} {q : PosShare TreeShare}
    (hc : s'.ShapeCasts r.shape) (X : s'.Idx → Elt F e) (Q : PUnit → sProp 𝕄) :
    (owns (c : Thread nD τ) ((m.slice r hr).squeeze s' h) q X : sProp 𝕄)
      ⊢ iprop((owns (c : Thread nD τ) ((m.slice r hr).squeeze s' h) q X -∗ wpB c (k (shapeCast r.shape X hc)) Q)
        -∗ wpB c (.op (.load m r.toLoadRect hl) k) Q) := by
  unfold owns
  iintro ⟨%f, %hf, H⟩ Hk
  iapply (wp_load_rect 𝒱₀ (c : Thread nD τ) none Set.univ (m := m) (r := r) (S := ((m.slice r hr).squeeze s' h).view.set) (f := f)
    (View.set_reshape _ _).symm.subset) $$ H
  iintro H
  rw [show ((m.access r).read (Elt F) f) = shapeCast r.shape X hc from by
    rw [← hf]
    exact (shapeCast_shapeCast ((m.access r).read (Elt F) f) h.numel_eq hc).symm]
  iapply Hk
  iexists f
  isplitr
  · ipureintro; exact hf
  iexact H

theorem store_sq {w : r.shape.Idx → Elt F e} {hx : (m.access r).Stores Finset.univ}
    {hm : Finset.univ = (Finset.univ : Finset r.shape.Idx) ∨ ∀ a, r.stride a = 1} {k : PUnit → P F}
    (hc : r.shape.ShapeCasts s') (X : s'.Idx → Elt F e) (Q : PUnit → sProp 𝕄) :
    (owns (c : Thread nD τ) ((m.slice r hr).squeeze s' h) fullShare X : sProp 𝕄)
      ⊢ iprop((owns (c : Thread nD τ) ((m.slice r hr).squeeze s' h) fullShare (shapeCast s' w hc) -∗ wpB c (k ⟨⟩) Q)
        -∗ wpB c (.op (.store m r w Finset.univ hx hm) k) Q) := by
  unfold owns
  iintro ⟨%f, %hf, H⟩ Hk
  iapply (wp_store 𝒱₀ (c : Thread nD τ) none Set.univ (m := m) (r := r) (Mk := Finset.univ)
    (S := ((m.slice r hr).squeeze s' h).view.set) (f := f)
    (by rw [View.setOn_univ]; exact (View.set_reshape _ _).symm.subset)) $$ H
  iintro H
  iapply Hk
  iexists ((m.access r).write (Elt F) f w Finset.univ)
  isplitr
  · ipureintro
    show shapeCast s' ((m.access r).read (Elt F) ((m.access r).write (Elt F) f w Finset.univ)) hc = _
    rw [View.read_write_univ]
  iexact H

end Mem

/-- A slot's contents laid out as the slot is stored, and back. -/
abbrev unsq (X : S128x2048.Idx → Elt F .bf16) : S1x128x2048.Idx → Elt F .bf16 :=
  shapeCast S1x128x2048 X shapeCasts_S128x2048_S1x128x2048
abbrev sq (X : S1x128x2048.Idx → Elt F .bf16) : S128x2048.Idx → Elt F .bf16 :=
  shapeCast S128x2048 X shapeCasts_S1x128x2048_S128x2048

omit [FloatOps F] in
theorem sq_unsq (X : S128x2048.Idx → Elt F .bf16) : sq (unsq X) = X := shapeCast_shapeCast _ _ _
omit [FloatOps F] in
theorem unsq_sq (X : S1x128x2048.Idx → Elt F .bf16) : unsq (sq X) = X := shapeCast_shapeCast _ _ _

section Slot

variable (c : Dev nD) (m : Memref sig .tc .vmem S2x128x2048 .bf16) (s : ℕ)

/-- The device holds the slot of message `s` of a pair, at `X`. -/
abbrev slotOwn (X : S128x2048.Idx → Elt F .bf16) : sProp 𝕄 := owns (c : Thread nD τ) (slotM m s) fullShare X

/-- It holds the slot at some contents. -/
def slotAny : sProp 𝕄 := iprop(∃ X : S128x2048.Idx → Elt F .bf16, slotOwn c m s X)

instance slotAny_storable : BI.Storable (upEmb : UEmb _ 𝕄) (slotAny c m s) := by unfold slotAny; infer_instance

theorem load_slot {hl : m.view.LoadsAt (slotR s).toLoadRect} {k : ((slotR s).shape.Idx → Elt F .bf16) → P F}
    (X : S128x2048.Idx → Elt F .bf16) (Q : PUnit → sProp 𝕄) :
    (slotOwn c m s X : sProp 𝕄)
      ⊢ iprop((slotOwn c m s X -∗ wpB c (k (unsq X)) Q) -∗ wpB c (.op (.load m (slotR s).toLoadRect hl) k) Q) :=
  load_sq c m (slotR s) (fun _ => rfl) S128x2048 squeezes_S1x128x2048_S128x2048 _ X Q

theorem store_slot {w : (slotR s).shape.Idx → Elt F .bf16} {hx : (m.access (slotR s)).Stores Finset.univ}
    {hm : Finset.univ = (Finset.univ : Finset (slotR s).shape.Idx) ∨ ∀ a, (slotR s).stride a = 1} {k : PUnit → P F}
    (X : S128x2048.Idx → Elt F .bf16) (Q : PUnit → sProp 𝕄) :
    (slotOwn c m s X : sProp 𝕄)
      ⊢ iprop((slotOwn c m s (sq w) -∗ wpB c (k ⟨⟩) Q)
        -∗ wpB c (.op (.store m (slotR s) w Finset.univ hx hm) k) Q) :=
  store_sq c m (slotR s) (fun _ => rfl) S128x2048 squeezes_S1x128x2048_S128x2048 _ X Q

end Slot

/-- A message into its send slot. -/
theorem wp_putS (c : Dev nD) (p : Fin 4) (s : ℕ) (v : FVec F S1x128x2048 .bf16) (k : P F) (Q : PUnit → sProp 𝕄) :
    (slotAny c (sbM p) s : sProp 𝕄) ⊢ iprop((slotOwn c (sbM p) s (sq v) -∗ wpB c k Q) -∗ wpB c (putS p s v k) Q) := by
  unfold slotAny putS
  iintro ⟨%X, H⟩ Hk
  iapply (load_slot c (sbM p) s X Q) $$ H
  iintro H
  iapply (store_slot c (sbM p) s X Q) $$ H
  iexact Hk

theorem wp_loadR (c : Dev nD) (p : Fin 4) (s : ℕ) (X : S128x2048.Idx → Elt F .bf16) (k : Vec F S1x128x2048 .bf16 → P F)
    (Q : PUnit → sProp 𝕄) :
    (slotOwn c (rbM p) s X : sProp 𝕄)
      ⊢ iprop((slotOwn c (rbM p) s X -∗ wpB c (k (unsq X)) Q) -∗ wpB c (loadR p s k) Q) :=
  load_slot c (rbM p) s X Q

section Parts

variable (c : Dev nD) (x : Memref sig .tc .vmem S4096x128 .fp8e4m3) (tab : Memref sig .tc .smem S66 .i32)

/-- The one word of a table's contents at entry `j`. -/
def wordOf (T : S66.Idx → Elt F .i32) (j : Fin 66) : Elt F .i32 :=
  T ((wordR j).emb (Shape.Idx.first (numel1_S1.symm ▸ Nat.one_pos)))

/-- The rows of `x` at an offset, and a pipe's columns of the widened `w`. -/
def rowsOf (X : S4096x128.Idx → Elt F .fp8e4m3) (off : Fin 2 → ℕ) (h : ∀ a, off a + S128x128.size a ≤ S4096x128.size a) :
    Vec F S128x128 .fp8e4m3 := fun j => X ((Rect.unit (s := S4096x128) off S128x128.size h).emb j)
def colsOf (B : S128x8192.Idx → Elt F .bf16) (p : Fin 4) : Vec F S128x2048 .bf16 := fun j => B ((colR p).emb j)

theorem wp_wordAt (q : PosShare TreeShare) (T : S66.Idx → Elt F .i32) (j : Fin 66) (k : Elt F .i32 → P F) (Q : PUnit → sProp 𝕄) :
    (owns (c : Thread nD τ) tab q T : sProp 𝕄)
      ⊢ iprop((owns (c : Thread nD τ) tab q T -∗ wpB c (k (wordOf T j)) Q) -∗ wpB c (wordAt tab j k) Q) :=
  load_owns c tab (wordR j) (k := fun f => k (f (Shape.Idx.first (numel1_S1.symm ▸ Nat.one_pos)))) T Q

/-- What a device reads throughout: its columns of `x`, the widened `w`, the table. -/
def reads (q : PosShare TreeShare) (X : S4096x128.Idx → Elt F .fp8e4m3) (B : S128x8192.Idx → Elt F .bf16) (T : S66.Idx → Elt F .i32) : sProp 𝕄 :=
  iprop(owns (c : Thread nD τ) x fullShare X ∗ owns (c : Thread nD τ) wM fullShare B ∗ owns (c : Thread nD τ) tab q T)

theorem wp_partAt (q : PosShare TreeShare) (X : S4096x128.Idx → Elt F .fp8e4m3) (B : S128x8192.Idx → Elt F .bf16) (T : S66.Idx → Elt F .i32)
    (p : Fin 4) (off : Fin 2 → ℕ) (h : ∀ a, off a + S128x128.size a ≤ S4096x128.size a) (k : FVec F S128x2048 .f32 → P F)
    (Q : PUnit → sProp 𝕄) :
    (reads c x tab q X B T : sProp 𝕄)
      ⊢ iprop((reads c x tab q X B T -∗ wpB c (k (prodP (rowsOf X off h) (colsOf B p))) Q) -∗ wpB c (partAt x p off h k) Q) := by
  unfold reads partAt loadX loadW
  iintro ⟨Hx, Hw, Ht⟩ Hk
  iapply (load_owns c x _ X Q) $$ Hx
  iintro Hx
  iapply (load_owns c wM _ B Q) $$ Hw
  iintro Hw
  iapply Hk
  isplitl [Hx]; · iexact Hx
  isplitl [Hw] <;> iassumption

theorem wp_partP (q : PosShare TreeShare) (X : S4096x128.Idx → Elt F .fp8e4m3) (B : S128x8192.Idx → Elt F .bf16) (T : S66.Idx → Elt F .i32)
    (p : Fin 4) (j : Fin 66) (h : chkX (wordOf T j)) (k : FVec F S128x2048 .f32 → P F) (Q : PUnit → sProp 𝕄) :
    (reads c x tab q X B T : sProp 𝕄)
      ⊢ iprop((reads c x tab q X B T -∗ wpB c (k (prodP (rowsOf X (offX (wordOf T j)) h) (colsOf B p))) Q)
        -∗ wpB c (partP x tab p j k) Q) := by
  iintro H Hk
  unfold partP
  unfold reads
  icases H with ⟨Hx, Hw, Ht⟩
  iapply (wp_wordAt c tab q T j _ Q) $$ Ht
  iintro Ht
  unfold wpB
  rw [wp_assume_of _ _ _ _ (d := chkX.dec _) h]
  iapply (wp_partAt c x tab q X B T p _ h k Q) $$ [Hx Hw Ht]
  · unfold reads
    isplitl [Hx]; · iexact Hx
    isplitl [Hw] <;> iassumption
  iexact Hk

end Parts

end Cert.KernelIdeal.Ring
-- ==== Proof.Ideal.Proto.lean ====
module

public import proofs.«01_k».proof.Proof.Ideal.Mem

@[expose] public section

noncomputable section

/-! # The ring's protocol

The devices stand in a ring. Every pipe carries thirty-one messages one way round it, alternating between
two slots. For each counter of a device:

* the barrier: both neighbours raise it once on entering, and the device waits for two. A raise says that
  the neighbour's counters are open and that its receive slots are free.
* a pipe's send counter of a slot: the device's own copies raise it, and the wait gives the slot back.
* a pipe's receive counter of a slot: the copies of the device before it raise it; the wait gives the slot
  with the message that landed.
* a pipe's credit counter: the device it sends to raises it once for each of its steps 1 to 29, after it has
  read the message of the step before; a raise says how often both receive slots have been given back. The
  device waits for one before each message from the third on.
-/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The ring -/

/-- The next device round the ring. -/
def nx (c : Dev nD) : Dev nD :=
  (![8, 0, 5, 2, 3, 6, 14, 4, 16, 1, 18, 12, 20, 10, 22, 7, 24, 9, 26, 11, 28, 13, 30, 15, 27, 17, 25, 19, 31, 21, 29, 23]
    : Fin 32 → Fin 32) c

/-- The device before it. -/
def pv (c : Dev nD) : Dev nD :=
  (![1, 9, 3, 4, 7, 2, 5, 15, 0, 17, 13, 19, 11, 21, 6, 23, 8, 25, 10, 27, 12, 29, 14, 31, 16, 26, 18, 24, 20, 30, 22, 28]
    : Fin 32 → Fin 32) c

theorem pv_nx (c : Dev nD) : pv (nx c) = c := by revert c; decide
theorem nx_pv (c : Dev nD) : nx (pv c) = c := by revert c; decide

/-- The device a pipe sends to, and the one it receives from. -/
def dst (p : Fin 4) (c : Dev nD) : Dev nD := toward p (nx c) (pv c)
def src (p : Fin 4) (c : Dev nD) : Dev nD := toward p (pv c) (nx c)

theorem src_dst (p : Fin 4) (c : Dev nD) : src p (dst p c) = c := by
  unfold src dst toward; cases isFwd p
  · exact nx_pv c
  · exact pv_nx c
theorem dst_src (p : Fin 4) (c : Dev nD) : dst p (src p c) = c := by
  unfold src dst toward; cases isFwd p
  · exact pv_nx c
  · exact nx_pv c

def ringE : Dev nD ≃ Dev nD := ⟨nx, pv, pv_nx, nx_pv⟩
def dstE (p : Fin 4) : Dev nD ≃ Dev nD := ⟨dst p, src p, src_dst p, dst_src p⟩

/-! ## Counters -/

/-- Which of a pair message `k` uses. -/
def par (k : ℕ) : Fin 2 := ⟨k % 2, Nat.mod_lt _ (by decide)⟩

theorem par_mod (k : ℕ) : k % 2 = (par k).1 % 2 := (Nat.mod_mod _ _).symm
theorem par_add_two (k : ℕ) : par (k + 2) = par k := Fin.ext (Nat.add_mod_right k 2)

omit [FloatOps F] in
theorem slotM_par (m : Memref sig .tc .vmem S2x128x2048 .bf16) (k : ℕ) : slotM m k = slotM m (par k).1 := by
  have key : ∀ (o o' : Fin 3 → ℕ) (h : ∀ a, o a + S1x128x2048.size a ≤ S2x128x2048.size a) (h' : ∀ a, o' a + S1x128x2048.size a ≤ S2x128x2048.size a),
      o = o' → (m.slice (Rect.unit (s := S2x128x2048) o S1x128x2048.size h) (fun _ => rfl)).squeeze S128x2048 squeezes_S1x128x2048_S128x2048
        = (m.slice (Rect.unit (s := S2x128x2048) o' S1x128x2048.size h') (fun _ => rfl)).squeeze S128x2048 squeezes_S1x128x2048_S128x2048 := by
    intro o o' h h' e; subst e; rfl
  exact key _ _ _ _ (by rw [par_mod k])
theorem slotS_par (a : DmaSems sig S2) (k : ℕ) : slotS a k = slotS a (par k).1 := by
  have key : ∀ (o o' : Fin 1 → ℕ) (h : ∀ x, o x + S1.size x ≤ S2.size x) (h' : ∀ x, o' x + S1.size x ≤ S2.size x),
      o = o' → (a.slice (Rect.unit (s := S2) o S1.size h)).squeeze S_ squeezes_S1_S_
        = (a.slice (Rect.unit (s := S2) o' S1.size h')).squeeze S_ squeezes_S1_S_ := by
    intro o o' h h' e; subst e; rfl
  exact key _ _ _ _ (by rw [par_mod k])

inductive Role
  | bar
  | send (p : Fin 4) (k : Fin 2)
  | recv (p : Fin 4) (k : Fin 2)
  | cred (p : Fin 4)
  | other
deriving DecidableEq

/-- What a counter is for. -/
def role : SemLoc sig → Role
  | .reg s => if s.1 = 4 then .bar else if h : s.1 < 4 then .cred ⟨s.1, h⟩ else .other
  | .dma s =>
    if h : 6 ≤ s.1 ∧ s.1 < 14 then .send ⟨(s.1 - 6) / 2, by omega⟩ ⟨(s.1 - 6) % 2, by omega⟩
    else if h : 14 ≤ s.1 ∧ s.1 < 22 then .recv ⟨(s.1 - 14) / 2, by omega⟩ ⟨(s.1 - 14) % 2, by omega⟩
    else .other

abbrev barL : SemLoc sig := .reg barS
abbrev sndL (p : Fin 4) (k : ℕ) : SemLoc sig := .dma (slotS (ssA p) k).sem
abbrev rcvL (p : Fin 4) (k : ℕ) : SemLoc sig := .dma (slotS (rsA p) k).sem
abbrev crdL (p : Fin 4) : SemLoc sig := .reg (crA p).sem

abbrev barC (c : Dev nD) : GSem nD τ sig := ((c : Thread nD τ), barL)
abbrev sndC (c : Dev nD) (p : Fin 4) (k : ℕ) : GSem nD τ sig := ((c : Thread nD τ), sndL p k)
abbrev rcvC (c : Dev nD) (p : Fin 4) (k : ℕ) : GSem nD τ sig := ((c : Thread nD τ), rcvL p k)
abbrev crdC (c : Dev nD) (p : Fin 4) : GSem nD τ sig := ((c : Thread nD τ), crdL p)

theorem role_bar : role barL = .bar := by decide
theorem role_crd (p : Fin 4) : role (crdL p) = .cred p := by revert p; decide
theorem role_snd (p : Fin 4) (k : ℕ) : role (sndL p k) = .send p (par k) := by
  unfold sndL; rw [slotS_par]; generalize par k = j; revert p j; decide
theorem role_rcv (p : Fin 4) (k : ℕ) : role (rcvL p k) = .recv p (par k) := by
  unfold rcvL; rw [slotS_par]; generalize par k = j; revert p j; decide

theorem sndL_add_two (p : Fin 4) (k : ℕ) : sndL p (k + 2) = sndL p k := by
  unfold sndL; rw [slotS_par, slotS_par _ k, par_add_two]
theorem rcvL_add_two (p : Fin 4) (k : ℕ) : rcvL p (k + 2) = rcvL p k := by
  unfold rcvL; rw [slotS_par, slotS_par _ k, par_add_two]

/-! ## What the messages hold -/

/-- The chunk a pipe's message `s` of device `c` is for: the device `s + 1` places back along the pipe. -/
def chunk (p : Fin 4) (c : Dev nD) (s : ℕ) : Dev nD := (src p)^[s + 1] c

/-- A device as a table's word. -/
def devW (d : Dev nD) : BitVec 32 := BitVec.ofNat 32 d.1

theorem chk_devW (d : Dev nD) : chkX (devW d) := by
  unfold chkX; revert d; decide

variable (xv : Dev nD → S4096x128.Idx → Elt F .fp8e4m3) (wv : Dev nD → S128x8192.Idx → Elt F .bf16)

/-- A device's own part of chunk `d`, in a pipe's columns. -/
def partV (p : Fin 4) (c d : Dev nD) : FVec F S128x2048 .f32 :=
  prodP (rowsOf (xv c) (offX (devW d)) (chk_devW d)) (colsOf (wv c) p)

/-- The message a device sends in step `s`. -/
def msg (p : Fin 4) : ℕ → Dev nD → S128x2048.Idx → Elt F .bf16
  | 0, c => sq (msgP (partV xv wv p c (chunk p c 0)))
  | s + 1, c => sq (msgP (addf (partV xv wv p c (chunk p c (s + 1))) (recvP (unsq (msg p s (src p c))))))

/-! ## The rounds -/

/-- The credit of one message. -/
abbrev N : ℕ := (slotM (rbM 0) 0).view.dmaCredit
theorem N_pos : 0 < N := View.dmaCredit_pos _ (by decide)

theorem credit_rb (p : Fin 4) (k : ℕ) : (slotM (rbM p) k).view.dmaCredit = N := by
  obtain ⟨p, hp⟩ := p
  match p, hp with
  | 0, _ => rfl
  | 1, _ => rfl
  | 2, _ => rfl
  | 3, _ => rfl
theorem credit_sb (p : Fin 4) (k : ℕ) : (slotM (sbM p) k).view.dmaCredit = N := by
  obtain ⟨p, hp⟩ := p
  match p, hp with
  | 0, _ => rfl
  | 1, _ => rfl
  | 2, _ => rfl
  | 3, _ => rfl

/-- A receiver's slot of message `m` is ready for it: given back often enough, and its counter at that round. -/
def freeAt (e : Dev nD) (p : Fin 4) (m : ℕ) : sProp 𝕄 :=
  iprop(released ES ((e, p, par m) : Key) (m / 2 + 1) ∗ reached ER (rcvC e p m) (m / 2))

/-- What a credit says: both slots are ready, for every message up to `d + 1`. -/
def credPay (e : Dev nD) (p : Fin 4) (d : ℕ) : sProp 𝕄 := iprop(freeAt e p d ∗ freeAt e p (d + 1))

/-- One pipe of a neighbour that has entered: its counters are open and its slots free. -/
def enter1 (e : Dev nD) (p : Fin 4) : sProp 𝕄 := iprop(reached ER (crdC e p) 0 ∗ credPay e p 0)
def barPay (e : Dev nD) : sProp 𝕄 := iprop(enter1 e 0 ∗ enter1 e 1 ∗ enter1 e 2 ∗ enter1 e 3)

instance freeAt_persistent (e : Dev nD) (p : Fin 4) (d : ℕ) : BI.Persistent (freeAt (F := F) e p d) := by unfold freeAt; infer_instance
instance credPay_persistent (e : Dev nD) (p : Fin 4) (d : ℕ) : BI.Persistent (credPay (F := F) e p d) := by unfold credPay; infer_instance
instance enter1_persistent (e : Dev nD) (p : Fin 4) : BI.Persistent (enter1 (F := F) e p) := by unfold enter1; infer_instance
instance barPay_persistent (e : Dev nD) : BI.Persistent (barPay (F := F) e) := by unfold barPay; infer_instance

/-- The protocol. On a barrier counter duty 0 is the device before's, duty 1 the next device's. -/
def rd : Rounds.Schedule (GSem nD τ sig) ℕ 𝕄 where
  duties g r :=
    if g.1.2 = .tc then
      match role g.2 with
      | .bar => if r = 0 then {0, 1} else ∅
      | .send _ k => if 2 * r + k.1 < 31 then {0} else ∅
      | .recv _ k => if 2 * r + k.1 < 31 then {0} else ∅
      | .cred _ => if r = 0 then Finset.Ico 1 30 else ∅
      | .other => ∅
    else ∅
  unitless _ := False
  amount g _ _ :=
    match role g.2 with
    | .send _ _ => N
    | .recv _ _ => N
    | _ => 1
  payload g r d :=
    match role g.2 with
    | .bar => if d = 0 then barPay (pv g.1.1) else barPay (nx g.1.1)
    | .send p k => slotAny g.1.1 (sbM p) k.1
    | .recv p k => slotOwn g.1.1 (rbM p) k.1 (msg xv wv p (2 * r + k.1) (src p g.1.1))
    | .cred p => credPay (dst p g.1.1) p d
    | .other => iprop(emp)
  amount_pos g _ _ _ := by
    split
    · exact N_pos
    · exact N_pos
    · exact Nat.one_pos

theorem freeAt_mono (e : Dev nD) (p : Fin 4) {m m' : ℕ} (h : m' ≤ m) (hp : m' % 2 = m % 2) :
    (freeAt e p m : sProp 𝕄) ⊢ freeAt e p m' := by
  have hpar : par m' = par m := Fin.ext hp
  have hc : rcvC e p m' = rcvC e p m := by unfold rcvC rcvL; rw [slotS_par, slotS_par _ m, hpar]
  unfold freeAt
  rw [hc, hpar]
  exact BIClass.sep_mono (released_mono ES (by omega)) (reached_mono ER (by omega))

/-- A credit from step `d` on lets message `s` go. -/
theorem credPay_free (e : Dev nD) (p : Fin 4) {d s : ℕ} (h : s ≤ d + 1) : (credPay e p d : sProp 𝕄) ⊢ freeAt e p s := by
  unfold credPay
  by_cases hp : s % 2 = d % 2
  · iintro ⟨H, -⟩; iapply (freeAt_mono e p (by omega) hp) $$ H
  · iintro ⟨-, H⟩; iapply (freeAt_mono e p h (by omega)) $$ H

instance rd_storable (g : GSem nD τ sig) (r : ℕ) (d : ℕ) :
    BI.Storable (upEmb : UEmb _ 𝕄) ((rd xv wv).payload g r d) := by
  dsimp only [rd]
  split
  · unfold barPay enter1 credPay freeAt; split <;> infer_instance
  · infer_instance
  · infer_instance
  · unfold credPay freeAt; infer_instance
  · infer_instance

section Sched

variable (c : Dev nD) (p : Fin 4) (k : ℕ)

theorem duties_bar : (rd xv wv).duties (barC c) 0 = {0, 1} := by
  dsimp only [rd]; rw [if_pos rfl, role_bar]; rfl
theorem duties_snd (h : k < 31) : (rd xv wv).duties (sndC c p k) (k / 2) = {0} := by
  dsimp only [rd]; rw [if_pos rfl, role_snd]; exact if_pos (by show 2 * (k / 2) + k % 2 < 31; omega)
theorem duties_rcv (h : k < 31) : (rd xv wv).duties (rcvC c p k) (k / 2) = {0} := by
  dsimp only [rd]; rw [if_pos rfl, role_rcv]; exact if_pos (by show 2 * (k / 2) + k % 2 < 31; omega)
theorem duties_crd : (rd xv wv).duties (crdC c p) 0 = Finset.Ico 1 30 := by
  dsimp only [rd]; rw [if_pos rfl, role_crd]; rfl

theorem amount_bar (r d : ℕ) : (rd xv wv).amount (barC c) r d = 1 := by dsimp only [rd]; rw [role_bar]
theorem amount_snd (r d : ℕ) : (rd xv wv).amount (sndC c p k) r d = N := by dsimp only [rd]; rw [role_snd]
theorem amount_rcv (r d : ℕ) : (rd xv wv).amount (rcvC c p k) r d = N := by dsimp only [rd]; rw [role_rcv]
theorem amount_crd (r d : ℕ) : (rd xv wv).amount (crdC c p) r d = 1 := by dsimp only [rd]; rw [role_crd]

theorem expect_bar : (rd xv wv).expect (barC c) 0 = 2 := by
  unfold Schedule.expect Schedule.amountOf
  rw [duties_bar, Finset.sum_congr rfl fun d _ => amount_bar xv wv c 0 d]; decide
theorem expect_snd (h : k < 31) : (rd xv wv).expect (sndC c p k) (k / 2) = N := by
  unfold Schedule.expect Schedule.amountOf; rw [duties_snd _ _ _ _ _ h, Finset.sum_singleton, amount_snd]
theorem expect_rcv (h : k < 31) : (rd xv wv).expect (rcvC c p k) (k / 2) = N := by
  unfold Schedule.expect Schedule.amountOf; rw [duties_rcv _ _ _ _ _ h, Finset.sum_singleton, amount_rcv]
theorem expect_crd : (rd xv wv).expect (crdC c p) 0 = 29 := by
  unfold Schedule.expect Schedule.amountOf
  rw [duties_crd, Finset.sum_congr rfl fun d _ => amount_crd xv wv c p 0 d]; decide

theorem payload_bar0 : (rd xv wv).payload (barC c) 0 0 = barPay (pv c) := by dsimp only [rd]; rw [role_bar]; rfl
theorem payload_bar1 : (rd xv wv).payload (barC c) 0 1 = barPay (nx c) := by dsimp only [rd]; rw [role_bar]; rfl
theorem payload_crd (d : ℕ) : (rd xv wv).payload (crdC c p) 0 d = credPay (dst p c) p d := by dsimp only [rd]; rw [role_crd]
theorem payload_snd (r d : ℕ) : (rd xv wv).payload (sndC c p k) r d = slotAny c (sbM p) k := by
  dsimp only [rd]; rw [role_snd]; unfold slotAny slotOwn; rw [slotM_par _ k]
theorem payload_rcv (d : ℕ) : (rd xv wv).payload (rcvC c p k) (k / 2) d = slotOwn c (rbM p) k (msg xv wv p k (src p c)) := by
  dsimp only [rd]; rw [role_rcv]; dsimp only
  rw [show 2 * (k / 2) + (par k).1 = k from Nat.div_add_mod k 2]
  unfold slotOwn; rw [slotM_par _ k]

theorem later_bar (r : ℕ) (h : 1 ≤ r) : (rd xv wv).duties (barC c) r = ∅ := by
  dsimp only [rd]; rw [if_pos rfl, role_bar]; exact if_neg (by omega)
theorem later_crd (r : ℕ) (h : 1 ≤ r) : (rd xv wv).duties (crdC c p) r = ∅ := by
  dsimp only [rd]; rw [if_pos rfl, role_crd]; exact if_neg (by omega)
theorem later_snd (r : ℕ) (h : 31 ≤ 2 * r + k % 2) : (rd xv wv).duties (sndC c p k) r = ∅ := by
  dsimp only [rd]; rw [if_pos rfl, role_snd]; exact if_neg (by show ¬ 2 * r + k % 2 < 31; omega)
theorem later_rcv (r : ℕ) (h : 31 ≤ 2 * r + k % 2) : (rd xv wv).duties (rcvC c p k) r = ∅ := by
  dsimp only [rd]; rw [if_pos rfl, role_rcv]; exact if_neg (by show ¬ 2 * r + k % 2 < 31; omega)

end Sched

/-! ## What is owed, and the levels -/

/-- Indices 0 to 31 on every counter of a device. -/
def L (g : GSem nD τ sig) : Finset ℕ := if g.1.2 = .tc then Finset.range 32 else ∅
/-- The barrier below the messages and credits, those in the order of their steps, everything else at 0. -/
def lv (g : GSem nD τ sig) (i : ℕ) : ℕ :=
  match role g.2 with
  | .bar => 1
  | .recv _ _ => i + 2
  | .cred _ => i + 2
  | _ => 0

theorem L_of_ne (g : GSem nD τ sig) (h : g.1.2 ≠ .tc) : L g = ∅ := if_neg h
theorem L_tc (c : Dev nD) (sm : SemLoc sig) : L ((c : Thread nD τ), sm) = Finset.range 32 := if_pos rfl

/-- Everything owed is at level `b` or above. -/
def above (b : ℕ) (A : CellTallies nD τ sig ℕ) : Prop := ∀ g i, 0 < A g i → i ∈ L g ∧ b ≤ lv g i

theorem above_zero (b : ℕ) : above b 0 := fun _ _ h => absurd h (Nat.lt_irrefl 0)
theorem above_add {b : ℕ} {A B : CellTallies nD τ sig ℕ} (hA : above b A) (hB : above b B) : above b (A + B) := fun g i h => by
  rw [Pi.add_apply, Finsupp.add_apply] at h
  rcases Nat.add_pos_iff_pos_or_pos.mp h with h | h
  · exact hA g i h
  · exact hB g i h
theorem above_mono {b b' : ℕ} {A : CellTallies nD τ sig ℕ} (h : b' ≤ b) (hA : above b A) : above b' A := fun g i hg =>
  ⟨(hA g i hg).1, h.trans (hA g i hg).2⟩
theorem above_tallyAt {b : ℕ} {g : GSem nD τ sig} {i n : ℕ} (hL : i ∈ L g) (hl : b ≤ lv g i) : above b (tallyAt g i n) := fun g' i' h => by
  rw [tallyAt_apply] at h
  by_cases e : g' = g ∧ i' = i
  · obtain ⟨rfl, rfl⟩ := e; exact ⟨hL, hl⟩
  · rw [if_neg e] at h; exact absurd h (Nat.lt_irrefl 0)
theorem above_sum {ι : Type} {b : ℕ} (s : Finset ι) (f : ι → CellTallies nD τ sig ℕ) (h : ∀ i ∈ s, above b (f i)) :
    above b (∑ i ∈ s, f i) := by
  classical
  induction s using Finset.induction_on with
  | empty => rw [Finset.sum_empty]; exact above_zero b
  | insert a s ha ih =>
    rw [Finset.sum_insert ha]
    exact above_add (h a (Finset.mem_insert_self _ _)) (ih fun i hi => h i (Finset.mem_insert_of_mem hi))

theorem mayWait (c : Dev nD) (sm : SemLoc sig) (i b : ℕ) (hi : i < 32) (hl : lv ((c : Thread nD τ), sm) i < b)
    {A : CellTallies nD τ sig ℕ} (hA : above b A) : (levAts L lv : sProp 𝕄) ⊢ MayWait (c : Thread nD τ) sm i A :=
  MayOwe.of_cut (L := L) (lev := lv) (lv ((c : Thread nD τ), sm) i)
    (fun p hp => by rw [Finset.mem_singleton.mp hp, L_tc]; exact Finset.mem_range.mpr hi)
    (fun g u hg => (hA g u hg).1)
    (fun p hp => by rw [Finset.mem_singleton.mp hp])
    (fun g u hg => hl.trans_le (hA g u hg).2)

/-- What a device owes on a pipe with messages from `a` on and credits from `b` on to come. -/
def oweM (c : Dev nD) (p : Fin 4) (a : ℕ) : CellTallies nD τ sig ℕ := ∑ m ∈ Finset.Ico a 31, tallyAt (rcvC (dst p c) p m) m N
def oweC (c : Dev nD) (p : Fin 4) (b : ℕ) : CellTallies nD τ sig ℕ := ∑ m ∈ Finset.Ico b 30, tallyAt (crdC (src p c) p) m 1

theorem lv_bar (c : Dev nD) (i : ℕ) : lv (barC c) i = 1 := by dsimp only [lv]; rw [role_bar]
theorem lv_rcv (c : Dev nD) (p : Fin 4) (k i : ℕ) : lv (rcvC c p k) i = i + 2 := by dsimp only [lv]; rw [role_rcv]
theorem lv_crd (c : Dev nD) (p : Fin 4) (i : ℕ) : lv (crdC c p) i = i + 2 := by dsimp only [lv]; rw [role_crd]
theorem lv_snd (c : Dev nD) (p : Fin 4) (k i : ℕ) : lv (sndC c p k) i = 0 := by dsimp only [lv]; rw [role_snd]

theorem above_oweM (c : Dev nD) (p : Fin 4) (a : ℕ) : above (a + 2) (oweM c p a) :=
  above_sum _ _ fun m hm => above_tallyAt (by rw [L_tc]; have := Finset.mem_Ico.mp hm; exact Finset.mem_range.mpr (by omega))
    (by rw [lv_rcv]; have := Finset.mem_Ico.mp hm; omega)
theorem above_oweC (c : Dev nD) (p : Fin 4) (b : ℕ) : above (b + 2) (oweC c p b) :=
  above_sum _ _ fun m hm => above_tallyAt (by rw [L_tc]; have := Finset.mem_Ico.mp hm; exact Finset.mem_range.mpr (by omega))
    (by rw [lv_crd]; have := Finset.mem_Ico.mp hm; omega)

theorem Ico_head {a b : ℕ} (h : a < b) : Finset.Ico a b = insert a (Finset.Ico (a + 1) b) := by
  ext x; simp only [Finset.mem_insert, Finset.mem_Ico]; omega

theorem oweM_step (c : Dev nD) (p : Fin 4) (a : ℕ) (h : a < 31) :
    oweM c p a = oweM c p (a + 1) + tallyAt (rcvC (dst p c) p a) a N := by
  unfold oweM; rw [Ico_head h, Finset.sum_insert (by simp), add_comm]
theorem oweC_step (c : Dev nD) (p : Fin 4) (b : ℕ) (h : b < 30) :
    oweC c p b = oweC c p (b + 1) + tallyAt (crdC (src p c) p) b 1 := by
  unfold oweC; rw [Ico_head h, Finset.sum_insert (by simp), add_comm]
theorem oweM_done (c : Dev nD) (p : Fin 4) : oweM c p 31 = 0 := by unfold oweM; simp
theorem oweC_done (c : Dev nD) (p : Fin 4) (b : ℕ) (h : 30 ≤ b) : oweC c p b = 0 := by
  unfold oweC; rw [Finset.Ico_eq_empty (by omega), Finset.sum_empty]

end Cert.KernelIdeal.Ring
-- ==== Proof.Ideal.Step.lean ====
module

public import proofs.«01_k».proof.Proof.Ideal.Proto

@[expose] public section

noncomputable section

/-! # One step of one pipe

What a device holds of a pipe between two steps, and what each operation of a step does to it, for every
pipe and every step at once. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

/-! ## The records -/

/-- The counters a device has of its own, by pipe: two send, two receive, one credit. -/
def osem : Fin 4 × Fin 5 → SemLoc sig
  | (p, ⟨0, _⟩) => sndL p 0
  | (p, ⟨1, _⟩) => sndL p 1
  | (p, ⟨2, _⟩) => rcvL p 0
  | (p, ⟨3, _⟩) => rcvL p 1
  | (p, ⟨4, _⟩) => crdL p

theorem osem_inj : Function.Injective osem := by decide
theorem osem_ne_bar : ∀ k, osem k ≠ barL := by decide

def barEmb : Dev nD ↪ GSem nD τ sig := ⟨fun c => barC c, fun _ _ h => congrArg (fun g : GSem nD τ sig => g.1.1) h⟩
def scEmb : Dev nD × (Fin 4 × Fin 5) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

/-- Every counter's invariant and every slot's. -/
def inv : sProp 𝕄 :=
  iprop((bigSep (barCells ∪ scCells) fun g => cellInv ER (rd xv wv) (K g) g)
    ∗ bigSep Finset.univ fun k : Key => slotInv ES (J k) k (slotAny k.1 (rbM k.2.1) k.2.2.1))

instance inv_persistent : BI.Persistent (inv xv wv K J) := by unfold inv; infer_instance

theorem inv_cell {g : GSem nD τ sig} (h : g ∈ (barCells ∪ scCells : Finset (GSem nD τ sig))) :
    inv xv wv K J ⊢ cellInv ER (rd xv wv) (K g) g := by
  have e : (bigSep (barCells ∪ scCells) fun g => cellInv ER (rd xv wv) (K g) g) ⊢ cellInv ER (rd xv wv) (K g) g := bigSep_elim h
  unfold inv; iintro ⟨H, -⟩; iapply e $$ H

theorem bar_mem (c : Dev nD) : barC c ∈ (barCells ∪ scCells : Finset (GSem nD τ sig)) :=
  Finset.mem_union_left _ (Finset.mem_map_of_mem barEmb (Finset.mem_univ c))
theorem sc_mem (c : Dev nD) (k : Fin 4 × Fin 5) : ((c : Thread nD τ), osem k) ∈ (barCells ∪ scCells : Finset (GSem nD τ sig)) :=
  Finset.mem_union_right _ (Finset.mem_map_of_mem scEmb (Finset.mem_univ (c, k)))
theorem snd_mem (c : Dev nD) (p : Fin 4) (k : ℕ) : sndC c p k ∈ (barCells ∪ scCells : Finset (GSem nD τ sig)) := by
  have h : sndC c p k = sndC c p (par k).1 := by unfold sndC sndL; rw [slotS_par]
  rw [h]; generalize par k = j
  match j with
  | ⟨0, _⟩ => exact sc_mem c (p, 0)
  | ⟨1, _⟩ => exact sc_mem c (p, 1)
theorem rcv_mem (c : Dev nD) (p : Fin 4) (k : ℕ) : rcvC c p k ∈ (barCells ∪ scCells : Finset (GSem nD τ sig)) := by
  have h : rcvC c p k = rcvC c p (par k).1 := by unfold rcvC rcvL; rw [slotS_par]
  rw [h]; generalize par k = j
  match j with
  | ⟨0, _⟩ => exact sc_mem c (p, 2)
  | ⟨1, _⟩ => exact sc_mem c (p, 3)
theorem crd_mem (c : Dev nD) (p : Fin 4) : crdC c p ∈ (barCells ∪ scCells : Finset (GSem nD τ sig)) := sc_mem c (p, 4)

theorem inv_bar (c : Dev nD) : inv xv wv K J ⊢ cellInv ER (rd xv wv) (K (barC c)) (barC c) := inv_cell xv wv K J (bar_mem c)
theorem inv_snd (c : Dev nD) (p : Fin 4) (k : ℕ) : inv xv wv K J ⊢ cellInv ER (rd xv wv) (K (sndC c p k)) (sndC c p k) :=
  inv_cell xv wv K J (snd_mem c p k)
theorem inv_rcv (c : Dev nD) (p : Fin 4) (k : ℕ) : inv xv wv K J ⊢ cellInv ER (rd xv wv) (K (rcvC c p k)) (rcvC c p k) :=
  inv_cell xv wv K J (rcv_mem c p k)
theorem inv_crd (c : Dev nD) (p : Fin 4) : inv xv wv K J ⊢ cellInv ER (rd xv wv) (K (crdC c p)) (crdC c p) :=
  inv_cell xv wv K J (crd_mem c p)
theorem inv_slot (c : Dev nD) (p : Fin 4) (k : ℕ) :
    inv xv wv K J ⊢ slotInv ES (J (c, p, par k)) ((c, p, par k) : Key) (slotAny (F := F) c (rbM p) k) := by
  have h : slotAny (F := F) c (rbM p) k = slotAny c (rbM p) (par k).1 := by unfold slotAny slotOwn; rw [slotM_par]
  rw [h]
  have e : (bigSep Finset.univ fun k : Key => slotInv ES (J k) k (slotAny (F := F) k.1 (rbM k.2.1) k.2.2.1))
      ⊢ slotInv ES (J (c, p, par k)) ((c, p, par k) : Key) (slotAny (F := F) c (rbM p) (par k).1) :=
    bigSep_elim (Finset.mem_univ ((c, p, par k) : Key))
  unfold inv; iintro ⟨-, H⟩; iapply e $$ H

/-! ## What a device holds of a pipe -/

/-- Message `m`'s send slot free, or its copy under way. -/
def idle (c : Dev nD) (p : Fin 4) (m : ℕ) : sProp 𝕄 :=
  iprop(atPos ER (sndC c p m) (m / 2) ∅ 0 ∗ reached ER (sndC c p m) (m / 2) ∗ slotAny c (sbM p) m)
def busy (c : Dev nD) (p : Fin 4) (m : ℕ) : sProp 𝕄 :=
  iprop(atPos ER (sndC c p m) (m / 2) ∅ 0 ∗ cred (tallyAt (sndC c p m) 0 N))
/-- The reader of message `m`'s slot, the slot given back. -/
def rdAt (c : Dev nD) (p : Fin 4) (m : ℕ) : sProp 𝕄 :=
  iprop(atPos ER (rcvC c p m) (m / 2) ∅ 0 ∗ readerAt ES ((c, p, par m) : Key) (m / 2 + 1) ∗ freeAt c p m)
/-- After `n` credits have been spent. -/
def crAt (c : Dev nD) (p : Fin 4) (n : ℕ) : sProp 𝕄 :=
  if n < 29 then
    iprop(∃ T : Finset ℕ, ⌜T ⊆ Finset.Ico 1 30⌝ ∗ atPos ER (crdC c p) 0 T n ∗ bigSep T fun d => credPay (dst p c) p d)
  else iprop(atPos ER (crdC c p) 1 ∅ 0)

/-- The rights a device has on a pipe: to send message `m`; to be told of it; to give credit `m`; to be given it. -/
def sendTok (c : Dev nD) (p : Fin 4) (m : ℕ) : sProp 𝕄 :=
  iprop(dutyTok ER (sndC c p m) (m / 2) 0 ∗ dutyTok ER (rcvC (dst p c) p m) (m / 2) 0 ∗ writeTok ES ((dst p c, p, par m) : Key) (m / 2 + 1))
def recvCr (c : Dev nD) (p : Fin 4) (m : ℕ) : sProp 𝕄 := cred (tallyAt (rcvC c p m) m N)
def credTok (c : Dev nD) (p : Fin 4) (m : ℕ) : sProp 𝕄 := dutyTok ER (crdC (src p c) p) 0 m
def waitCr (c : Dev nD) (p : Fin 4) (m : ℕ) : sProp 𝕄 := cred (tallyAt (crdC c p) m 1)

def owed (c : Dev nD) (O : CellTallies nD τ sig ℕ) : sProp 𝕄 := iprop(∃ W, owes (c : Thread nD τ) O W)

/-- The rights left before step `s`. -/
def toks (c : Dev nD) (p : Fin 4) (s : ℕ) : sProp 𝕄 :=
  iprop(bigSep (Finset.Ico s 31) (sendTok c p) ∗ bigSep (Finset.Ico (s - 1) 31) (recvCr c p)
    ∗ bigSep (Finset.Ico s 30) (credTok c p) ∗ bigSep (Finset.Ico (max (s - 1) 1) 30) (waitCr c p))

/-- The other send slot before step `s`: before step 1 it has not been used. -/
def other (c : Dev nD) (p : Fin 4) (s : ℕ) : sProp 𝕄 := if 2 ≤ s then busy c p (s - 2) else idle c p s

/-- A pipe before step `s`. -/
def St (c : Dev nD) (p : Fin 4) (s : ℕ) : sProp 𝕄 :=
  iprop(busy c p (s - 1) ∗ other c p s ∗ rdAt c p (s - 1) ∗ rdAt c p s ∗ crAt c p (s - 2) ∗ toks c p s)

/-- What a pipe's neighbours said on entering. -/
def met (c : Dev nD) (p : Fin 4) : sProp 𝕄 := iprop(reached ER (crdC (src p c) p) 0 ∗ freeAt (dst p c) p 0 ∗ freeAt (dst p c) p 1)
instance met_persistent (c : Dev nD) (p : Fin 4) : BI.Persistent (met (F := F) c p) := by unfold met; infer_instance

omit [FloatOps F] in
theorem bigSep_Ico_head {a b : ℕ} (h : a < b) (Φ : ℕ → sProp 𝕄) :
    bigSep (Finset.Ico a b) Φ = iprop(Φ a ∗ bigSep (Finset.Ico (a + 1) b) Φ) := by
  rw [Ico_head h, bigSep_insert (by simp)]; rfl

/-! ## The operations -/

section Ops

variable (c : Dev nD) (p : Fin 4) (m : ℕ) (k : P F) (A : CellTallies nD τ sig ℕ)

theorem wp_waitR (Q : PUnit → sProp 𝕄) (hm : m < 31) (hA : above (m + 3) A) :
    iprop(inv xv wv K J ∗ levAts L lv ∗ atPos ER (rcvC c p m) (m / 2) ∅ 0 ∗ recvCr c p m ∗ owed c A)
      ⊢ iprop(((atPos ER (rcvC c p m) (m / 2 + 1) ∅ 0 ∗ reached ER (rcvC c p m) (m / 2 + 1)
            ∗ slotOwn c (rbM p) m (msg xv wv p m (src p c)) ∗ owed c A) -∗ wpB c k Q)
        -∗ wpB c (waitR p m k) Q) := by
  unfold recvCr owed waitR
  iintro ⟨#HI, #Hlev, Hat, Hc, ⟨%W, HO⟩⟩ Hk
  iapply (Rounds.wp_wait_rest_token 𝒱₀ ER (rd xv wv) (c : Thread nD τ) none (κ := K (rcvC c p m)) (sm := rcvL p m)
      (wpE_waitDma2_eq 𝒱₀ (c : Thread nD τ) none Set.univ) (Set.mem_univ _) m (O := A) (W := W) (R := m / 2) (m := 0) (T := ∅)
      ((Nat.zero_add _).trans ((credit_rb p m).trans (expect_rcv xv wv c p m hm).symm))) $$ [Hc HO Hat]
  · isplitr; · iapply (inv_rcv xv wv K J c p m) $$ HI
    isplitl [Hc]; · rw [credit_rb]; iexact Hc
    isplitl [HO]; · iexact HO
    isplitr
    · have hmw := mayWait (F := F) c (rcvL p m) m (m + 3) (by omega) (by rw [lv_rcv]; omega) hA
      iapply hmw $$ Hlev
    iexact Hat
  rw [Finset.sdiff_empty, duties_rcv _ _ _ _ _ hm, bigSep_singleton, payload_rcv]
  iintro ⟨HO, Hat, Hr, Hpay⟩
  iapply Hk
  isplitl [Hat]; · iexact Hat
  isplitl [Hr]; · iexact Hr
  isplitl [Hpay]; · iexact Hpay
  iexists _; iexact HO

theorem wp_waitS (Q : PUnit → sProp 𝕄) (hm : m < 31) (hA : above 1 A) :
    iprop(inv xv wv K J ∗ levAts L lv ∗ busy c p m ∗ owed c A)
      ⊢ iprop(((idle c p (m + 2) ∗ owed c A) -∗ wpB c k Q) -∗ wpB c (waitS p m k) Q) := by
  unfold busy owed waitS idle
  iintro ⟨#HI, #Hlev, ⟨Hat, Hc⟩, ⟨%W, HO⟩⟩ Hk
  iapply (Rounds.wp_wait_rest_token 𝒱₀ ER (rd xv wv) (c : Thread nD τ) none (κ := K (sndC c p m)) (sm := sndL p m)
      (wpE_waitDma2_eq 𝒱₀ (c : Thread nD τ) none Set.univ) (Set.mem_univ _) 0 (O := A) (W := W) (R := m / 2) (m := 0) (T := ∅)
      ((Nat.zero_add _).trans ((credit_sb p m).trans (expect_snd xv wv c p m hm).symm))) $$ [Hc HO Hat]
  · isplitr; · iapply (inv_snd xv wv K J c p m) $$ HI
    isplitl [Hc]; · rw [credit_sb]; iexact Hc
    isplitl [HO]; · iexact HO
    isplitr
    · have hmw := mayWait (F := F) c (sndL p m) 0 1 (by omega) (by rw [lv_snd]; omega) hA
      iapply hmw $$ Hlev
    iexact Hat
  rw [Finset.sdiff_empty, duties_snd _ _ _ _ _ hm, bigSep_singleton, payload_snd]
  iintro ⟨HO, Hat, Hr, Hpay⟩
  iapply Hk
  have e : sndC c p (m + 2) = sndC c p m := by unfold sndC; rw [sndL_add_two]
  have e2 : slotAny (F := F) c (sbM p) (m + 2) = slotAny c (sbM p) m := by
    unfold slotAny slotOwn; rw [slotM_par, slotM_par _ m, par_add_two]
  rw [e, e2, show (m + 2) / 2 = m / 2 + 1 from Nat.add_div_right m (by decide)]
  isplitr [HO]
  · isplitl [Hat]; · iexact Hat
    isplitl [Hr]; · iexact Hr
    iexact Hpay
  iexists _; iexact HO

omit [FloatOps F] in
/-- A slot is held once. -/
theorem slot_excl : iprop(slotAny (F := F) c (rbM p) m ∗ slotAny c (rbM p) m) ⊢ (False : sProp 𝕄) := by
  unfold slotAny slotOwn owns
  iintro ⟨⟨%X, %f, -, H⟩, ⟨%Y, %g, -, H'⟩⟩
  have hne : (slotM (rbM p) m).view.set.Nonempty := View.set_nonempty (by decide)
  obtain ⟨i, hi⟩ := hne
  iapply (pointsTo_overlap_false (ℓ := (slotM (rbM p) m).view.loc (c : Thread nD τ)) (I := (slotM (rbM p) m).view.set) (J := (slotM (rbM p) m).view.set) (q := fullShare) (f := f) (g := g) hi hi)
  isplitl [H] <;> iassumption

/-- Giving a read slot back. -/
theorem give_back (X : S128x2048.Idx → Elt F .bf16) :
    iprop(inv xv wv K J ∗ readerAt ES ((c, p, par m) : Key) (m / 2 + 1) ∗ slotOwn c (rbM p) m X
        ∗ atPos ER (rcvC c p m) (m / 2 + 1) ∅ 0 ∗ reached ER (rcvC c p m) (m / 2 + 1))
      ⊢ (|={Set.univ}=> rdAt c p (m + 2) : sProp 𝕄) := by
  have e : rcvC c p (m + 2) = rcvC c p m := by unfold rcvC; rw [rcvL_add_two]
  unfold rdAt freeAt
  rw [e, par_add_two, show (m + 2) / 2 = m / 2 + 1 from Nat.add_div_right m (by decide)]
  iintro ⟨#HI, Hr, Hs, Hat, Hre⟩
  imod (slot_release ES (Set.mem_univ (J (c, p, par m))) (slot_excl c p m) (m / 2 + 1)) $$ [Hr Hs] with ⟨Hr, Hrel⟩
  · isplitr; · iapply (inv_slot xv wv K J c p m) $$ HI
    isplitl [Hr]; · iexact Hr
    unfold slotAny; iexists X; iexact Hs
  imodintro
  isplitl [Hat]; · iexact Hat
  isplitl [Hr]; · iexact Hr
  isplitl [Hrel]; · iexact Hrel
  iexact Hre

/-- Giving credit `m`, having read the message of the step before. -/
theorem wp_signalC (Q : PUnit → sProp 𝕄) (h1 : 1 ≤ m) (hm : m < 30) :
    iprop(inv xv wv K J ∗ owed c (A + oweC c p m) ∗ credTok c p m ∗ credPay c p m ∗ reached ER (crdC (src p c) p) 0)
      ⊢ iprop((owed c (A + oweC c p (m + 1)) -∗ wpB c k Q) -∗ wpB c (signalP (crA p).sem (src p c) k) Q) := by
  unfold credTok owed
  have hd : m ∈ (rd xv wv).duties (crdC (src p c) p) 0 := by rw [duties_crd]; exact Finset.mem_Ico.mpr ⟨h1, hm⟩
  have hO : A + oweC c p m = A + oweC c p (m + 1) + tallyAt (crdC (src p c) p) m 1 := by rw [oweC_step c p m hm, add_assoc]
  rw [show signalP (crA p).sem (src p c) k = .op (.semSignal (src p c : Thread nD τ) (crA p).sem ((1 : ℕ) : ℤ)) fun _ => k from rfl]
  iintro ⟨#HI, ⟨%W, HO⟩, Ht, Hp, Hr⟩ Hk
  iapply (Rounds.wp_signal 𝒱₀ ER (rd xv wv) (c : Thread nD τ) none (dst := (src p c : Thread nD τ)) (sem := (crA p).sem) (r := 0) (d := m)
      (κ := K (crdC (src p c) p)) hd (amount_crd xv wv (src p c) p 0 m) m
      (A + oweC c p (m + 1)) hO (O₀ := A + oweC c p m) (W := W)) $$ [HO Ht Hp Hr]
  · isplitr; · iapply (inv_crd xv wv K J (src p c) p) $$ HI
    isplitl [HO]; · iexact HO
    isplitl [Ht]; · iexact Ht
    isplitl [Hp]; · rw [payload_crd, dst_src]; iexact Hp
    iexact Hr
  iintro HO
  iapply Hk
  iexists W; iexact HO

/-- Being given a credit: message `n + 2` may go. -/
theorem wp_waitC (Q : PUnit → sProp 𝕄) (n : ℕ) (hn : n < 29) (hA : above (n + 4) A) :
    iprop(inv xv wv K J ∗ levAts L lv ∗ crAt c p n ∗ waitCr c p (n + 1) ∗ owed c A)
      ⊢ iprop(((crAt c p (n + 1) ∗ freeAt (dst p c) p (n + 2) ∗ owed c A) -∗ wpB c k Q) -∗ wpB c (waitC (crA p).sem 1#32 k) Q) := by
  unfold waitCr owed
  rw [show crAt (F := F) c p n = iprop(∃ T : Finset ℕ, ⌜T ⊆ Finset.Ico 1 30⌝ ∗ atPos ER (crdC c p) 0 T n ∗ bigSep T fun d => credPay (dst p c) p d) from if_pos hn]
  rw [show waitC (crA p).sem 1#32 k = .op (.semWait (crA p).sem ((1 : ℕ) : ℤ)) fun _ => k from rfl]
  iintro ⟨#HI, #Hlev, ⟨%T, %hT, Hat, #HT⟩, Hc, ⟨%W, HO⟩⟩ Hk
  have key (S : Finset ℕ) (hS : S ⊆ Finset.Ico 1 30) (hc : n + 1 ≤ S.card) :
      (bigSep S fun d => credPay (F := F) (dst p c) p d) ⊢ freeAt (dst p c) p (n + 2) := by
    obtain ⟨d, hd, hle⟩ : ∃ d ∈ S, n + 1 ≤ d := by
      by_contra hno
      push Not at hno
      have hsub : S ⊆ Finset.Ico 1 (n + 1) := fun d hd =>
        Finset.mem_Ico.mpr ⟨(Finset.mem_Ico.mp (hS hd)).1, hno d hd⟩
      have := Finset.card_le_card hsub
      rw [Nat.card_Ico] at this; omega
    exact (bigSep_elim hd).trans (credPay_free (dst p c) p (by omega))
  have hpay : (fun d => (rd xv wv).payload (crdC c p) 0 d) = fun d => credPay (F := F) (dst p c) p d :=
    funext fun d => payload_crd xv wv c p d
  by_cases hlast : n + 1 < 29
  · iapply (Rounds.wp_wait 𝒱₀ ER (rd xv wv) (c : Thread nD τ) none (κ := K (crdC c p)) (sm := crdL p)
        (wpE_semWait_eq 𝒱₀ (c : Thread nD τ) none Set.univ) (Set.mem_univ _) {(crdL p, n + 1)} (cr := Finsupp.single (n + 1) 1)
        (O := A) (W := W) (R := 0) (m := n) (T := T) (by rw [Util.total_single]) (image_single_subset _ _ _)) $$ [Hc HO Hat]
    · isplitr; · iapply (inv_crd xv wv K J c p) $$ HI
      isplitl [Hc]; · iexact Hc
      isplitl [HO]; · iexact HO
      isplitr
      · have hmw := mayWait (F := F) c (crdL p) (n + 1) (n + 4) (by omega) (by rw [lv_crd]; omega) hA
        iapply hmw $$ Hlev
      iexact Hat
    iintro %S ⟨%hS, HO, Hat, Hp⟩
    obtain ⟨hTS, hSd, hcard⟩ := hS
    rw [duties_crd] at hSd hcard
    rw [expect_crd] at hcard
    have hc : n + 1 ≤ S.card := by
      rw [Finset.card_sdiff_of_subset hSd, Nat.card_Ico] at hcard; omega
    rw [hpay]
    ihave HS := (show iprop((bigSep (S \ T) fun d => credPay (F := F) (dst p c) p d) ∗ bigSep T fun d => credPay (F := F) (dst p c) p d)
        ⊢ bigSep S fun d => credPay (F := F) (dst p c) p d from
      Entails.of_eq ((bigSep_union Finset.sdiff_disjoint).symm.trans (by rw [Finset.sdiff_union_of_subset hTS]))) $$ [Hp]
    · isplitl [Hp]; · iexact Hp
      iexact HT
    icases HS with #HS
    iapply Hk
    isplitl [Hat]
    · rw [show crAt (F := F) c p (n + 1) = iprop(∃ T : Finset ℕ, ⌜T ⊆ Finset.Ico 1 30⌝ ∗ atPos ER (crdC c p) 0 T (n + 1) ∗ bigSep T fun d => credPay (dst p c) p d) from if_pos hlast]
      iexists S
      isplitr; · ipureintro; exact hSd
      isplitl [Hat]; · iexact Hat
      iexact HS
    isplitr; · iapply (key S hSd hc) $$ HS
    iexists _; iexact HO
  · obtain rfl : n = 28 := by omega
    iapply (Rounds.wp_wait_rest_token 𝒱₀ ER (rd xv wv) (c : Thread nD τ) none (κ := K (crdC c p)) (sm := crdL p)
        (wpE_semWait_eq 𝒱₀ (c : Thread nD τ) none Set.univ) (Set.mem_univ _) 29
        (O := A) (W := W) (R := 0) (m := 28) (k' := 1) (T := T) (expect_crd xv wv c p).symm) $$ [Hc HO Hat]
    · isplitr; · iapply (inv_crd xv wv K J c p) $$ HI
      isplitl [Hc]; · iexact Hc
      isplitl [HO]; · iexact HO
      isplitr
      · have hmw := mayWait (F := F) c (crdL p) 29 32 (by omega) (by rw [lv_crd]; omega) hA
        iapply hmw $$ Hlev
      iexact Hat
    iintro ⟨HO, Hat, -, Hp⟩
    rw [hpay, duties_crd]
    ihave HS := (show iprop((bigSep (Finset.Ico 1 30 \ T) fun d => credPay (F := F) (dst p c) p d) ∗ bigSep T fun d => credPay (F := F) (dst p c) p d)
        ⊢ bigSep (Finset.Ico 1 30) fun d => credPay (F := F) (dst p c) p d from
      Entails.of_eq ((bigSep_union Finset.sdiff_disjoint).symm.trans (by rw [Finset.sdiff_union_of_subset hT]))) $$ [Hp]
    · isplitl [Hp]; · iexact Hp
      iexact HT
    iapply Hk
    isplitl [Hat]
    · rw [show crAt (F := F) c p (28 + 1) = iprop(atPos ER (crdC c p) 1 ∅ 0) from if_neg (by decide)]
      iexact Hat
    isplitl [HS]
    · iapply (key _ (Finset.Subset.refl _) (by rw [Nat.card_Ico])) $$ HS
    iexists _; iexact HO

/-- Sending message `m`. -/
theorem wp_sendP (Q : PUnit → sProp 𝕄) (hm : m < 31) :
    iprop(inv xv wv K J ∗ slotOwn c (sbM p) m (msg xv wv p m c) ∗ atPos ER (sndC c p m) (m / 2) ∅ 0 ∗ reached ER (sndC c p m) (m / 2)
        ∗ sendTok c p m ∗ freeAt (dst p c) p m ∗ owed c (A + oweM c p m))
      ⊢ iprop(((busy c p m ∗ owed c (A + oweM c p (m + 1))) -∗ wpB c k Q) -∗ wpB c (sendP p m (dst p c) k) Q) := by
  have hd₁ : 0 ∈ (rd xv wv).duties (sndC c p m) (m / 2) := by rw [duties_snd _ _ _ _ _ hm]; exact Finset.mem_singleton_self _
  have hd₂ : 0 ∈ (rd xv wv).duties (rcvC (dst p c) p m) (m / 2) := by rw [duties_rcv _ _ _ _ _ hm]; exact Finset.mem_singleton_self _
  have hO : A + oweM c p m = A + oweM c p (m + 1) + tallyAt (rcvC (dst p c) p m) m N := by rw [oweM_step c p m hm, add_assoc]
  have hp₁ (fs : (slotM (sbM p) m).view.ty.Contents (Elt F)) :
      ((slotM (sbM p) m).view.loc (c : Thread nD τ) ↦[(slotM (sbM p) m).view.set]{fullShare} fs : sProp 𝕄) ⊢ (rd xv wv).payload (sndC c p m) (m / 2) 0 := by
    rw [payload_snd]; unfold slotAny slotOwn
    iintro H; iexists _; iapply (owns_intro (c : Thread nD τ) (slotM (sbM p) m) fullShare fs) $$ H
  have hp₂ (fs : (slotM (sbM p) m).view.ty.Contents (Elt F)) (fd : (slotM (rbM p) m).view.ty.Contents (Elt F))
      (hfs : (slotM (sbM p) m).view.read (Elt F) fs = msg xv wv p m c) :
      ((slotM (rbM p) m).view.loc (dst p c : Thread nD τ) ↦[(slotM (rbM p) m).view.set]{fullShare}
        (slotM (rbM p) m).view.write (Elt F) fd ((slotM (sbM p) m).view.read (Elt F) fs) Finset.univ : sProp 𝕄)
        ⊢ (rd xv wv).payload (rcvC (dst p c) p m) (m / 2) 0 := by
    rw [payload_rcv xv wv (dst p c) p m, src_dst, ← hfs]; unfold slotOwn
    iintro H
    ihave H := (owns_intro (c := (dst p c : Thread nD τ)) (slotM (rbM p) m) fullShare
      ((slotM (rbM p) m).view.write (Elt F) fd ((slotM (sbM p) m).view.read (Elt F) fs) Finset.univ)) $$ H
    rw [View.read_write_univ]; iexact H
  unfold sendTok owed freeAt busy slotOwn
  iintro ⟨#HI, Hs, Hat, Hrs, ⟨Ht1, Ht2, Hw⟩, ⟨Hrel, Hr⟩, ⟨%W, HO⟩⟩ Hk
  iapply (fupd_wp _ _ _ _ _)
  imod (slot_take ES (Set.mem_univ (J (dst p c, p, par m))) (m / 2 + 1)) $$ [Hrel Hw] with Hd
  · isplitr; · iapply (inv_slot xv wv K J (dst p c) p m) $$ HI
    isplitl [Hrel] <;> iassumption
  imodintro
  unfold slotAny slotOwn owns
  icases Hs with ⟨%fs, %hfs, Hs⟩
  icases Hd with ⟨%Y, %fd, -, Hd⟩
  unfold sendP
  iapply (Rounds.wp_send_pointsTo 𝒱₀ ER (rd xv wv) (c : Thread nD τ) none (c' := (dst p c : Thread nD τ)) (src := slotM (sbM p) m) (dst := slotM (rbM p) m)
      (sS := sndL p m) (sem := rcvL p m) (q := fullShare) (fs := fs) (κ₁ := K (sndC c p m)) (κ₂ := K (rcvC (dst p c) p m))
      (r₁ := m / 2) (r₂ := m / 2) (d₁ := 0) (d₂ := 0) (fd := fd)
      hd₁ hd₂
      m 0 N (credit_rb p m) (amount_snd xv wv c p m _ _) (amount_rcv xv wv (dst p c) p m _ _) (A + oweM c p (m + 1))
      hO (O₀ := A + oweM c p m) (W := W)
      (hp₁ fs) (hp₂ fs fd hfs)) $$ [Hs Hd HO Ht1 Hrs Ht2 Hr]
  · isplitr; · iapply (inv_snd xv wv K J c p m) $$ HI
    isplitr; · iapply (inv_rcv xv wv K J (dst p c) p m) $$ HI
    isplitl [Hs]; · iexact Hs
    isplitl [Hd]; · iexact Hd
    isplitl [HO]; · iexact HO
    isplitl [Ht1]; · iexact Ht1
    isplitl [Hrs]; · iexact Hrs
    isplitl [Ht2]; · iexact Ht2
    iexact Hr
  iintro ⟨Hc, HO⟩
  iapply Hk
  isplitr [HO]
  · isplitl [Hat] <;> iassumption
  iexists W; iexact HO

end Ops

end Cert.KernelIdeal.Ring
-- ==== Proof.Ideal.Exch.lean ====
module

public import proofs.«01_k».proof.Proof.Ideal.Step

@[expose] public section

noncomputable section

/-! # One exchange

A pipe's exchange of a step takes what the pipe holds before the step to what it holds after it. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)
variable (c : Dev nD) (p : Fin 4) (k : P F) (A : CellTallies nD τ sig ℕ)

/-- The other send slot is free, once its copy, if there was one, is over. -/
theorem wp_optS (Q : PUnit → sProp 𝕄) (s : ℕ) (hs : s < 31) (hA : above 1 A) :
    iprop(inv xv wv K J ∗ levAts L lv ∗ other c p s ∗ owed c A)
      ⊢ iprop(((idle c p s ∗ owed c A) -∗ wpB c k Q) -∗ wpB c (opt (Nat.ble 2 s) (waitS p (s - 2)) k) Q) := by
  match s, hs with
  | 0, _ =>
    rw [show other (F := F) c p 0 = idle c p 0 from if_neg (by decide)]
    iintro ⟨-, -, H, HO⟩ Hk
    iapply Hk
    isplitl [H]; · iexact H
    iexact HO
  | 1, _ =>
    rw [show other (F := F) c p 1 = idle c p 1 from if_neg (by decide)]
    iintro ⟨-, -, H, HO⟩ Hk
    iapply Hk
    isplitl [H]; · iexact H
    iexact HO
  | n + 2, h =>
    have e : other (F := F) c p (n + 2) = busy c p n := by unfold other; rw [if_pos (by omega)]; rfl
    rw [e]
    exact wp_waitS xv wv K J c p n k A Q (by omega) hA

/-- The credit of a step, given except in the last. -/
theorem wp_optG (Q : PUnit → sProp 𝕄) (s : ℕ) (h1 : 1 ≤ s) :
    iprop(inv xv wv K J ∗ owed c (A + oweC c p s) ∗ bigSep (Finset.Ico s 30) (credTok (F := F) c p) ∗ credPay c p s ∗ met c p)
      ⊢ iprop(((owed c (A + oweC c p (s + 1)) ∗ bigSep (Finset.Ico (s + 1) 30) (credTok (F := F) c p)) -∗ wpB c k Q)
        -∗ wpB c (opt (Nat.ble s 29) (signalP (crA p).sem (src p c)) k) Q) := by
  by_cases h : s < 30
  · rw [show Nat.ble s 29 = true from Nat.ble_eq.mpr (by omega), bigSep_Ico_head h]
    unfold met
    iintro ⟨#HI, HO, ⟨Ht, Hts⟩, Hp, ⟨#Hr, -⟩⟩ Hk
    iapply (wp_signalC xv wv K J c p s k A Q h1 h) $$ [HO Ht Hp]
    · isplitr; · iexact HI
      isplitl [HO]; · iexact HO
      isplitl [Ht]; · iexact Ht
      isplitl [Hp]; · iexact Hp
      iexact Hr
    iintro HO
    iapply Hk
    isplitl [HO] <;> iassumption
  · rw [show Nat.ble s 29 = false from Bool.eq_false_iff.mpr fun hh => h (by have := Nat.le_of_ble_eq_true hh; omega)]
    rw [Finset.Ico_eq_empty (by omega : ¬ s < 30), Finset.Ico_eq_empty (by omega : ¬ s + 1 < 30), oweC_done c p s (by omega),
      oweC_done c p (s + 1) (by omega)]
    iintro ⟨-, HO, Ht, -, -⟩ Hk
    iapply Hk
    isplitl [HO] <;> iassumption

/-- The receiver's slot is free: said on entering for messages 0 and 1, by a credit afterwards. -/
theorem wp_optC (Q : PUnit → sProp 𝕄) (s : ℕ) (h1 : 1 ≤ s) (hs : s < 31) (hA : above (s + 2) A) :
    iprop(inv xv wv K J ∗ levAts L lv ∗ crAt c p (s - 2) ∗ bigSep (Finset.Ico (max (s - 1) 1) 30) (waitCr (F := F) c p) ∗ met c p ∗ owed c A)
      ⊢ iprop(((crAt c p (s - 1) ∗ bigSep (Finset.Ico (max s 1) 30) (waitCr (F := F) c p) ∗ freeAt (dst p c) p s ∗ owed c A) -∗ wpB c k Q)
        -∗ wpB c (opt (Nat.ble 2 s) (waitC (crA p).sem 1#32) k) Q) := by
  match s, h1, hs with
  | 1, _, _ =>
    unfold met
    iintro ⟨-, -, H, Ht, ⟨-, -, Hf⟩, HO⟩ Hk
    iapply Hk
    isplitl [H]; · iexact H
    isplitl [Ht]; · iexact Ht
    isplitl [Hf]; · iexact Hf
    iexact HO
  | n + 2, _, h =>
    rw [show max (n + 2 - 1) 1 = n + 1 by omega, show max (n + 2) 1 = n + 2 by omega, bigSep_Ico_head (by omega : n + 1 < 30)]
    iintro ⟨#HI, #Hlev, H, ⟨Ht, Hts⟩, -, HO⟩ Hk
    iapply (wp_waitC xv wv K J c p k A Q n (by omega) hA) $$ [H Ht HO]
    · isplitr; · iexact HI
      isplitr; · iexact Hlev
      isplitl [H]; · iexact H
      isplitl [Ht] <;> iassumption
    iintro ⟨H, Hf, HO⟩
    iapply Hk
    isplitl [H]; · iexact H
    isplitl [Hts]; · iexact Hts
    isplitl [Hf] <;> iassumption

/-- An exchange. -/
theorem wp_exch (Q : PUnit → sProp 𝕄) (s : ℕ) (h1 : 1 ≤ s) (hs : s < 31) (hA : above (s + 2) A) :
    iprop(inv xv wv K J ∗ levAts L lv ∗ met c p ∗ St c p s ∗ owed c (A + oweM c p s + oweC c p s))
      ⊢ iprop(((St c p (s + 1) ∗ owed c (A + oweM c p (s + 1) + oweC c p (s + 1))) -∗ wpB c k Q)
        -∗ wpB c (exchPipe (nx c) (pv c) p s (partV xv wv p c (chunk p c s)) k) Q) := by
  obtain ⟨t, rfl⟩ : ∃ t, s = t + 1 := ⟨s - 1, by omega⟩
  have hAll : above (t + 3) (A + oweM c p (t + 1) + oweC c p (t + 1)) :=
    above_add (above_add hA (above_oweM c p (t + 1))) (above_oweC c p (t + 1))
  have hAll' : above (t + 3) (A + oweM c p (t + 1) + oweC c p (t + 1 + 1)) :=
    above_add (above_add hA (above_oweM c p (t + 1))) (above_mono (by omega) (above_oweC c p (t + 1 + 1)))
  have e0 : exchPipe (nx c) (pv c) p (t + 1) (partV xv wv p c (chunk p c (t + 1))) k
      = (waitR p t <| loadR p t fun r => opt (Nat.ble 2 (t + 1)) (waitS p (t + 1 - 2)) <|
          putS p (t + 1) (msgP (addf (partV xv wv p c (chunk p c (t + 1))) (recvP r))) <|
          opt (Nat.ble (t + 1) 29) (signalP (crA p).sem (src p c)) <|
          opt (Nat.ble 2 (t + 1)) (waitC (crA p).sem 1#32) <| sendP p (t + 1) (dst p c) k) := rfl
  rw [e0]
  unfold St toks
  rw [show t + 1 - 1 = t from rfl, show t + 1 + 1 - 1 = t + 1 from rfl, show t + 1 + 1 - 2 = t + 1 - 1 from rfl,
    bigSep_Ico_head (by omega : t + 1 < 31), bigSep_Ico_head (by omega : t < 31)]
  iintro ⟨#HI, #Hlev, #Hmet, ⟨Hbusy, Hoth, Hrd, Hrd', Hcr, ⟨⟨Hst, Hsts⟩, ⟨Hrc, Hrcs⟩, Hcts, Hwcs⟩⟩, HO⟩ Hk
  unfold rdAt
  icases Hrd with ⟨Hat, Hrdr, -⟩
  icases Hrd' with ⟨Hat', Hrdr', #Hfree'⟩
  iapply (wp_waitR xv wv K J c p t _ _ Q (by omega) hAll) $$ [Hat Hrc HO]
  · isplitr; · iexact HI
    isplitr; · iexact Hlev
    isplitl [Hat]; · iexact Hat
    isplitl [Hrc] <;> iassumption
  iintro ⟨Hat, #Hre, Hsl, HO⟩
  iapply (wp_loadR c p t _ _ Q) $$ Hsl
  iintro Hsl
  iapply (wp_optS xv wv K J c p _ _ Q (t + 1) hs (above_mono (by omega) hAll)) $$ [Hoth HO]
  · isplitr; · iexact HI
    isplitr; · iexact Hlev
    isplitl [Hoth] <;> iassumption
  unfold idle
  iintro ⟨⟨Hsat, Hsre, Hany⟩, HO⟩
  iapply (wp_putS c p (t + 1) _ _ Q) $$ Hany
  iintro Hsb
  iapply (fupd_wp _ _ _ _ _)
  imod (give_back xv wv K J c p t _) $$ [Hrdr Hsl Hat] with Hnext
  · isplitr; · iexact HI
    isplitl [Hrdr]; · iexact Hrdr
    isplitl [Hsl]; · iexact Hsl
    isplitl [Hat]; · iexact Hat
    iexact Hre
  imodintro
  unfold rdAt
  icases Hnext with ⟨Hnat, Hnrd, #Hnfree⟩
  iapply (wp_optG xv wv K J c p _ (A + oweM c p (t + 1)) Q (t + 1) h1) $$ [HO Hcts]
  · isplitr; · iexact HI
    isplitl [HO]; · iexact HO
    isplitl [Hcts]; · iexact Hcts
    isplitr
    · unfold credPay; isplitr
      · iexact Hfree'
      · iexact Hnfree
    iexact Hmet
  iintro ⟨HO, Hcts⟩
  iapply (wp_optC xv wv K J c p _ _ Q (t + 1) h1 hs hAll') $$ [Hcr Hwcs HO]
  · isplitr; · iexact HI
    isplitr; · iexact Hlev
    isplitl [Hcr]; · iexact Hcr
    isplitl [Hwcs]; · iexact Hwcs
    isplitr; · iexact Hmet
    iexact HO
  iintro ⟨Hcr, Hwcs, Hf, HO⟩
  rw [show A + oweM c p (t + 1) + oweC c p (t + 1 + 1) = A + oweC c p (t + 1 + 1) + oweM c p (t + 1) from add_right_comm _ _ _]
  iapply (wp_sendP xv wv K J c p (t + 1) k (A + oweC c p (t + 1 + 1)) Q hs) $$ [Hsb Hsat Hsre Hst Hf HO]
  · isplitr; · iexact HI
    isplitl [Hsb]; · iexact Hsb
    isplitl [Hsat]; · iexact Hsat
    isplitl [Hsre]; · iexact Hsre
    isplitl [Hst]; · iexact Hst
    isplitl [Hf] <;> iassumption
  iintro ⟨Hb, HO⟩
  rw [show A + oweM c p (t + 1 + 1) + oweC c p (t + 1 + 1) = A + oweC c p (t + 1 + 1) + oweM c p (t + 1 + 1) from add_right_comm _ _ _]
  iapply Hk
  isplitr [HO]
  · isplitl [Hb]; · iexact Hb
    isplitl [Hbusy]
    · rw [show other (F := F) c p (t + 1 + 1) = busy c p t from by unfold other; rw [if_pos (by omega)]; rfl]
      iexact Hbusy
    isplitl [Hat' Hrdr']
    · isplitl [Hat']; · iexact Hat'
      isplitl [Hrdr']; · iexact Hrdr'
      iexact Hfree'
    isplitl [Hnat Hnrd]
    · isplitl [Hnat]; · iexact Hnat
      isplitl [Hnrd]; · iexact Hnrd
      iexact Hnfree
    isplitl [Hcr]; · iexact Hcr
    isplitl [Hsts]; · iexact Hsts
    isplitl [Hrcs]; · iexact Hrcs
    isplitl [Hcts]; · iexact Hcts
    iexact Hwcs
  iexact HO

end Cert.KernelIdeal.Ring
-- ==== Proof.Ideal.Steps.lean ====
module

public import proofs.«01_k».proof.Proof.Ideal.Exch

@[expose] public section

noncomputable section

/-! # The steps

From the first send to the last message, for the four pipes together. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

/-- The table of device `c`: its neighbours, then the chunks of its two directions, step by step. -/
structure TabOk (c : Dev nD) (T : S66.Idx → Elt F .i32) : Prop where
  next : wordOf T 0 = devW (nx c)
  prev : wordOf T 1 = devW (pv c)
  ent : ∀ (p : Fin 4) (s : ℕ), s < 31 → wordOf T (entry p s) = devW (chunk p c s)

section Steps

variable (c : Dev nD) (x : Memref sig .tc .vmem S4096x128 .fp8e4m3) (tab : Memref sig .tc .smem S66 .i32)
variable (q : PosShare TreeShare) (T : S66.Idx → Elt F .i32) (hT : TabOk c T)

/-- What a device reads throughout. -/
abbrev rds : sProp 𝕄 := reads c x tab q (xv c) (wv c) T

omit [FloatOps F] in
theorem chk_of {w : Elt F .i32} {d : Dev nD} (h : w = devW d) : chkX w := h ▸ chk_devW d

theorem rows_of {w : Elt F .i32} {d : Dev nD} (h : w = devW d) (hc : chkX w) (p : Fin 4) :
    prodP (rowsOf (xv c) (offX w) hc) (colsOf (wv c) p) = partV xv wv p c d := by subst h; rfl

theorem wp_part (p : Fin 4) (s : ℕ) (hs : s < 31) (hw : wordOf T (entry p s) = devW (chunk p c s)) (k : FVec F S128x2048 .f32 → P F)
    (Q : PUnit → sProp 𝕄) :
    (rds xv wv c x tab q T : sProp 𝕄)
      ⊢ iprop((rds xv wv c x tab q T -∗ wpB c (k (partV xv wv p c (chunk p c s))) Q) -∗ wpB c (partP x tab p (entry p s) k) Q) := by
  rw [← rows_of xv wv c hw (chk_of hw) p]
  exact wp_partP c x tab q (xv c) (wv c) T p (entry p s) (chk_of hw) k Q

/-- What a device still owes on a pipe before step `s`. -/
def ow (p : Fin 4) (s : ℕ) : CellTallies nD τ sig ℕ := oweM c p s + oweC c p s

theorem above_ow (p : Fin 4) (s : ℕ) : above (s + 2) (ow c p s) := above_add (above_oweM c p s) (above_oweC c p s)

/-- A pipe before its first send. -/
def St0 (p : Fin 4) : sProp 𝕄 :=
  iprop(idle c p 0 ∗ idle c p 1 ∗ rdAt c p 0 ∗ rdAt c p 1 ∗ crAt c p 0 ∗ sendTok c p 0 ∗ toks c p 1)

theorem wp_first (p : Fin 4) (hw : wordOf T (entry p 0) = devW (chunk p c 0)) (k : P F) (Q : PUnit → sProp 𝕄) (A : CellTallies nD τ sig ℕ) :
    iprop(inv xv wv K J ∗ met c p ∗ rds xv wv c x tab q T ∗ St0 c p ∗ owed c (A + (oweM c p 0 + oweC c p 1)))
      ⊢ iprop(((rds xv wv c x tab q T ∗ St c p 1 ∗ owed c (A + ow c p 1)) -∗ wpB c k Q) -∗ wpB c (firstPipe x tab (nx c) (pv c) p k) Q) := by
  unfold firstPipe St0
  iintro ⟨#HI, #Hmet, Hr, ⟨Hi0, Hi1, Hrd0, Hrd1, Hcr, Hst, Htk⟩, HO⟩ Hk
  iapply (wp_part xv wv c x tab q T p 0 (by decide) hw _ Q) $$ Hr
  iintro Hr
  unfold idle
  icases Hi0 with ⟨Hsat, Hsre, Hany⟩
  iapply (wp_putS c p 0 _ _ Q) $$ Hany
  iintro Hsb
  unfold met
  icases Hmet with ⟨#Hm0, #Hm1, #Hm2⟩
  rw [show A + (oweM c p 0 + oweC c p 1) = A + oweC c p 1 + oweM c p 0 from by rw [add_comm (oweM c p 0), add_assoc]]
  iapply (wp_sendP xv wv K J c p 0 k (A + oweC c p 1) Q (by decide)) $$ [Hsb Hsat Hsre Hst HO]
  · isplitr; · iexact HI
    isplitl [Hsb]; · iexact Hsb
    isplitl [Hsat]; · iexact Hsat
    isplitl [Hsre]; · iexact Hsre
    isplitl [Hst]; · iexact Hst
    isplitr; · iexact Hm1
    iexact HO
  iintro ⟨Hb, HO⟩
  iapply Hk
  isplitl [Hr]; · iexact Hr
  isplitr [HO]
  · unfold St
    isplitl [Hb]; · iexact Hb
    isplitl [Hi1]
    · rw [show other (F := F) c p 1 = idle c p 1 from if_neg (by decide)]
      unfold idle; iexact Hi1
    isplitl [Hrd0]; · iexact Hrd0
    isplitl [Hrd1]; · iexact Hrd1
    isplitl [Hcr] <;> iassumption
  rw [show A + ow c p 1 = A + oweC c p 1 + oweM c p (0 + 1) from by unfold ow; rw [add_comm (oweM c p 1), add_assoc]]
  iexact HO

/-- What is owed on the four pipes. -/
def ows (s : ℕ) : CellTallies nD τ sig ℕ := ow c 0 s + ow c 2 s + ow c 1 s + ow c 3 s

def mets : sProp 𝕄 := iprop(met c 0 ∗ met c 2 ∗ met c 1 ∗ met c 3)
instance mets_persistent : BI.Persistent (mets (F := F) c) := by unfold mets; infer_instance

def Sts (s : ℕ) : sProp 𝕄 := iprop(St c 0 s ∗ St c 2 s ∗ St c 1 s ∗ St c 3 s)

omit [FloatOps F] in
theorem owed_eq {O O' : CellTallies nD τ sig ℕ} (h : O = O') : (owed (F := F) c O : sProp 𝕄) ⊢ owed c O' := Entails.of_eq (by rw [h])

theorem wp_exch' (Q : PUnit → sProp 𝕄) (p : Fin 4) (k : P F) (s : ℕ) (A : CellTallies nD τ sig ℕ) (h1 : 1 ≤ s) (hs : s < 31) (hA : above (s + 2) A) :
    iprop(inv xv wv K J ∗ levAts L lv ∗ met c p ∗ St c p s ∗ owed c (A + ow c p s))
      ⊢ iprop(((St c p (s + 1) ∗ owed c (A + ow c p (s + 1))) -∗ wpB c k Q)
        -∗ wpB c (exchPipe (nx c) (pv c) p s (partV xv wv p c (chunk p c s)) k) Q) := by
  unfold ow; rw [← add_assoc, ← add_assoc]
  exact wp_exch xv wv K J c p k A Q s h1 hs hA

include hT in
theorem wp_step (Q : PUnit → sProp 𝕄) (k : P F) (s : ℕ) (h1 : 1 ≤ s) (hs : s < 31) :
    iprop(inv xv wv K J ∗ levAts L lv ∗ mets c ∗ rds xv wv c x tab q T ∗ Sts c s ∗ owed c (ows c s))
      ⊢ iprop(((rds xv wv c x tab q T ∗ Sts c (s + 1) ∗ owed c (ows c (s + 1))) -∗ wpB c k Q)
        -∗ wpB c (stepP x tab (nx c) (pv c) s k) Q) := by
  have ab (p : Fin 4) : above (s + 2) (ow c p s) := above_ow c p s
  have ab' (p : Fin 4) : above (s + 2) (ow c p (s + 1)) := above_mono (by omega) (above_ow c p (s + 1))
  unfold mets Sts stepP
  iintro ⟨#HI, #Hlev, ⟨#M0, #M2, #M1, #M3⟩, Hr, ⟨S0, S2, S1, S3⟩, HO⟩ Hk
  iapply (wp_part xv wv c x tab q T 0 s hs (hT.ent 0 s hs) _ Q) $$ Hr
  iintro Hr
  iapply (wp_part xv wv c x tab q T 2 s hs (hT.ent 2 s hs) _ Q) $$ Hr
  iintro Hr
  iapply (wp_part xv wv c x tab q T 1 s hs (hT.ent 1 s hs) _ Q) $$ Hr
  iintro Hr
  iapply (wp_part xv wv c x tab q T 3 s hs (hT.ent 3 s hs) _ Q) $$ Hr
  iintro Hr
  have e0 : ows c s = (ow c 2 s + ow c 1 s + ow c 3 s) + ow c 0 s := by unfold ows; ac_rfl
  have e2 : (ow c 2 s + ow c 1 s + ow c 3 s) + ow c 0 (s + 1) = (ow c 0 (s + 1) + ow c 1 s + ow c 3 s) + ow c 2 s := by ac_rfl
  have e1 : (ow c 0 (s + 1) + ow c 1 s + ow c 3 s) + ow c 2 (s + 1) = (ow c 0 (s + 1) + ow c 2 (s + 1) + ow c 3 s) + ow c 1 s := by ac_rfl
  have e3 : (ow c 0 (s + 1) + ow c 2 (s + 1) + ow c 3 s) + ow c 1 (s + 1) = (ow c 0 (s + 1) + ow c 2 (s + 1) + ow c 1 (s + 1)) + ow c 3 s := by ac_rfl
  have e4 : (ow c 0 (s + 1) + ow c 2 (s + 1) + ow c 1 (s + 1)) + ow c 3 (s + 1) = ows c (s + 1) := rfl
  iapply (wp_exch' xv wv K J c Q 0 _ s (ow c 2 s + ow c 1 s + ow c 3 s) h1 hs (above_add (above_add (ab 2) (ab 1)) (ab 3))) $$ [S0 HO]
  · isplitr; · iexact HI
    isplitr; · iexact Hlev
    isplitr; · iexact M0
    isplitl [S0]; · iexact S0
    iapply (owed_eq c e0) $$ HO
  iintro ⟨S0, HO⟩
  iapply (wp_exch' xv wv K J c Q 2 _ s (ow c 0 (s + 1) + ow c 1 s + ow c 3 s) h1 hs (above_add (above_add (ab' 0) (ab 1)) (ab 3))) $$ [S2 HO]
  · isplitr; · iexact HI
    isplitr; · iexact Hlev
    isplitr; · iexact M2
    isplitl [S2]; · iexact S2
    iapply (owed_eq c e2) $$ HO
  iintro ⟨S2, HO⟩
  iapply (wp_exch' xv wv K J c Q 1 _ s (ow c 0 (s + 1) + ow c 2 (s + 1) + ow c 3 s) h1 hs (above_add (above_add (ab' 0) (ab' 2)) (ab 3))) $$ [S1 HO]
  · isplitr; · iexact HI
    isplitr; · iexact Hlev
    isplitr; · iexact M1
    isplitl [S1]; · iexact S1
    iapply (owed_eq c e1) $$ HO
  iintro ⟨S1, HO⟩
  iapply (wp_exch' xv wv K J c Q 3 _ s (ow c 0 (s + 1) + ow c 2 (s + 1) + ow c 1 (s + 1)) h1 hs (above_add (above_add (ab' 0) (ab' 2)) (ab' 1))) $$ [S3 HO]
  · isplitr; · iexact HI
    isplitr; · iexact Hlev
    isplitr; · iexact M3
    isplitl [S3]; · iexact S3
    iapply (owed_eq c e3) $$ HO
  iintro ⟨S3, HO⟩
  iapply Hk
  isplitl [Hr]; · iexact Hr
  isplitr [HO]
  · isplitl [S0]; · iexact S0
    isplitl [S2]; · iexact S2
    isplitl [S1]; · iexact S1
    iexact S3
  iapply (owed_eq c e4) $$ HO

include hT in
theorem wp_steps (Q : PUnit → sProp 𝕄) (k : P F) (n s : ℕ) (h1 : 1 ≤ s) (hs : s + n ≤ 31) :
    iprop(inv xv wv K J ∗ levAts L lv ∗ mets c ∗ rds xv wv c x tab q T ∗ Sts c s ∗ owed c (ows c s))
      ⊢ iprop(((rds xv wv c x tab q T ∗ Sts c (s + n) ∗ owed c (ows c (s + n))) -∗ wpB c k Q)
        -∗ wpB c (stepsP x tab (nx c) (pv c) n s k) Q) := by
  induction n generalizing s with
  | zero =>
    iintro ⟨-, -, -, Hr, HS, HO⟩ Hk
    iapply Hk
    isplitl [Hr]; · iexact Hr
    isplitl [HS] <;> iassumption
  | succ n ih =>
    rw [show s + (n + 1) = s + 1 + n by omega]
    have ih' := ih (s + 1) (by omega) (by omega)
    iintro ⟨#HI, #Hlev, #Hm, Hr, HS, HO⟩ Hk
    unfold stepsP
    iapply (wp_step xv wv K J c x tab q T hT Q _ s h1 (by omega)) $$ [Hr HS HO]
    · isplitr; · iexact HI
      isplitr; · iexact Hlev
      isplitr; · iexact Hm
      isplitl [Hr]; · iexact Hr
      isplitl [HS] <;> iassumption
    iintro ⟨Hr, HS, HO⟩
    iapply ih' $$ [Hr HS HO]
    · isplitr; · iexact HI
      isplitr; · iexact Hlev
      isplitr; · iexact Hm
      isplitl [Hr]; · iexact Hr
      isplitl [HS] <;> iassumption
    iexact Hk

end Steps

end Cert.KernelIdeal.Ring
-- ==== Proof.Ideal.Ends.lean ====
module

public import proofs.«01_k».proof.Proof.Ideal.Steps

@[expose] public section

noncomputable section

/-! # Entering and leaving

A pipe's slots are given to its sender before the barrier; its last messages complete the sums; then its copies
are awaited and its counters closed at zero. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

section Pipe

variable (c : Dev nD) (p : Fin 4)

/-- A read slot not yet given to its sender. -/
def rin (m : ℕ) : sProp 𝕄 :=
  iprop(readerAt ES ((c, p, par m) : Key) 0 ∗ slotAny c (rbM p) m ∗ atPos ER (rcvC c p m) 0 ∅ 0 ∗ reached ER (rcvC c p m) 0)

/-- A pipe as the body finds it. -/
def Pre : sProp 𝕄 :=
  iprop(idle c p 0 ∗ idle c p 1 ∗ rin c p 0 ∗ rin c p 1 ∗ crAt c p 0 ∗ reached ER (crdC c p) 0 ∗ sendTok c p 0 ∗ toks c p 1)

theorem enter_slot (m : ℕ) (hm : m < 2) : iprop(inv xv wv K J ∗ rin c p m) ⊢ (|={Set.univ}=> rdAt c p m : sProp 𝕄) := by
  have e : m / 2 = 0 := by omega
  unfold rin rdAt freeAt
  rw [e]
  iintro ⟨#HI, Hr, Hs, Hat, #Hre⟩
  imod (slot_release ES (Set.mem_univ (J (c, p, par m))) (slot_excl c p m) 0) $$ [Hr Hs] with ⟨Hr, Hrel⟩
  · isplitr; · iapply (inv_slot xv wv K J c p m) $$ HI
    isplitl [Hr] <;> iassumption
  imodintro
  isplitl [Hat]; · iexact Hat
  isplitl [Hr]; · iexact Hr
  isplitl [Hrel]; · iexact Hrel
  iexact Hre

theorem enter_pipe : iprop(inv xv wv K J ∗ Pre c p) ⊢ (|={Set.univ}=> (St0 c p ∗ enter1 c p) : sProp 𝕄) := by
  unfold Pre St0 enter1 credPay
  iintro ⟨#HI, H0, H1, R0, R1, Hcr, #Hre, Hst, Htk⟩
  imod (enter_slot xv wv K J c p 0 (by decide)) $$ [R0] with R0
  · isplitr; · iexact HI
    iexact R0
  imod (enter_slot xv wv K J c p 1 (by decide)) $$ [R1] with R1
  · isplitr; · iexact HI
    iexact R1
  imodintro
  unfold rdAt
  icases R0 with ⟨A0, B0, #F0⟩
  icases R1 with ⟨A1, B1, #F1⟩
  isplitr []
  · isplitl [H0]; · iexact H0
    isplitl [H1]; · iexact H1
    isplitl [A0 B0]
    · isplitl [A0]; · iexact A0
      isplitl [B0]; · iexact B0
      iexact F0
    isplitl [A1 B1]
    · isplitl [A1]; · iexact A1
      isplitl [B1]; · iexact B1
      iexact F1
    isplitl [Hcr]; · iexact Hcr
    isplitl [Hst] <;> iassumption
  isplitr; · iexact Hre
  isplitr
  · iexact F0
  · iexact F1

/-- A pipe's last message read, and its copies over. -/
def Read : sProp 𝕄 :=
  iprop(atPos ER (rcvC c p 30) 16 ∅ 0 ∗ slotAny c (rbM p) 30 ∗ rdAt c p 31 ∗ crAt c p 29)
def Done : sProp 𝕄 := iprop(idle c p 31 ∗ idle c p 32 ∗ Read c p)

/-- A pipe as the body leaves it: its counters at zero, its buffers its own. -/
def Post : sProp 𝕄 :=
  iprop((bigSep Finset.univ fun i : Fin 5 => semVal ((c : Thread nD τ), osem (p, i)) 0)
    ∗ slotAny c (sbM p) 0 ∗ slotAny c (sbM p) 1 ∗ slotAny c (rbM p) 0 ∗ slotAny c (rbM p) 1)

omit [FloatOps F] in
theorem slotAny_par (m : Memref sig .tc .vmem S2x128x2048 .bf16) (s : ℕ) : slotAny (F := F) c m s = slotAny c m (par s).1 := by
  unfold slotAny slotOwn; rw [slotM_par]

theorem close_pipe : iprop(inv xv wv K J ∗ writeTok ES ((c, p, par 31) : Key) 16 ∗ Done c p) ⊢ (|={Set.univ}=> Post c p : sProp 𝕄) := by
  have es (k : ℕ) : sndC c p k = sndC c p (par k).1 := by unfold sndC sndL; rw [slotS_par]
  have er (k : ℕ) : rcvC c p k = rcvC c p (par k).1 := by unfold rcvC rcvL; rw [slotS_par]
  have ePost : Post (F := F) c p = iprop((semVal (sndC c p 32) 0 ∗ semVal (sndC c p 31) 0 ∗ semVal (rcvC c p 30) 0 ∗ semVal (rcvC c p 31) 0 ∗ semVal (crdC c p) 0)
      ∗ slotAny c (sbM p) 32 ∗ slotAny c (sbM p) 31 ∗ slotAny c (rbM p) 30 ∗ slotAny c (rbM p) 31) := by
    unfold Post
    rw [bigSep_univ_eq_bigSepL [0, 1, 2, 3, 4] (by decide) (by decide)]
    rw [slotAny_par c (rbM p) 30, slotAny_par c (rbM p) 31, slotAny_par c (sbM p) 31, slotAny_par c (sbM p) 32, es 32, es 31, er 30, er 31]
    rfl
  rw [ePost]
  unfold Done Read idle rdAt freeAt
  rw [show crAt (F := F) c p 29 = iprop(atPos ER (crdC c p) 1 ∅ 0) from if_neg (by decide)]
  iintro ⟨#HI, Hw, ⟨As1, -, S1⟩, ⟨As0, -, S0⟩, Ar0, R0, ⟨Ar1, -, #Hrel, -⟩, Ac⟩
  imod (slot_take ES (Set.mem_univ (J (c, p, par 31))) (31 / 2 + 1)) $$ [Hw] with R1
  · isplitr; · iapply (inv_slot xv wv K J c p 31) $$ HI
    isplitr; · iexact Hrel
    iexact Hw
  imod (Rounds.cell_close ER (rd xv wv) (g := sndC c p 32) (R := 16) (Set.mem_univ (K (sndC c p 32))) id fun r h => later_snd xv wv c p 32 r (by omega)) $$ [As0] with V0
  · isplitr; · iapply (inv_snd xv wv K J c p 32) $$ HI
    iexact As0
  imod (Rounds.cell_close ER (rd xv wv) (g := sndC c p 31) (R := 15) (Set.mem_univ (K (sndC c p 31))) id fun r h => later_snd xv wv c p 31 r (by omega)) $$ [As1] with V1
  · isplitr; · iapply (inv_snd xv wv K J c p 31) $$ HI
    iexact As1
  imod (Rounds.cell_close ER (rd xv wv) (g := rcvC c p 30) (R := 16) (Set.mem_univ (K (rcvC c p 30))) id fun r h => later_rcv xv wv c p 30 r (by omega)) $$ [Ar0] with V2
  · isplitr; · iapply (inv_rcv xv wv K J c p 30) $$ HI
    iexact Ar0
  imod (Rounds.cell_close ER (rd xv wv) (g := rcvC c p 31) (R := 15) (Set.mem_univ (K (rcvC c p 31))) id fun r h => later_rcv xv wv c p 31 r (by omega)) $$ [Ar1] with V3
  · isplitr; · iapply (inv_rcv xv wv K J c p 31) $$ HI
    iexact Ar1
  imod (Rounds.cell_close ER (rd xv wv) (g := crdC c p) (R := 1) (Set.mem_univ (K (crdC c p))) id fun r h => later_crd xv wv c p r h) $$ [Ac] with V4
  · isplitr; · iapply (inv_crd xv wv K J c p) $$ HI
    iexact Ac
  imodintro
  isplitl [V0 V1 V2 V3 V4]
  · isplitl [V0]; · iexact V0
    isplitl [V1]; · iexact V1
    isplitl [V2]; · iexact V2
    isplitl [V3]; · iexact V3
    iexact V4
  isplitl [S0]; · iexact S0
  isplitl [S1]; · iexact S1
  isplitl [R0]; · iexact R0
  iexact R1

end Pipe

omit [FloatOps F] in
/-- The four pipes, in the order the program takes them. -/
theorem bigSep_pipes (Φ : Fin 4 → sProp 𝕄) : bigSep Finset.univ Φ = iprop(Φ 0 ∗ Φ 2 ∗ Φ 1 ∗ Φ 3) :=
  bigSep_univ_eq_bigSepL [0, 2, 1, 3] (by decide) (by decide) Φ

end Cert.KernelIdeal.Ring
-- ==== Proof.Ideal.Body.lean ====
module

public import proofs.«01_k».proof.Proof.Ideal.Ends
public import Idealize.ShloMosaic.Lib.VecWindow

@[expose] public section

noncomputable section

/-! # The body

The whole body of one device, from what it finds to what it leaves. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

/-! ## The table's devices -/

theorem off_devW : ∀ d : Dev nD, offX (devW d) = ![128 * d.val, 0] := by decide +kernel
theorem devOf_devW : ∀ d : Dev nD, devOf (devW d) = d.val := by decide +kernel
theorem chk1_devW : ∀ d : Dev nD, k0_chk1 (devW d) := by decide +kernel
theorem chk2_devW : ∀ d : Dev nD, k0_chk2 (devW d) := by decide +kernel

theorem dev_of {w : BitVec 32} {d : Dev nD} (h : w = devW d) (hlt : devOf w < nD) : (⟨devOf w, hlt⟩ : Dev nD) = d := by
  subst h; exact Fin.ext (devOf_devW d)

section Last

variable (c : Dev nD) (x : Memref sig .tc .vmem S4096x128 .fp8e4m3) (wb : Memref sig .tc .vmem S128x8192 .fp8e4m3)
  (sx sw : Memref sig .tc .smem S1 .f32) (tab : Memref sig .tc .smem S66 .i32) (o : Memref sig .tc .vmem S128x8192 .f32)
variable (T : S66.Idx → Elt F .i32) (hT : TabOk c T)

/-- The result of a pipe: the last message and the device's own part, scaled, times its logistic. -/
def outV (sc : F .f32) (p : Fin 4) : FVec F S128x2048 .f32 :=
  outP sc (addf (partV xv wv p c c) (recvP (unsq (msg xv wv p 30 (src p c)))))

theorem own_part (p : Fin 4) :
    prodP (rowsOf (xv c) (k0_off125 c) (k0_off125_inb c)) (colsOf (wv c) p) = partV xv wv p c c := by
  have key (off : Fin 2 → ℕ) (e : off = offX (devW c)) (h : ∀ a, off a + S128x128.size a ≤ S4096x128.size a) :
      prodP (rowsOf (xv c) off h) (colsOf (wv c) p) = partV xv wv p c c := by subst e; rfl
  exact key _ ((k0_off125_eq c).trans (off_devW c).symm) _

theorem wp_last (Q : PUnit → sProp 𝕄) (sc : F .f32) (p : Fin 4) (k : P F) (O : S128x8192.Idx → Elt F .f32) :
    iprop(inv xv wv K J ∗ levAts L lv ∗ rds xv wv c x tab fullShare T ∗ owns (c : Thread nD τ) o fullShare O ∗ St c p 31 ∗ owed c 0)
      ⊢ iprop(((rds xv wv c x tab fullShare T ∗ owns (c : Thread nD τ) o fullShare ((colR p).overlay O (outV xv wv c sc p))
            ∗ (busy c p 29 ∗ busy c p 30 ∗ Read c p) ∗ owed c 0) -∗ wpB c k Q)
        -∗ wpB c (lastPipe x o c sc p k) Q) := by
  unfold lastPipe St toks
  rw [show other (F := F) c p 31 = busy c p 29 from if_pos (by decide)]
  rw [show 31 - 1 = 30 from rfl, bigSep_Ico_head (by decide : 30 < 31)]
  iintro ⟨#HI, #Hlev, Hr, Ho, ⟨Hb, Hb', Hrd, Hrd', Hcr, -, ⟨Hrc, -⟩, -⟩, HO⟩ Hk
  iapply (wp_partAt c x tab fullShare (xv c) (wv c) T p _ _ _ Q) $$ Hr
  rw [own_part]
  iintro Hr
  unfold Read
  ihave Hrd := (show rdAt (F := F) c p 30 ⊢ atPos ER (rcvC c p 30) (30 / 2) ∅ 0 from by unfold rdAt; iintro ⟨H, -⟩; iexact H) $$ Hrd
  iapply (wp_waitR xv wv K J c p 30 _ 0 Q (by decide) (above_zero _)) $$ [Hrd Hrc HO]
  · isplitr; · iexact HI
    isplitr; · iexact Hlev
    isplitl [Hrd]; · iexact Hrd
    isplitl [Hrc] <;> iassumption
  iintro ⟨Hat, -, Hsl, HO⟩
  iapply (wp_loadR c p 30 _ _ Q) $$ Hsl
  iintro Hsl
  iapply (load_owns c o (colR p) O Q) $$ Ho
  iintro Ho
  iapply (store_owns c o (colR p) O Q) $$ Ho
  iintro Ho
  iapply Hk
  isplitl [Hr]; · iexact Hr
  isplitl [Ho]; · iexact Ho
  isplitr [HO]
  · isplitl [Hb']; · iexact Hb'
    isplitl [Hb]; · iexact Hb
    isplitl [Hat]; · iexact Hat
    isplitl [Hsl]; · unfold slotAny; iexists _; iexact Hsl
    isplitl [Hrd'] <;> iassumption
  iexact HO

theorem wp_drain (Q : PUnit → sProp 𝕄) (p : Fin 4) (k : P F) :
    iprop(inv xv wv K J ∗ levAts L lv ∗ (busy c p 29 ∗ busy c p 30 ∗ Read c p) ∗ owed c 0)
      ⊢ iprop(((Done c p ∗ owed c 0) -∗ wpB c k Q) -∗ wpB c (drainP p k) Q) := by
  unfold drainP Done
  iintro ⟨#HI, #Hlev, ⟨H29, H30, HR⟩, HO⟩ Hk
  iapply (wp_waitS xv wv K J c p 29 _ 0 Q (by decide) (above_zero _)) $$ [H29 HO]
  · isplitr; · iexact HI
    isplitr; · iexact Hlev
    isplitl [H29] <;> iassumption
  iintro ⟨H31, HO⟩
  iapply (wp_waitS xv wv K J c p 30 _ 0 Q (by decide) (above_zero _)) $$ [H30 HO]
  · isplitr; · iexact HI
    isplitr; · iexact Hlev
    isplitl [H30] <;> iassumption
  iintro ⟨H32, HO⟩
  iapply Hk
  isplitr [HO]
  · isplitl [H31]; · iexact H31
    isplitl [H32] <;> iassumption
  iexact HO

/-- The one scale of a scale's buffer. -/
def scOf (S : S1.Idx → Elt F .f32) : F .f32 :=
  S ((Rect.unit (s := S1) ![0] S1.size inb_S1_S1_0).emb (Shape.Idx.first (numel1_S1.symm ▸ Nat.one_pos)))

theorem wp_scaleAt (m : Memref sig .tc .smem S1 .f32) (S : S1.Idx → Elt F .f32) (k : Elt F .f32 → P F) (Q : PUnit → sProp 𝕄) :
    (owns (c : Thread nD τ) m fullShare S : sProp 𝕄)
      ⊢ iprop((owns (c : Thread nD τ) m fullShare S -∗ wpB c (k (scOf S)) Q) -∗ wpB c (scaleAt m k) Q) :=
  load_owns c m (Rect.unit (s := S1) ![0] S1.size inb_S1_S1_0) (k := fun f => k (f (Shape.Idx.first (numel1_S1.symm ▸ Nat.one_pos)))) S Q

/-- The result's block over what its buffer held. -/
def resV (sc : F .f32) (O : S128x8192.Idx → Elt F .f32) : S128x8192.Idx → Elt F .f32 :=
  (colR 3).overlay ((colR 1).overlay ((colR 2).overlay ((colR 0).overlay O (outV xv wv c sc 0)) (outV xv wv c sc 2)) (outV xv wv c sc 1)) (outV xv wv c sc 3)

theorem wp_end (Q : PUnit → sProp 𝕄) (k : P F) (O : S128x8192.Idx → Elt F .f32) (Sx Sw : S1.Idx → Elt F .f32) :
    iprop(inv xv wv K J ∗ levAts L lv ∗ rds xv wv c x tab fullShare T ∗ owns (c : Thread nD τ) o fullShare O
        ∗ owns (c : Thread nD τ) sx fullShare Sx ∗ owns (c : Thread nD τ) sw fullShare Sw ∗ Sts c 31 ∗ owed c 0)
      ⊢ iprop(((rds xv wv c x tab fullShare T ∗ owns (c : Thread nD τ) o fullShare (resV xv wv c (Scalar.mulf (scOf Sx) (scOf Sw)) O)
            ∗ owns (c : Thread nD τ) sx fullShare Sx ∗ owns (c : Thread nD τ) sw fullShare Sw
            ∗ (Done c 0 ∗ Done c 2 ∗ Done c 1 ∗ Done c 3) ∗ owed c 0) -∗ wpB c k Q)
        -∗ wpB c (endP x sx sw o k) Q) := by
  unfold endP resV Sts
  rw [show wpB c (.op .deviceId fun me => scaleAt sx fun a => scaleAt sw fun b =>
      lastPipe x o me (Scalar.mulf a b) 0 <| lastPipe x o me (Scalar.mulf a b) 2 <|
      lastPipe x o me (Scalar.mulf a b) 1 <| lastPipe x o me (Scalar.mulf a b) 3 <|
      drainP 0 <| drainP 1 <| drainP 2 <| drainP 3 k) Q = wpB c (scaleAt sx fun a => scaleAt sw fun b =>
      lastPipe x o c (Scalar.mulf a b) 0 <| lastPipe x o c (Scalar.mulf a b) 2 <|
      lastPipe x o c (Scalar.mulf a b) 1 <| lastPipe x o c (Scalar.mulf a b) 3 <|
      drainP 0 <| drainP 1 <| drainP 2 <| drainP 3 k) Q from wp_deviceId ..]
  iintro ⟨#HI, #Hlev, Hr, Ho, Hsx, Hsw, ⟨S0, S2, S1, S3⟩, HO⟩ Hk
  iapply (wp_scaleAt c sx Sx _ Q) $$ Hsx
  iintro Hsx
  iapply (wp_scaleAt c sw Sw _ Q) $$ Hsw
  iintro Hsw
  iapply (wp_last xv wv K J c x tab o T Q _ 0 _ _) $$ [Hr Ho S0 HO]
  · isplitr; · iexact HI
    isplitr; · iexact Hlev
    isplitl [Hr]; · iexact Hr
    isplitl [Ho]; · iexact Ho
    isplitl [S0] <;> iassumption
  iintro ⟨Hr, Ho, S0, HO⟩
  iapply (wp_last xv wv K J c x tab o T Q _ 2 _ _) $$ [Hr Ho S2 HO]
  · isplitr; · iexact HI
    isplitr; · iexact Hlev
    isplitl [Hr]; · iexact Hr
    isplitl [Ho]; · iexact Ho
    isplitl [S2] <;> iassumption
  iintro ⟨Hr, Ho, S2, HO⟩
  iapply (wp_last xv wv K J c x tab o T Q _ 1 _ _) $$ [Hr Ho S1 HO]
  · isplitr; · iexact HI
    isplitr; · iexact Hlev
    isplitl [Hr]; · iexact Hr
    isplitl [Ho]; · iexact Ho
    isplitl [S1] <;> iassumption
  iintro ⟨Hr, Ho, S1, HO⟩
  iapply (wp_last xv wv K J c x tab o T Q _ 3 _ _) $$ [Hr Ho S3 HO]
  · isplitr; · iexact HI
    isplitr; · iexact Hlev
    isplitl [Hr]; · iexact Hr
    isplitl [Ho]; · iexact Ho
    isplitl [S3] <;> iassumption
  iintro ⟨Hr, Ho, S3, HO⟩
  iapply (wp_drain xv wv K J c Q 0 _) $$ [S0 HO]
  · isplitr; · iexact HI
    isplitr; · iexact Hlev
    isplitl [S0] <;> iassumption
  iintro ⟨S0, HO⟩
  iapply (wp_drain xv wv K J c Q 1 _) $$ [S1 HO]
  · isplitr; · iexact HI
    isplitr; · iexact Hlev
    isplitl [S1] <;> iassumption
  iintro ⟨S1, HO⟩
  iapply (wp_drain xv wv K J c Q 2 _) $$ [S2 HO]
  · isplitr; · iexact HI
    isplitr; · iexact Hlev
    isplitl [S2] <;> iassumption
  iintro ⟨S2, HO⟩
  iapply (wp_drain xv wv K J c Q 3 _) $$ [S3 HO]
  · isplitr; · iexact HI
    isplitr; · iexact Hlev
    isplitl [S3] <;> iassumption
  iintro ⟨S3, HO⟩
  iapply Hk
  isplitl [Hr]; · iexact Hr
  isplitl [Ho]; · iexact Ho
  isplitl [Hsx]; · iexact Hsx
  isplitl [Hsw]; · iexact Hsw
  isplitr [HO]
  · isplitl [S0]; · iexact S0
    isplitl [S2]; · iexact S2
    isplitl [S1] <;> iassumption
  iexact HO

/-! ## The head -/

/-- Widening the whole of `w`. -/
theorem wp_widen (Q : PUnit → sProp 𝕄) (k : P F) (V : S128x8192.Idx → Elt F .fp8e4m3) (X : S128x8192.Idx → Elt F .bf16) :
    iprop(owns (c : Thread nD τ) wb fullShare V ∗ owns (c : Thread nD τ) wM fullShare X)
      ⊢ iprop(((owns (c : Thread nD τ) wb fullShare V ∗ owns (c : Thread nD τ) wM fullShare (wideP V)) -∗ wpB c k Q)
        -∗ wpB c (widenP wb k) Q) := by
  have eload : (fun j => V ((Rect.unit (s := S128x8192) ![0, 0] S128x8192.size inb_S128x8192_S128x8192_0_0).emb j)) = V :=
    funext fun j => congrArg V (Rect.emb_unit_full (s := S128x8192) inb_S128x8192_S128x8192_0_0 j)
  have estore : (Rect.unit (s := S128x8192) ![0, 0] S128x8192.size inb_S128x8192_S128x8192_0_0).overlay X (wideP V) = wideP V := by
    funext j
    have h := Rect.overlay_emb (Rect.unit (s := S128x8192) ![0, 0] S128x8192.size inb_S128x8192_S128x8192_0_0) X (wideP V) j
    rw [Rect.emb_unit_full (s := S128x8192) inb_S128x8192_S128x8192_0_0 j] at h
    exact h
  unfold widenP
  iintro ⟨Hb, Hw⟩ Hk
  iapply (load_owns c wb _ V Q) $$ Hb
  iintro Hb
  rw [eload]
  iapply (load_owns c wM _ X Q) $$ Hw
  iintro Hw
  iapply (store_owns c wM _ X Q) $$ Hw
  iintro Hw
  rw [estore]
  iapply Hk
  isplitl [Hb] <;> iassumption

end Last

end Cert.KernelIdeal.Ring
-- ==== Proof.Ideal.Run.lean ====
module

public import proofs.«01_k».proof.Proof.Ideal.Body

@[expose] public section

noncomputable section

/-! # The run of a body

The barrier, then the head, the steps and the end: the whole body of one device. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

omit [FloatOps F] in
theorem barPay_get (e : Dev nD) (p : Fin 4) : (barPay e : sProp 𝕄) ⊢ enter1 e p := by
  unfold barPay
  match p with
  | 0 => iintro ⟨H, -⟩; iexact H
  | 1 => iintro ⟨-, H, -⟩; iexact H
  | 2 => iintro ⟨-, -, H, -⟩; iexact H
  | 3 => iintro ⟨-, -, -, H⟩; iexact H

omit [FloatOps F] in
theorem met_of (c : Dev nD) (p : Fin 4) : iprop(barPay (F := F) (pv c) ∗ barPay (nx c)) ⊢ met c p := by
  have key (a b : Dev nD) (ha : src p c = a) (hb : dst p c = b) : iprop(enter1 (F := F) a p ∗ enter1 b p) ⊢ met c p := by
    unfold enter1 credPay met; rw [ha, hb]
    iintro ⟨⟨H, -⟩, ⟨-, H'⟩⟩
    isplitl [H] <;> iassumption
  by_cases h : isFwd p = true
  · refine BIBase.Entails.trans ?_ (key (pv c) (nx c) (by unfold src toward; rw [h]; rfl) (by unfold dst toward; rw [h]; rfl))
    exact BIClass.sep_mono (barPay_get _ p) (barPay_get _ p)
  · rw [Bool.not_eq_true] at h
    refine BIBase.Entails.trans ?_ (key (nx c) (pv c) (by unfold src toward; rw [h]; rfl) (by unfold dst toward; rw [h]; rfl))
    iintro ⟨H1, H2⟩
    isplitl [H2]
    · iapply (barPay_get _ p) $$ H2
    · iapply (barPay_get _ p) $$ H1

section Run

variable (c : Dev nD) (x : Memref sig .tc .vmem S4096x128 .fp8e4m3) (wb : Memref sig .tc .vmem S128x8192 .fp8e4m3)
  (sx sw : Memref sig .tc .smem S1 .f32) (tab : Memref sig .tc .smem S66 .i32) (o : Memref sig .tc .vmem S128x8192 .f32)
variable (T : S66.Idx → Elt F .i32) (hT : TabOk c T)

/-- What the pipes owe at the start, and with the barrier's two signals. -/
def owp (p : Fin 4) : CellTallies nD τ sig ℕ := oweM c p 0 + oweC c p 1
def owe1 : CellTallies nD τ sig ℕ := owp c 0 + owp c 2 + owp c 1 + owp c 3
def owe0 : CellTallies nD τ sig ℕ := owe1 c + tallyAt (barC (pv c)) 0 1 + tallyAt (barC (nx c)) 0 1

theorem above_owp (p : Fin 4) : above 2 (owp c p) := above_add (above_oweM c p 0) (above_mono (by decide) (above_oweC c p 1))
theorem above_owe1 : above 2 (owe1 c) := above_add (above_add (above_add (above_owp c 0) (above_owp c 2)) (above_owp c 1)) (above_owp c 3)

/-- The barrier's ghost state on a device. -/
def barGh : sProp 𝕄 :=
  iprop(atPos ER (barC c) 0 ∅ 0 ∗ cred (tallyAt (barC c) 0 2)
    ∗ (dutyTok ER (barC (nx c)) 0 0 ∗ reached ER (barC (nx c)) 0) ∗ (dutyTok ER (barC (pv c)) 0 1 ∗ reached ER (barC (pv c)) 0))

theorem wp_sigBar (Q : PUnit → sProp 𝕄) (k : P F) (e : Dev nD) (d : ℕ) (hd : d ∈ (rd xv wv).duties (barC e) 0)
    (hp : (rd xv wv).payload (barC e) 0 d = barPay c) (A : CellTallies nD τ sig ℕ) :
    iprop(inv xv wv K J ∗ dutyTok ER (barC e) 0 d ∗ reached ER (barC e) 0 ∗ barPay c ∗ owed c (A + tallyAt (barC e) 0 1))
      ⊢ iprop((owed c A -∗ wpB c k Q) -∗ wpB c (signalP barS e k) Q) := by
  unfold owed
  rw [show signalP (F := F) barS e k = .op (.semSignal (e : Thread nD τ) barS ((1 : ℕ) : ℤ)) fun _ => k from rfl]
  iintro ⟨#HI, Ht, Hr, Hp, ⟨%W, HO⟩⟩ Hk
  iapply (Rounds.wp_signal 𝒱₀ ER (rd xv wv) (c : Thread nD τ) none (dst := (e : Thread nD τ)) (sem := barS) (r := 0) (d := d)
      (κ := K (barC e)) hd (amount_bar xv wv e 0 d) 0 A (O₀ := A + tallyAt (barC e) 0 1) rfl (W := W)) $$ [HO Ht Hp Hr]
  · isplitr; · iapply (inv_bar xv wv K J e) $$ HI
    isplitl [HO]; · iexact HO
    isplitl [Ht]; · iexact Ht
    isplitl [Hp]; · rw [hp]; iexact Hp
    iexact Hr
  iintro HO
  iapply Hk
  iexists W; iexact HO

/-- The barrier: both neighbours' slots are free, and this device's barrier counter is at zero again. -/
theorem wp_barrier (Q : PUnit → sProp 𝕄) (k : P F) :
    iprop(inv xv wv K J ∗ levAts L lv ∗ barGh c ∗ barPay c ∗ owed c (owe0 c))
      ⊢ iprop(((semVal (barC c) 0 ∗ mets c ∗ owed c (owe1 c)) -∗ wpB c k Q)
        -∗ wpB c (signalP barS (nx c) <| signalP barS (pv c) <| waitC barS 2#32 k) Q) := by
  have hd0 : 0 ∈ (rd xv wv).duties (barC (nx c)) 0 := by rw [duties_bar]; decide
  have hd1 : 1 ∈ (rd xv wv).duties (barC (pv c)) 0 := by rw [duties_bar]; decide
  have hp0 : (rd xv wv).payload (barC (nx c)) 0 0 = barPay c := by rw [payload_bar0, pv_nx]
  have hp1 : (rd xv wv).payload (barC (pv c)) 0 1 = barPay c := by rw [payload_bar1, nx_pv]
  have hpay : (bigSep ({0, 1} : Finset ℕ) fun d => (rd xv wv).payload (barC c) 0 d) ⊢ iprop(barPay (F := F) (pv c) ∗ barPay (nx c)) := by
    rw [bigSep_insert (by decide), bigSep_singleton, payload_bar0, payload_bar1]; exact .rfl
  have hmw := mayWait (F := F) c barL 0 2 (by omega) (by show lv (barC c) 0 < 2; rw [lv_bar]; omega) (above_owe1 c)
  rw [show waitC (F := F) barS 2#32 k = .op (.semWait barS ((2 : ℕ) : ℤ)) fun _ => k from rfl]
  unfold barGh owe0
  iintro ⟨#HI, #Hlev, ⟨Hat, Hc, ⟨Ht0, Hr0⟩, ⟨Ht1, Hr1⟩⟩, #Hp, HO⟩ Hk
  iapply (wp_sigBar xv wv K J c Q _ (nx c) 0 hd0 hp0 (owe1 c + tallyAt (barC (pv c)) 0 1)) $$ [Ht0 Hr0 HO]
  · isplitr; · iexact HI
    isplitl [Ht0]; · iexact Ht0
    isplitl [Hr0]; · iexact Hr0
    isplitr; · iexact Hp
    iexact HO
  iintro HO
  iapply (wp_sigBar xv wv K J c Q _ (pv c) 1 hd1 hp1 (owe1 c)) $$ [Ht1 Hr1 HO]
  · isplitr; · iexact HI
    isplitl [Ht1]; · iexact Ht1
    isplitl [Hr1]; · iexact Hr1
    isplitr; · iexact Hp
    iexact HO
  unfold owed
  iintro ⟨%W, HO⟩
  iapply (Rounds.wp_wait_rest_token 𝒱₀ ER (rd xv wv) (c : Thread nD τ) none (κ := K (barC c)) (sm := barL)
      (wpE_semWait_eq 𝒱₀ (c : Thread nD τ) none Set.univ) (Set.mem_univ _) 0 (O := owe1 c) (W := W) (R := 0) (m := 0) (k' := 2) (T := ∅)
      ((Nat.zero_add _).trans (expect_bar xv wv c).symm)) $$ [Hc HO Hat]
  · isplitr; · iapply (inv_bar xv wv K J c) $$ HI
    isplitl [Hc]; · iexact Hc
    isplitl [HO]; · iexact HO
    isplitr; · iapply hmw $$ Hlev
    iexact Hat
  rw [Finset.sdiff_empty, duties_bar]
  iintro ⟨HO, Hat, -, Hpay⟩
  ihave Hpay := hpay $$ Hpay
  icases Hpay with ⟨#Hpa, #Hpb⟩
  iapply (fupd_wp _ _ _ _ _)
  imod (Rounds.cell_close ER (rd xv wv) (g := barC c) (R := 1) (Set.mem_univ (K (barC c))) id fun r h => later_bar xv wv c r h) $$ [Hat] with V
  · isplitr; · iapply (inv_bar xv wv K J c) $$ HI
    iexact Hat
  imodintro
  iapply Hk
  isplitl [V]; · iexact V
  isplitr
  · unfold mets
    isplitr; · iapply (met_of c 0); isplitr <;> iassumption
    isplitr; · iapply (met_of c 2); isplitr <;> iassumption
    isplitr; · iapply (met_of c 1); isplitr <;> iassumption
    iapply (met_of c 3); isplitr <;> iassumption
  iexists _; iexact HO

/-- The device's buffers at the body's start and at its end. -/
def bufsAt (V : S128x8192.Idx → Elt F .fp8e4m3) (Sx Sw : S1.Idx → Elt F .f32) (O : S128x8192.Idx → Elt F .f32) : sProp 𝕄 :=
  iprop(owns (c : Thread nD τ) x fullShare (xv c) ∗ owns (c : Thread nD τ) wb fullShare V ∗ owns (c : Thread nD τ) sx fullShare Sx
    ∗ owns (c : Thread nD τ) sw fullShare Sw ∗ owns (c : Thread nD τ) tab fullShare T ∗ owns (c : Thread nD τ) o fullShare O
    ∗ ∃ B, owns (c : Thread nD τ) wM fullShare B)

/-- The last right to each second slot, with which a device takes it back. -/
def spares : sProp 𝕄 :=
  iprop(writeTok ES ((c, 0, par 31) : Key) 16 ∗ writeTok ES ((c, 2, par 31) : Key) 16 ∗ writeTok ES ((c, 1, par 31) : Key) 16
    ∗ writeTok ES ((c, 3, par 31) : Key) 16)

theorem enter_all : iprop(inv xv wv K J ∗ (Pre c 0 ∗ Pre c 2 ∗ Pre c 1 ∗ Pre c 3))
    ⊢ (|={Set.univ}=> ((St0 c 0 ∗ St0 c 2 ∗ St0 c 1 ∗ St0 c 3) ∗ barPay c) : sProp 𝕄) := by
  unfold barPay
  iintro ⟨#HI, P0, P2, P1, P3⟩
  imod (enter_pipe xv wv K J c 0) $$ [P0] with ⟨S0, #E0⟩
  · isplitr; · iexact HI
    iexact P0
  imod (enter_pipe xv wv K J c 2) $$ [P2] with ⟨S2, #E2⟩
  · isplitr; · iexact HI
    iexact P2
  imod (enter_pipe xv wv K J c 1) $$ [P1] with ⟨S1, #E1⟩
  · isplitr; · iexact HI
    iexact P1
  imod (enter_pipe xv wv K J c 3) $$ [P3] with ⟨S3, #E3⟩
  · isplitr; · iexact HI
    iexact P3
  imodintro
  isplitl [S0 S2 S1 S3]
  · isplitl [S0]; · iexact S0
    isplitl [S2]; · iexact S2
    isplitl [S1] <;> iassumption
  isplitr; · iexact E0
  isplitr; · iexact E1
  isplitr; · iexact E2
  iexact E3

theorem close_all : iprop(inv xv wv K J ∗ spares c ∗ (Done c 0 ∗ Done c 2 ∗ Done c 1 ∗ Done c 3))
    ⊢ (|={Set.univ}=> (Post c 0 ∗ Post c 2 ∗ Post c 1 ∗ Post c 3) : sProp 𝕄) := by
  unfold spares
  iintro ⟨#HI, ⟨W0, W2, W1, W3⟩, P0, P2, P1, P3⟩
  imod (close_pipe xv wv K J c 0) $$ [W0 P0] with S0
  · isplitr; · iexact HI
    isplitl [W0] <;> iassumption
  imod (close_pipe xv wv K J c 2) $$ [W2 P2] with S2
  · isplitr; · iexact HI
    isplitl [W2] <;> iassumption
  imod (close_pipe xv wv K J c 1) $$ [W1 P1] with S1
  · isplitr; · iexact HI
    isplitl [W1] <;> iassumption
  imod (close_pipe xv wv K J c 3) $$ [W3 P3] with S3
  · isplitr; · iexact HI
    isplitl [W3] <;> iassumption
  imodintro
  isplitl [S0]; · iexact S0
  isplitl [S2]; · iexact S2
  isplitl [S1] <;> iassumption

include hT in
theorem wp_firsts (Q : PUnit → sProp 𝕄) (k : P F) :
    iprop(inv xv wv K J ∗ mets c ∗ rds xv wv c x tab fullShare T ∗ (St0 c 0 ∗ St0 c 2 ∗ St0 c 1 ∗ St0 c 3) ∗ owed c (owe1 c))
      ⊢ iprop(((rds xv wv c x tab fullShare T ∗ Sts c 1 ∗ owed c (ows c 1)) -∗ wpB c k Q)
        -∗ wpB c (firstPipe x tab (nx c) (pv c) 0 <| firstPipe x tab (nx c) (pv c) 2 <| firstPipe x tab (nx c) (pv c) 1 <|
            firstPipe x tab (nx c) (pv c) 3 k) Q) := by
  have e0 : owe1 c = (owp c 2 + owp c 1 + owp c 3) + owp c 0 := by unfold owe1; ac_rfl
  have e2 : (owp c 2 + owp c 1 + owp c 3) + ow c 0 1 = (ow c 0 1 + owp c 1 + owp c 3) + owp c 2 := by ac_rfl
  have e1 : (ow c 0 1 + owp c 1 + owp c 3) + ow c 2 1 = (ow c 0 1 + ow c 2 1 + owp c 3) + owp c 1 := by ac_rfl
  have e3 : (ow c 0 1 + ow c 2 1 + owp c 3) + ow c 1 1 = (ow c 0 1 + ow c 2 1 + ow c 1 1) + owp c 3 := by ac_rfl
  have e4 : (ow c 0 1 + ow c 2 1 + ow c 1 1) + ow c 3 1 = ows c 1 := rfl
  unfold mets Sts
  iintro ⟨#HI, ⟨#M0, #M2, #M1, #M3⟩, Hr, ⟨S0, S2, S1, S3⟩, HO⟩ Hk
  iapply (wp_first xv wv K J c x tab fullShare T 0 (hT.ent 0 0 (by decide)) _ Q (owp c 2 + owp c 1 + owp c 3)) $$ [Hr S0 HO]
  · isplitr; · iexact HI
    isplitr; · iexact M0
    isplitl [Hr]; · iexact Hr
    isplitl [S0]; · iexact S0
    iapply (owed_eq c e0) $$ HO
  iintro ⟨Hr, S0, HO⟩
  iapply (wp_first xv wv K J c x tab fullShare T 2 (hT.ent 2 0 (by decide)) _ Q (ow c 0 1 + owp c 1 + owp c 3)) $$ [Hr S2 HO]
  · isplitr; · iexact HI
    isplitr; · iexact M2
    isplitl [Hr]; · iexact Hr
    isplitl [S2]; · iexact S2
    iapply (owed_eq c e2) $$ HO
  iintro ⟨Hr, S2, HO⟩
  iapply (wp_first xv wv K J c x tab fullShare T 1 (hT.ent 1 0 (by decide)) _ Q (ow c 0 1 + ow c 2 1 + owp c 3)) $$ [Hr S1 HO]
  · isplitr; · iexact HI
    isplitr; · iexact M1
    isplitl [Hr]; · iexact Hr
    isplitl [S1]; · iexact S1
    iapply (owed_eq c e1) $$ HO
  iintro ⟨Hr, S1, HO⟩
  iapply (wp_first xv wv K J c x tab fullShare T 3 (hT.ent 3 0 (by decide)) _ Q (ow c 0 1 + ow c 2 1 + ow c 1 1)) $$ [Hr S3 HO]
  · isplitr; · iexact HI
    isplitr; · iexact M3
    isplitl [Hr]; · iexact Hr
    isplitl [S3]; · iexact S3
    iapply (owed_eq c e3) $$ HO
  iintro ⟨Hr, S3, HO⟩
  iapply Hk
  isplitl [Hr]; · iexact Hr
  isplitr [HO]
  · isplitl [S0]; · iexact S0
    isplitl [S2]; · iexact S2
    isplitl [S1] <;> iassumption
  iapply (owed_eq c e4) $$ HO

omit [FloatOps F] in
theorem ows_done : ows c 31 = 0 := by
  unfold ows ow
  simp only [oweM_done, oweC_done _ _ 31 (by decide), add_zero]

/-- The body with its neighbours named. -/
def runP (k : P F) : P F :=
  headP x wb tab (nx c) (pv c) <| stepsP x tab (nx c) (pv c) 30 1 <| endP x sx sw o k

include hT in
theorem body_run (V : S128x8192.Idx → Elt F .fp8e4m3) (hV : wv c = wideP V) (Sx Sw : S1.Idx → Elt F .f32)
    (O : S128x8192.Idx → Elt F .f32) (Q : PUnit → sProp 𝕄) :
    iprop(inv xv wv K J ∗ levAts L lv ∗ bufsAt xv c x wb sx sw tab o T V Sx Sw O ∗ (Pre c 0 ∗ Pre c 2 ∗ Pre c 1 ∗ Pre c 3) ∗ spares c
        ∗ barGh c ∗ owed c (owe0 c))
      ⊢ iprop(((bufsAt xv c x wb sx sw tab o T V Sx Sw (resV xv wv c (Scalar.mulf (scOf Sx) (scOf Sw)) O)
            ∗ (Post c 0 ∗ Post c 2 ∗ Post c 1 ∗ Post c 3) ∗ semVal (barC c) 0 ∗ owed c 0) -∗ Q ⟨⟩)
        -∗ wpB c (runP c x wb sx sw tab o (.ret ⟨⟩)) Q) := by
  unfold bufsAt runP headP
  iintro ⟨#HI, #Hlev, ⟨Hx, Hwb, Hsx, Hsw, Htab, Ho, ⟨%B, HB⟩⟩, Hpre, Hsp, Hbar, HO⟩ Hk
  iapply (fupd_wp _ _ _ _ _)
  imod (enter_all xv wv K J c) $$ [Hpre] with ⟨HS, #Hbp⟩
  · isplitr; · iexact HI
    iexact Hpre
  imodintro
  iapply (wp_barrier xv wv K J c Q _) $$ [Hbar HO]
  · isplitr; · iexact HI
    isplitr; · iexact Hlev
    isplitl [Hbar]; · iexact Hbar
    isplitr; · iexact Hbp
    iexact HO
  iintro ⟨HV, #Hm, HO⟩
  iapply (wp_widen c wb Q _ V B) $$ [Hwb HB]
  · isplitl [Hwb] <;> iassumption
  iintro ⟨Hwb, HB⟩
  ihave Hr := (show iprop(owns (c : Thread nD τ) x fullShare (xv c) ∗ owns (c : Thread nD τ) wM fullShare (wideP V) ∗ owns (c : Thread nD τ) tab fullShare T)
      ⊢ rds xv wv c x tab fullShare T from by unfold rds reads; rw [hV]) $$ [Hx HB Htab]
  · isplitl [Hx]; · iexact Hx
    isplitl [HB] <;> iassumption
  iapply (wp_firsts xv wv K J c x tab T hT Q _) $$ [Hr HS HO]
  · isplitr; · iexact HI
    isplitr; · iexact Hm
    isplitl [Hr]; · iexact Hr
    isplitl [HS] <;> iassumption
  iintro ⟨Hr, HS, HO⟩
  iapply (wp_steps xv wv K J c x tab fullShare T hT Q _ 30 1 (by decide) (by decide)) $$ [Hr HS HO]
  · isplitr; · iexact HI
    isplitr; · iexact Hlev
    isplitr; · iexact Hm
    isplitl [Hr]; · iexact Hr
    isplitl [HS] <;> iassumption
  rw [show 1 + 30 = 31 from rfl, ows_done]
  iintro ⟨Hr, HS, HO⟩
  iapply (wp_end xv wv K J c x sx sw tab o T Q _ O Sx Sw) $$ [Hr Ho Hsx Hsw HS HO]
  · isplitr; · iexact HI
    isplitr; · iexact Hlev
    isplitl [Hr]; · iexact Hr
    isplitl [Ho]; · iexact Ho
    isplitl [Hsx]; · iexact Hsx
    isplitl [Hsw]; · iexact Hsw
    isplitl [HS] <;> iassumption
  iintro ⟨Hr, Ho, Hsx, Hsw, HD, HO⟩
  iapply (fupd_wp _ _ _ _ _)
  imod (close_all xv wv K J c) $$ [HD Hsp] with HP
  · isplitr; · iexact HI
    isplitl [Hsp] <;> iassumption
  imodintro
  rw [wp_ret]
  imodintro
  iapply Hk
  unfold rds reads
  icases Hr with ⟨Hx, HB, Htab⟩
  isplitr [HP HV HO]
  · isplitl [Hx]; · iexact Hx
    isplitl [Hwb]; · iexact Hwb
    isplitl [Hsx]; · iexact Hsx
    isplitl [Hsw]; · iexact Hsw
    isplitl [Htab]; · iexact Htab
    isplitl [Ho]; · iexact Ho
    iexists _; iexact HB
  isplitl [HP]; · iexact HP
  isplitl [HV] <;> iassumption

omit [FloatOps F] in
theorem tab_owns (V : S128x8192.Idx → Elt F .fp8e4m3) (Sx Sw : S1.Idx → Elt F .f32) (O : S128x8192.Idx → Elt F .f32) :
    (bufsAt xv c x wb sx sw tab o T V Sx Sw O : sProp 𝕄)
      ⊢ iprop(owns (c : Thread nD τ) tab fullShare T ∗ (owns (c : Thread nD τ) tab fullShare T -∗ bufsAt xv c x wb sx sw tab o T V Sx Sw O)) := by
  unfold bufsAt
  iintro ⟨Hx, Hwb, Hsx, Hsw, Htab, Ho, HB⟩
  isplitl [Htab]; · iexact Htab
  iintro Htab
  isplitl [Hx]; · iexact Hx
  isplitl [Hwb]; · iexact Hwb
  isplitl [Hsx]; · iexact Hsx
  isplitl [Hsw]; · iexact Hsw
  isplitl [Htab]; · iexact Htab
  isplitl [Ho] <;> iassumption

include hT in
theorem wp_body (V : S128x8192.Idx → Elt F .fp8e4m3) (hV : wv c = wideP V) (Sx Sw : S1.Idx → Elt F .f32)
    (O : S128x8192.Idx → Elt F .f32) (Q : PUnit → sProp 𝕄) :
    iprop(inv xv wv K J ∗ levAts L lv ∗ bufsAt xv c x wb sx sw tab o T V Sx Sw O ∗ (Pre c 0 ∗ Pre c 2 ∗ Pre c 1 ∗ Pre c 3) ∗ spares c
        ∗ barGh c ∗ owed c (owe0 c))
      ⊢ iprop(((bufsAt xv c x wb sx sw tab o T V Sx Sw (resV xv wv c (Scalar.mulf (scOf Sx) (scOf Sw)) O)
            ∗ (Post c 0 ∗ Post c 2 ∗ Post c 1 ∗ Post c 3) ∗ semVal (barC c) 0 ∗ owed c 0) -∗ Q ⟨⟩)
        -∗ wpB c (bodyP x wb sx sw tab o) Q) := by
  have h1 : k0_chk1 (wordOf T 0) := hT.next ▸ chk1_devW (nx c)
  have h2 : k0_chk2 (wordOf T 1) := hT.prev ▸ chk2_devW (pv c)
  have key (a b : Dev nD) (ha : a = nx c) (hb : b = pv c) :
      (headP x wb tab a b <| stepsP x tab a b 30 1 <| endP x sx sw o <| .ret ⟨⟩) = runP (F := F) c x wb sx sw tab o (.ret ⟨⟩) := by
    subst ha hb; rfl
  have hrun := body_run xv wv K J c x wb sx sw tab o T hT V hV Sx Sw O Q
  rw [← key _ _ (dev_of hT.next (k0_dev1_lt _ h1)) (dev_of hT.prev (k0_dev2_lt _ h2))] at hrun
  unfold bodyP
  iintro ⟨HI, Hlev, Hb, Hrest⟩ Hk
  ihave Hb := (tab_owns xv c x wb sx sw tab o T V Sx Sw O) $$ Hb
  icases Hb with ⟨Ht, Hback⟩
  iapply (wp_wordAt c tab fullShare T 0 _ Q) $$ Ht
  iintro Ht
  unfold wpB
  rw [wp_assume_of _ _ _ _ (d := k0_chk1.dec _) h1]
  iapply (wp_wordAt c tab fullShare T 1 _ Q) $$ Ht
  iintro Ht
  unfold wpB
  rw [wp_assume_of _ _ _ _ (d := k0_chk2.dec _) h2]
  ihave Hb := Hback $$ Ht
  iapply hrun $$ [HI Hlev Hb Hrest]
  · isplitl [HI]; · iexact HI
    isplitl [Hlev]; · iexact Hlev
    isplitl [Hb] <;> iassumption
  iexact Hk

end Run

end Cert.KernelIdeal.Ring
-- ==== Proof.Ideal.Deal.lean ====
module

public import proofs.«01_k».proof.Proof.Ideal.Run
public import Idealize.ShloMosaic.Lib.Pipeline.Launch
public import Idealize.ShloMosaic.Lib.Pipeline.Cells

@[expose] public section

noncomputable section

/-! # The rights at launch, dealt to the devices

Every counter's and every slot's invariant is made at launch, and every right goes to the device that will use it: a
message's to its sender, a credit's to its giver. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xv : Dev nD → S4096x128.Idx → Elt F .fp8e4m3) (wv : Dev nD → S128x8192.Idx → Elt F .bf16)
variable (K : GSem nD τ sig → ℕ) (J : Key → ℕ)

/-! ## The duties' rights -/

abbrev Tok : Type := GSem nD τ sig × ℕ × ℕ

def sndT (x : Dev nD × Fin 4 × ℕ) : Tok := (sndC x.1 x.2.1 x.2.2, x.2.2 / 2, 0)
def rcvT (x : Dev nD × Fin 4 × ℕ) : Tok := (rcvC x.1 x.2.1 x.2.2, x.2.2 / 2, 0)
def crdT (x : Dev nD × Fin 4 × ℕ) : Tok := (crdC x.1 x.2.1, 0, x.2.2)
def barT (x : Dev nD × ℕ) : Tok := (barC x.1, 0, x.2)

theorem tok_dev {t u : Tok} (h : t = u) : t.1.1.1 = u.1.1.1 := congrArg (fun t : Tok => t.1.1.1) h
theorem tok_role {t u : Tok} (h : t = u) : role t.1.2 = role u.1.2 := congrArg (fun t : Tok => role t.1.2) h

theorem half_par {m n : ℕ} (h : m / 2 = n / 2) (h' : par m = par n) : m = n := by
  have : m % 2 = n % 2 := congrArg Fin.val h'
  omega

theorem sndT_inj : Function.Injective sndT := by
  rintro ⟨c, p, m⟩ ⟨c', p', m'⟩ h
  have h1 := tok_dev h
  have h2 := tok_role h
  have h3 : m / 2 = m' / 2 := congrArg (fun t : Tok => t.2.1) h
  dsimp only [sndT] at h1 h2
  rw [role_snd, role_snd] at h2
  injection h2 with h4 h5
  subst h1; subst h4; rw [half_par h3 h5]
theorem rcvT_inj : Function.Injective rcvT := by
  rintro ⟨c, p, m⟩ ⟨c', p', m'⟩ h
  have h1 := tok_dev h
  have h2 := tok_role h
  have h3 : m / 2 = m' / 2 := congrArg (fun t : Tok => t.2.1) h
  dsimp only [rcvT] at h1 h2
  rw [role_rcv, role_rcv] at h2
  injection h2 with h4 h5
  subst h1; subst h4; rw [half_par h3 h5]
theorem crdT_inj : Function.Injective crdT := by
  rintro ⟨c, p, m⟩ ⟨c', p', m'⟩ h
  have h1 := tok_dev h
  have h2 := tok_role h
  have h3 : m = m' := congrArg (fun t : Tok => t.2.2) h
  dsimp only [crdT] at h1 h2
  rw [role_crd, role_crd] at h2
  injection h2 with h4
  subst h1; subst h4; rw [h3]
theorem barT_inj : Function.Injective barT := by
  rintro ⟨c, m⟩ ⟨c', m'⟩ h
  have h1 := tok_dev h
  have h3 : m = m' := congrArg (fun t : Tok => t.2.2) h
  dsimp only [barT] at h1
  subst h1; rw [h3]

abbrev per (S : Finset ℕ) : Finset (Dev nD × Fin 4 × ℕ) := Finset.univ ×ˢ (Finset.univ ×ˢ S)
def sndToks : Finset Tok := (per (Finset.Ico 0 31)).map ⟨sndT, sndT_inj⟩
def rcvToks : Finset Tok := (per (Finset.Ico 0 31)).map ⟨rcvT, rcvT_inj⟩
def crdToks : Finset Tok := (per (Finset.Ico 1 30)).map ⟨crdT, crdT_inj⟩
def barToks : Finset Tok := ((Finset.univ : Finset (Dev nD)) ×ˢ ({0, 1} : Finset ℕ)).map ⟨barT, barT_inj⟩
def allToks : Finset Tok := sndToks ∪ (rcvToks ∪ (crdToks ∪ barToks))

theorem disj_of_role {α β : Type} {S : Finset α} {T : Finset β} {f : α ↪ Tok} {g : β ↪ Tok}
    (h : ∀ a b, role (f a).1.2 ≠ role (g b).1.2) : Disjoint (S.map f) (T.map g) := by
  rw [Finset.disjoint_left]
  rintro t h₁ h₂
  obtain ⟨a, -, rfl⟩ := Finset.mem_map.mp h₁
  obtain ⟨b, -, e⟩ := Finset.mem_map.mp h₂
  exact h a b (tok_role e).symm

theorem disj1 : Disjoint crdToks barToks := disj_of_role fun a b => by
  show role (crdL a.2.1) ≠ role barL; rw [role_crd, role_bar]; exact fun h => by injection h
theorem disj2 : Disjoint rcvToks (crdToks ∪ barToks) := Finset.disjoint_union_right.mpr
  ⟨disj_of_role fun a b => by show role (rcvL a.2.1 a.2.2) ≠ role (crdL b.2.1); rw [role_rcv, role_crd]; exact fun h => by injection h,
    disj_of_role fun a b => by show role (rcvL a.2.1 a.2.2) ≠ role barL; rw [role_rcv, role_bar]; exact fun h => by injection h⟩
theorem disj3 : Disjoint sndToks (rcvToks ∪ (crdToks ∪ barToks)) := Finset.disjoint_union_right.mpr
  ⟨disj_of_role fun a b => by show role (sndL a.2.1 a.2.2) ≠ role (rcvL b.2.1 b.2.2); rw [role_snd, role_rcv]; exact fun h => by injection h,
    Finset.disjoint_union_right.mpr
      ⟨disj_of_role fun a b => by show role (sndL a.2.1 a.2.2) ≠ role (crdL b.2.1); rw [role_snd, role_crd]; exact fun h => by injection h,
        disj_of_role fun a b => by show role (sndL a.2.1 a.2.2) ≠ role barL; rw [role_snd, role_bar]; exact fun h => by injection h⟩⟩

omit [FloatOps F] in
theorem bigSep_prodF {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint (({a} : Finset α) ×ˢ t) (s ×ˢ t) := by
      rw [Finset.disjoint_left]; rintro ⟨x, y⟩ h h'
      rw [Finset.mem_product, Finset.mem_singleton] at h
      rw [Finset.mem_product] at h'
      exact ha (h.1 ▸ h'.1)
    rw [Finset.insert_eq, Finset.union_product, bigSep_union hd, Finset.singleton_product, bigSep_map, ih, ← Finset.insert_eq,
      bigSep_insert ha]
    rfl

omit [FloatOps F] in
theorem bigSep_per (S : Finset ℕ) (Φ : Dev nD → Fin 4 → ℕ → sProp 𝕄) :
    bigSep (per S) (fun x => Φ x.1 x.2.1 x.2.2) = bigSep Finset.univ fun c => bigSep Finset.univ fun p => bigSep S fun m => Φ c p m := by
  rw [bigSep_prodF]; exact bigSep_congr fun c _ => bigSep_prodF _ _ _

omit [FloatOps F] in
/-- A right of each pipe's, handed round the ring. -/
theorem around (e : Fin 4 → Dev nD ≃ Dev nD) (Φ : Dev nD → Fin 4 → sProp 𝕄) :
    (bigSep Finset.univ fun c => bigSep Finset.univ fun p => Φ c p)
      = bigSep Finset.univ fun c => bigSep Finset.univ fun p => Φ (e p c) p := by
  rw [Pipeline.bigSep_univ_comm, Pipeline.bigSep_univ_comm (fun c p => Φ (e p c) p)]
  exact bigSep_congr fun p _ => bigSep_univ_equiv (e p) (fun c => Φ c p)

omit [FloatOps F] in
theorem allToks_eq : bigSep allToks (fun x => (dutyTok ER x.1 x.2.1 x.2.2 : sProp 𝕄))
    = iprop((bigSep Finset.univ fun c : Dev nD => bigSep Finset.univ fun p : Fin 4 => bigSep (Finset.Ico 0 31) fun m => dutyTok ER (sndC c p m) (m / 2) 0)
      ∗ (bigSep Finset.univ fun c : Dev nD => bigSep Finset.univ fun p : Fin 4 => bigSep (Finset.Ico 0 31) fun m => dutyTok ER (rcvC (dst p c) p m) (m / 2) 0)
      ∗ (bigSep Finset.univ fun c : Dev nD => bigSep Finset.univ fun p : Fin 4 => bigSep (Finset.Ico 1 30) fun m => dutyTok ER (crdC (src p c) p) 0 m)
      ∗ (bigSep Finset.univ fun c : Dev nD => dutyTok ER (barC (nx c)) 0 0) ∗ (bigSep Finset.univ fun c : Dev nD => dutyTok ER (barC (pv c)) 0 1)) := by
  have hs : bigSep sndToks (fun x => (dutyTok ER x.1 x.2.1 x.2.2 : sProp 𝕄))
      = bigSep Finset.univ fun c : Dev nD => bigSep Finset.univ fun p : Fin 4 => bigSep (Finset.Ico 0 31) fun m => dutyTok ER (sndC c p m) (m / 2) 0 := by
    unfold sndToks; rw [bigSep_map]
    exact bigSep_per (F := F) (Finset.Ico 0 31) (fun c p m => dutyTok ER (sndC c p m) (m / 2) 0)
  have hr : bigSep rcvToks (fun x => (dutyTok ER x.1 x.2.1 x.2.2 : sProp 𝕄))
      = bigSep Finset.univ fun c : Dev nD => bigSep Finset.univ fun p : Fin 4 => bigSep (Finset.Ico 0 31) fun m => dutyTok ER (rcvC (dst p c) p m) (m / 2) 0 := by
    unfold rcvToks; rw [bigSep_map]
    exact (bigSep_per (F := F) (Finset.Ico 0 31) (fun c p m => dutyTok ER (rcvC c p m) (m / 2) 0)).trans
      (around (F := F) dstE fun c p => bigSep (Finset.Ico 0 31) fun m => dutyTok ER (rcvC c p m) (m / 2) 0)
  have hc : bigSep crdToks (fun x => (dutyTok ER x.1 x.2.1 x.2.2 : sProp 𝕄))
      = bigSep Finset.univ fun c : Dev nD => bigSep Finset.univ fun p : Fin 4 => bigSep (Finset.Ico 1 30) fun m => dutyTok ER (crdC (src p c) p) 0 m := by
    unfold crdToks; rw [bigSep_map]
    exact (bigSep_per (F := F) (Finset.Ico 1 30) (fun c p m => dutyTok ER (crdC c p) 0 m)).trans
      (around (F := F) (fun p => (dstE p).symm) fun c p => bigSep (Finset.Ico 1 30) fun m => dutyTok ER (crdC c p) 0 m)
  have hb : bigSep barToks (fun x => (dutyTok ER x.1 x.2.1 x.2.2 : sProp 𝕄))
      = iprop((bigSep Finset.univ fun c : Dev nD => dutyTok ER (barC (nx c)) 0 0) ∗ (bigSep Finset.univ fun c : Dev nD => dutyTok ER (barC (pv c)) 0 1)) := by
    unfold barToks; rw [bigSep_map, bigSep_prodF]
    have e : (fun c : Dev nD => bigSep ({0, 1} : Finset ℕ) fun d => (dutyTok ER (barC c) 0 d : sProp 𝕄))
        = fun c => iprop(dutyTok ER (barC c) 0 0 ∗ dutyTok ER (barC c) 0 1) := by
      funext c; rw [bigSep_insert (by decide), bigSep_singleton]; rfl
    refine Eq.trans (congrArg _ e) ?_
    rw [bigSep_sep', bigSep_univ_equiv ringE (fun c : Dev nD => (dutyTok ER (barC c) 0 0 : sProp 𝕄)),
      bigSep_univ_equiv ringE.symm (fun c : Dev nD => (dutyTok ER (barC c) 0 1 : sProp 𝕄))]
    rfl
  unfold allToks
  rw [bigSep_union disj3, bigSep_union disj2, bigSep_union disj1, hs, hr, hc, hb]
  rfl

/-! ## The slots' rights -/

omit [FloatOps F] in
theorem writes_eq : bigSep ((Finset.univ : Finset Key) ×ˢ Finset.range 16) (fun x => (writeTok ES x.1 (x.2 + 1) : sProp 𝕄))
    = iprop((bigSep Finset.univ fun c : Dev nD => bigSep Finset.univ fun p : Fin 4 => bigSep (Finset.Ico 0 31) fun m => writeTok ES ((dst p c, p, par m) : Key) (m / 2 + 1))
      ∗ bigSep Finset.univ fun c : Dev nD => bigSep Finset.univ fun p : Fin 4 => writeTok ES ((c, p, par 31) : Key) 16) := by
  have hset : (Finset.univ : Finset (Fin 2)) ×ˢ Finset.range 16
      = (Finset.Ico 0 32).map ⟨fun m => (par m, m / 2), fun a b h => half_par (congrArg Prod.snd h) (congrArg Prod.fst h)⟩ := by decide
  have hk (c : Dev nD) (p : Fin 4) : (bigSep Finset.univ fun k : Fin 2 => bigSep (Finset.range 16) fun t => (writeTok ES ((c, p, k) : Key) (t + 1) : sProp 𝕄))
      = iprop((bigSep (Finset.Ico 0 31) fun m => writeTok ES ((c, p, par m) : Key) (m / 2 + 1)) ∗ writeTok ES ((c, p, par 31) : Key) 16) := by
    rw [← bigSep_prodF Finset.univ (Finset.range 16) (fun x : Fin 2 × ℕ => (writeTok ES ((c, p, x.1) : Key) (x.2 + 1) : sProp 𝕄)), hset, bigSep_map,
      show Finset.Ico 0 32 = insert 31 (Finset.Ico 0 31) by decide, bigSep_insert (by decide)]
    exact BI.Entails.antisymm sep_comm sep_comm
  rw [bigSep_prodF, bigSep_univ_prod]
  have e1 : (fun c : Dev nD => bigSep Finset.univ fun b : Fin 4 × Fin 2 => bigSep (Finset.range 16) fun t => (writeTok ES ((c, b) : Key) (t + 1) : sProp 𝕄))
      = fun c => iprop((bigSep Finset.univ fun p : Fin 4 => bigSep (Finset.Ico 0 31) fun m => writeTok ES ((c, p, par m) : Key) (m / 2 + 1))
        ∗ bigSep Finset.univ fun p : Fin 4 => writeTok ES ((c, p, par 31) : Key) 16) := by
    funext c
    rw [bigSep_univ_prod, ← bigSep_sep']
    exact bigSep_congr fun p _ => hk c p
  refine Eq.trans (congrArg _ e1) ?_
  rw [bigSep_sep', around (F := F) dstE fun c p => bigSep (Finset.Ico 0 31) fun m => (writeTok ES ((c, p, par m) : Key) (m / 2 + 1) : sProp 𝕄)]
  rfl

/-! ## The launch's credit -/

/-- The credit of a device's own waits on a pipe. -/
def credsP (c : Dev nD) (p : Fin 4) : sProp 𝕄 :=
  iprop((bigSep (Finset.Ico 0 31) (recvCr c p)) ∗ bigSep (Finset.Ico 1 30) (waitCr c p))

omit [FloatOps F] in
theorem creds_pipe (c : Dev nD) (p : Fin 4) : (Pipeline.launchCred (fun d => owp d p) c : sProp 𝕄) ⊢ credsP c p := by
  unfold owp oweM oweC credsP
  rw [Pipeline.launchCred_add, Pipeline.launchCred_sum, Pipeline.launchCred_sum]
  exact BIClass.sep_mono
    (bigSep_mono fun m _ => Pipeline.launchCred_tallyAt (rcvL p m) (dst p) (src p) (dst_src p) (src_dst p) m N c)
    (bigSep_mono fun m _ => Pipeline.launchCred_tallyAt (crdL p) (src p) (dst p) (src_dst p) (dst_src p) m 1 c)

omit [FloatOps F] in
theorem creds_all (c : Dev nD) : (Pipeline.launchCred owe0 c : sProp 𝕄) ⊢ iprop(cred (tallyAt (barC c) 0 2) ∗ bigSep Finset.univ fun p => credsP c p) := by
  have h : (Pipeline.launchCred owe0 c : sProp 𝕄)
      = iprop(((((Pipeline.launchCred (fun d => owp d 0) c ∗ Pipeline.launchCred (fun d => owp d 2) c) ∗ Pipeline.launchCred (fun d => owp d 1) c)
          ∗ Pipeline.launchCred (fun d => owp d 3) c) ∗ Pipeline.launchCred (fun d => tallyAt (barC (pv d)) 0 1) c)
          ∗ Pipeline.launchCred (fun d => tallyAt (barC (nx d)) 0 1) c) := by
    rw [show owe0 = fun d => ((((owp d 0 + owp d 2) + owp d 1) + owp d 3) + tallyAt (barC (pv d)) 0 1) + tallyAt (barC (nx d)) 0 1 from rfl]
    rw [Pipeline.launchCred_add, Pipeline.launchCred_add, Pipeline.launchCred_add, Pipeline.launchCred_add, Pipeline.launchCred_add]
  rw [h, bigSep_pipes]
  have h0 := creds_pipe (F := F) c 0
  have h1 := creds_pipe (F := F) c 1
  have h2 := creds_pipe (F := F) c 2
  have h3 := creds_pipe (F := F) c 3
  have hp : (Pipeline.launchCred (fun d => tallyAt (barC (pv d)) 0 1) c : sProp 𝕄) ⊢ cred (tallyAt (barC c) 0 1) :=
    Pipeline.launchCred_tallyAt barL pv nx pv_nx nx_pv 0 1 c
  have hn : (Pipeline.launchCred (fun d => tallyAt (barC (nx d)) 0 1) c : sProp 𝕄) ⊢ cred (tallyAt (barC c) 0 1) :=
    Pipeline.launchCred_tallyAt barL nx pv nx_pv pv_nx 0 1 c
  have e2 : (cred (tallyAt (barC c) 0 2) : sProp 𝕄) = iprop(cred (tallyAt (barC c) 0 1) ∗ cred (tallyAt (barC c) 0 1)) := by
    rw [show (tallyAt (barC c) 0 2 : CellTallies nD τ sig ℕ) = tallyAt (barC c) 0 1 + tallyAt (barC c) 0 1 from (tallyAt_add (barC c) 0 1 1).symm]
    exact BI.Entails.antisymm (cred_add _ _).1 (cred_add _ _).2
  rw [e2]
  iintro ⟨⟨⟨⟨⟨H0, H2⟩, H1⟩, H3⟩, Hp⟩, Hn⟩
  isplitl [Hp Hn]
  · isplitl [Hp]; · iapply hp $$ Hp
    iapply hn $$ Hn
  isplitl [H0]; · iapply h0 $$ H0
  isplitl [H2]; · iapply h2 $$ H2
  isplitl [H1]; · iapply h1 $$ H1
  iapply h3 $$ H3

/-! ## What a device is dealt -/

/-- A pipe's share, the device's own counters not yet open. -/
def ghP (c : Dev nD) (p : Fin 4) : sProp 𝕄 :=
  iprop((bigSep Finset.univ fun i : Fin 5 => openTok ER ((c : Thread nD τ), osem (p, i)))
    ∗ (readerAt ES ((c, p, 0) : Key) 0 ∗ readerAt ES ((c, p, 1) : Key) 0) ∗ sendTok c p 0 ∗ toks c p 1 ∗ writeTok ES ((c, p, par 31) : Key) 16)

/-- A device's share. -/
def share (c : Dev nD) : sProp 𝕄 :=
  iprop(∃ K J, inv xv wv K J ∗ barGh c ∗ bigSep Finset.univ fun p => ghP c p)

/-- The records every device may consult. -/
def recs : sProp 𝕄 := iprop(inv xv wv K J ∗ bigSep barCells fun g => reached ER g 0)
instance recs_persistent : BI.Persistent (recs xv wv K J) := by unfold recs; infer_instance

/-- What stays with a device alone. -/
def alone (c : Dev nD) : sProp 𝕄 :=
  iprop(atPos ER (barC c) 0 ∅ 0 ∗ dutyTok ER (barC (nx c)) 0 0 ∗ dutyTok ER (barC (pv c)) 0 1
    ∗ (bigSep Finset.univ fun p => bigSep Finset.univ fun i : Fin 5 => openTok ER ((c : Thread nD τ), osem (p, i)))
    ∗ (bigSep Finset.univ fun p => iprop(readerAt ES ((c, p, 0) : Key) 0 ∗ readerAt ES ((c, p, 1) : Key) 0))
    ∗ (bigSep Finset.univ fun p => bigSep (Finset.Ico 0 31) (sendTok c p))
    ∗ (bigSep Finset.univ fun p => bigSep (Finset.Ico 1 30) (credTok c p))
    ∗ (bigSep Finset.univ fun p => writeTok ES ((c, p, par 31) : Key) 16))

theorem share_intro (c : Dev nD) :
    iprop(recs xv wv K J ∗ alone c ∗ cred (tallyAt (barC c) 0 2) ∗ bigSep Finset.univ fun p => credsP c p) ⊢ share xv wv c := by
  have hre (d : Dev nD) : (bigSep barCells fun g => (reached ER g 0 : sProp 𝕄)) ⊢ reached ER (barC d) 0 :=
    bigSep_elim (Finset.mem_map_of_mem barEmb (Finset.mem_univ d))
  have hn := hre (nx c)
  have hp := hre (pv c)
  have hgh : iprop((bigSep Finset.univ fun p => bigSep Finset.univ fun i : Fin 5 => openTok ER ((c : Thread nD τ), osem (p, i)))
      ∗ (bigSep Finset.univ fun p => iprop(readerAt ES ((c, p, 0) : Key) 0 ∗ readerAt ES ((c, p, 1) : Key) 0))
      ∗ (bigSep Finset.univ fun p => bigSep (Finset.Ico 0 31) (sendTok c p))
      ∗ (bigSep Finset.univ fun p => bigSep (Finset.Ico 1 30) (credTok c p))
      ∗ (bigSep Finset.univ fun p => writeTok ES ((c, p, par 31) : Key) 16) ∗ bigSep Finset.univ fun p => credsP c p)
      ⊢ (bigSep Finset.univ fun p => ghP c p : sProp 𝕄) := by
    have hk (p : Fin 4) : iprop((bigSep Finset.univ fun i : Fin 5 => openTok ER ((c : Thread nD τ), osem (p, i)))
        ∗ (readerAt ES ((c, p, 0) : Key) 0 ∗ readerAt ES ((c, p, 1) : Key) 0) ∗ bigSep (Finset.Ico 0 31) (sendTok c p)
        ∗ bigSep (Finset.Ico 1 30) (credTok c p) ∗ writeTok ES ((c, p, par 31) : Key) 16 ∗ credsP c p) ⊢ (ghP c p : sProp 𝕄) := by
      unfold ghP Ring.toks credsP
      rw [bigSep_Ico_head (show 0 < 31 by decide) (sendTok (F := F) c p)]
      iintro ⟨Ho, Hr, ⟨H0, Hs⟩, Hc, Hw, Hm, Hq⟩
      isplitl [Ho]; · iexact Ho
      isplitl [Hr]; · iexact Hr
      isplitl [H0]; · iexact H0
      isplitr [Hw]
      · isplitl [Hs]; · iexact Hs
        isplitl [Hm]; · iexact Hm
        isplitl [Hc]; · iexact Hc
        iexact Hq
      iexact Hw
    rw [← bigSep_sep', ← bigSep_sep', ← bigSep_sep', ← bigSep_sep', ← bigSep_sep']
    exact bigSep_mono fun p _ => hk p
  unfold recs alone share barGh
  iintro ⟨⟨#HI, #HR⟩, ⟨Hat, Hn, Hp, Ho, Hr, Hs, Hc, Hw⟩, Hb, Hq⟩
  iexists K, J
  isplitr; · iexact HI
  isplitl [Hat Hb Hn Hp]
  · isplitl [Hat]; · iexact Hat
    isplitl [Hb]; · iexact Hb
    isplitl [Hn]
    · isplitl [Hn]; · iexact Hn
      iapply hn $$ HR
    isplitl [Hp]; · iexact Hp
    iapply hp $$ HR
  iapply hgh
  isplitl [Ho]; · iexact Ho
  isplitl [Hr]; · iexact Hr
  isplitl [Hs]; · iexact Hs
  isplitl [Hc]; · iexact Hc
  isplitl [Hw]; · iexact Hw
  iexact Hq

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch's ghost state, all of it: the rounds' and the slots'. -/
def seed : sProp 𝕄 := iprop(BI.own (ER (launchOf barCells scCells allToks)) ∗ BI.own (ES (initSlots (Finset.univ : Finset Key) 16)))

/-- From the barrier counters and the seed, every device's share of rights. -/
theorem deal : iprop((bigSep Finset.univ fun c : Dev nD => (semVal (barC c) 0 : sProp 𝕄)) ∗ seed)
    ⊢ (|={Set.univ}=> (∃ K J, recs xv wv K J ∗ bigSep Finset.univ fun c : Dev nD => alone c) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun p => bigSep Finset.univ fun i : Fin 5 => openTok ER ((c : Thread nD τ), osem (p, i))) :=
    Entails.of_eq (by
      rw [bigSep_map, bigSep_univ_prod]
      exact bigSep_congr fun c _ => bigSep_univ_prod (fun k : Fin 4 × Fin 5 => (openTok ER ((c : Thread nD τ), osem k) : sProp 𝕄)))
  have hread : (bigSep (Finset.univ : Finset Key) fun k => (readerAt ES k 0 : sProp 𝕄))
      ⊢ bigSep Finset.univ fun c : Dev nD => bigSep Finset.univ fun p => iprop(readerAt ES ((c, p, 0) : Key) 0 ∗ readerAt ES ((c, p, 1) : Key) 0) :=
    Entails.of_eq (by
      rw [bigSep_univ_prod]
      refine bigSep_congr fun c _ => ?_
      rw [bigSep_univ_prod]
      exact bigSep_congr fun p _ => BI.bigSep_fin_two (fun k : Fin 2 => (readerAt ES ((c, p, k) : Key) 0 : sProp 𝕄)))
  have hsend : iprop((bigSep Finset.univ fun c : Dev nD => bigSep Finset.univ fun p : Fin 4 => bigSep (Finset.Ico 0 31) fun m => dutyTok ER (sndC c p m) (m / 2) 0)
      ∗ (bigSep Finset.univ fun c : Dev nD => bigSep Finset.univ fun p : Fin 4 => bigSep (Finset.Ico 0 31) fun m => dutyTok ER (rcvC (dst p c) p m) (m / 2) 0)
      ∗ (bigSep Finset.univ fun c : Dev nD => bigSep Finset.univ fun p : Fin 4 => bigSep (Finset.Ico 0 31) fun m => writeTok ES ((dst p c, p, par m) : Key) (m / 2 + 1)))
      ⊢ (bigSep Finset.univ fun c : Dev nD => bigSep Finset.univ fun p => bigSep (Finset.Ico 0 31) (sendTok c p) : sProp 𝕄) := by
    rw [← bigSep_sep', ← bigSep_sep']
    refine Entails.of_eq (bigSep_congr fun c _ => ?_)
    rw [← bigSep_sep', ← bigSep_sep']
    refine bigSep_congr fun p _ => ?_
    rw [← bigSep_sep', ← bigSep_sep']
    rfl
  have htok := Entails.of_eq (allToks_eq (F := F))
  have hwr := Entails.of_eq (writes_eq (F := F))
  unfold seed
  iintro ⟨Hv, Hu, Hs⟩
  imod (Rounds.fund_launch ER (rd xv wv) disjoint_cells (fun g _ h => h) allToks) $$ [Hv Hu] with ⟨%κ, -, #Hinv, #Hr, Hat, Hopen, Htok⟩
  · isplitl [Hv]
    · iapply hv $$ Hv
    · iexact Hu
  imod (slots_init ES (Finset.univ : Finset Key) 16 (fun k : Key => slotAny (F := F) k.1 (rbM k.2.1) k.2.2.1)) $$ Hs with ⟨%ιs, -, #Hslots, Hread, Hwr⟩
  imodintro
  iexists κ, ιs
  isplitr
  · unfold recs inv
    isplitr
    · isplitr; · iexact Hinv
      iexact Hslots
    iexact Hr
  ihave Htok := htok $$ Htok
  icases Htok with ⟨Hts, Htr, Htc, Htn, Htp⟩
  ihave Hwr := hwr $$ Hwr
  icases Hwr with ⟨Hw, Hsp⟩
  unfold alone
  rw [bigSep_sep', bigSep_sep', bigSep_sep', bigSep_sep', bigSep_sep', bigSep_sep', bigSep_sep']
  isplitl [Hat]; · iapply hat $$ Hat
  isplitl [Htn]; · iexact Htn
  isplitl [Htp]; · iexact Htp
  isplitl [Hopen]; · iapply hopen $$ Hopen
  isplitl [Hread]; · iapply hread $$ Hread
  isplitl [Hts Htr Hw]
  · iapply hsend
    isplitl [Hts]; · iexact Hts
    isplitl [Htr] <;> iassumption
  isplitl [Htc]; · iexact Htc
  iexact Hsp

end Cert.KernelIdeal.Ring
-- ==== Proof.Ideal.Open.lean ====
module

public import proofs.«01_k».proof.Proof.Ideal.Deal
public import proofs.«01_k».proof.Proof.Gen.KernelIdeal.Regions

@[expose] public section

noncomputable section

/-!
# The region's two ends

A scratch pair is its two slots. The counters a device is handed at the region's start open its cells, and with the slots they are what it needs to run; what it
ends with is the counters at zero and the scratch at some contents.
-/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## A pair and its slots -/

section Pair

variable (c : Dev nD) (m : Memref sig .tc .vmem S2x128x2048 .bf16)

omit [FloatOps F] in
/-- A slice and the slot on it. -/
theorem slot_eq (k : ℕ) (X : S1x128x2048.Idx → Elt F .bf16) :
    (owns (c : Thread nD τ) (m.slice (slotR k) (fun _ => rfl)) fullShare X : sProp 𝕄) ⊢ slotOwn c m k (sq X) := by
  unfold slotOwn owns
  iintro ⟨%f, %hf, H⟩
  iexists f
  isplitr
  · ipureintro
    show shapeCast S128x2048 ((m.access (slotR k)).read (Elt F) f) shapeCasts_S1x128x2048_S128x2048 = _
    exact congrArg (fun y => shapeCast S128x2048 y shapeCasts_S1x128x2048_S128x2048) hf
  iapply (Entails.of_eq (congrArg (fun S => (((m.view.slice (slotR k)).loc (c : Thread nD τ)) ↦[S]{fullShare} f : sProp 𝕄))
    (View.set_reshape (m.view.slice (slotR k)) squeezes_S1x128x2048_S128x2048.numel_eq).symm)) $$ H

omit [FloatOps F] in
theorem eq_slot (k : ℕ) (X : S128x2048.Idx → Elt F .bf16) :
    (slotOwn c m k X : sProp 𝕄) ⊢ owns (c : Thread nD τ) (m.slice (slotR k) (fun _ => rfl)) fullShare (unsq X) := by
  unfold slotOwn owns
  iintro ⟨%f, %hf, H⟩
  iexists f
  isplitr
  · ipureintro
    rw [← hf]
    exact (shapeCast_shapeCast ((m.access (slotR k)).read (Elt F) f) squeezes_S1x128x2048_S128x2048.numel_eq shapeCasts_S128x2048_S1x128x2048).symm
  iapply (Entails.of_eq (congrArg (fun S => (((m.view.slice (slotR k)).loc (c : Thread nD τ)) ↦[S]{fullShare} f : sProp 𝕄))
    (View.set_reshape (m.view.slice (slotR k)) squeezes_S1x128x2048_S128x2048.numel_eq))) $$ H

/-- The slots are apart, and cover the pair. -/
theorem slots_apart (t t' : Fin 2) (h : t ≠ t') : Disjoint (slotR t.val).set (slotR t'.val).set := by
  rw [Finset.disjoint_left]
  intro i hi hi'
  have h1 : t.val % 2 ≤ (i 0).val ∧ (i 0).val < t.val % 2 + 1 := (Rect.mem_set_unit.mp hi) 0
  have h2 : t'.val % 2 ≤ (i 0).val ∧ (i 0).val < t'.val % 2 + 1 := (Rect.mem_set_unit.mp hi') 0
  omega

theorem slots_cover : (Finset.univ : Finset (Fin 2)).biUnion (fun t => (slotR t.val).set) = Finset.univ := by
  ext i
  simp only [Finset.mem_biUnion, Finset.mem_univ, true_and, iff_true]
  have h0 : (i 0).val < 2 := (i 0).isLt
  have h1 : (i 1).val < 128 := (i 1).isLt
  have h2 : (i 2).val < 2048 := (i 2).isLt
  refine ⟨⟨(i 0).val, h0⟩, Rect.mem_set_unit.mpr fun a => ?_⟩
  fin_cases a
  · show (i 0).val % 2 ≤ (i 0).val ∧ (i 0).val < (i 0).val % 2 + 1
    omega
  · show 0 ≤ (i 1).val ∧ (i 1).val < 0 + 128
    omega
  · show 0 ≤ (i 2).val ∧ (i 2).val < 0 + 2048
    omega

omit [FloatOps F] in
theorem pair_slots (X : S2x128x2048.Idx → Elt F .bf16) :
    (owns (c : Thread nD τ) m fullShare X : sProp 𝕄) ⊢ iprop(slotAny c m 0 ∗ slotAny c m 1) := by
  have h := owns_rects (Ix := ℕ) (Name := ℕ) (U := UU) (Lvl := ℕ) (c : Thread nD τ) m fullShare (fun t : Fin 2 => slotR t.val) (fun _ _ => rfl) slots_apart slots_cover X
  rw [BI.bigSep_fin_two] at h
  have h' (t : Fin 2) : (owns (c : Thread nD τ) (m.slice (slotR t.val) (fun _ => rfl)) fullShare (fun j => X ((slotR t.val).emb j)) : sProp 𝕄)
      ⊢ slotAny c m t.val := by
    unfold slotAny
    iintro H
    iexists _; iapply (slot_eq c m t.val _) $$ H
  exact h.trans (BIClass.sep_mono (h' 0) (h' 1))

theorem slots_pair :
    iprop(slotAny c m 0 ∗ slotAny c m 1) ⊢ (∃ X, owns (c : Thread nD τ) m fullShare X : sProp 𝕄) := by
  have key (Y : Fin 2 → S128x2048.Idx → Elt F .bf16) :
      iprop(slotOwn c m 0 (Y 0) ∗ slotOwn c m 1 (Y 1)) ⊢ (∃ X, owns (c : Thread nD τ) m fullShare X : sProp 𝕄) := by
    let X : S2x128x2048.Idx → Elt F .bf16 := (slotR 1).overlay ((slotR 0).overlay (fun _ => (Elt.nonempty F .bf16).some) (unsq (Y 0))) (unsq (Y 1))
    have h1 : (fun j => X ((slotR 1).emb j)) = unsq (Y 1) := funext fun j => Rect.overlay_emb _ _ _ _
    have h0 : (fun j => X ((slotR 0).emb j)) = unsq (Y 0) := funext fun j => by
      show (slotR 1).overlay _ _ _ = _
      have hj : (slotR 0).emb j ∉ (slotR 1).set := Finset.disjoint_left.mp (slots_apart 0 1 (by decide)) ((slotR 0).toLoadRect.idx_mem j)
      exact (Rect.overlay_of_not_mem _ _ _ hj).trans (Rect.overlay_emb _ _ _ _)
    have h := owns_of_rects (Ix := ℕ) (Name := ℕ) (U := UU) (Lvl := ℕ) (c : Thread nD τ) m fullShare (fun t : Fin 2 => slotR t.val) (fun _ _ => rfl)
      slots_apart slots_cover X
    rw [BI.bigSep_fin_two] at h
    have e0 : (slotOwn c m 0 (Y 0) : sProp 𝕄) ⊢ owns (c : Thread nD τ) (m.slice (slotR 0) (fun _ => rfl)) fullShare (fun j => X ((slotR 0).emb j)) := by
      rw [h0]; exact eq_slot c m 0 _
    have e1 : (slotOwn c m 1 (Y 1) : sProp 𝕄) ⊢ owns (c : Thread nD τ) (m.slice (slotR 1) (fun _ => rfl)) fullShare (fun j => X ((slotR 1).emb j)) := by
      rw [h1]; exact eq_slot c m 1 _
    have h2 := (BIClass.sep_mono e0 e1).trans h
    iintro H
    iexists X
    iapply h2 $$ H
  unfold slotAny
  iintro ⟨⟨%Y0, H0⟩, ⟨%Y1, H1⟩⟩
  iapply (key fun | ⟨0, _⟩ => Y0 | ⟨_ + 1, _⟩ => Y1)
  isplitl [H0] <;> iassumption

end Pair

/-! ## The scratch -/

/-- A buffer at some contents. -/
def anyBuf (c : Dev nD) (b : Ref sig .tc) : sProp 𝕄 := iprop(∃ f : Buf (Elt F) ((c : Thread nD τ).loc b), ((c : Thread nD τ).loc b) ↦{fullShare} f)

omit [FloatOps F] in
theorem any_owns (c : Dev nD) (b : Ref sig .tc) :
    (anyBuf c b : sProp 𝕄) = iprop(∃ X : b.ty.Contents (Elt F), owns (c : Thread nD τ) (Memref.whole b) fullShare X) := by
  unfold anyBuf
  exact congrArg _ (funext fun f => (owns_whole (c : Thread nD τ) b fullShare f).symm)

/-- The buffers of the pairs. -/
def sbB : Fin 4 → Ref sig .tc
  | ⟨0, _⟩ => cc0_scratch1
  | ⟨1, _⟩ => cc0_scratch2
  | ⟨2, _⟩ => cc0_scratch3
  | ⟨3, _⟩ => cc0_scratch4
def rbB : Fin 4 → Ref sig .tc
  | ⟨0, _⟩ => cc0_scratch5
  | ⟨1, _⟩ => cc0_scratch6
  | ⟨2, _⟩ => cc0_scratch7
  | ⟨3, _⟩ => cc0_scratch8

omit [FloatOps F] in
theorem sb_owns (c : Dev nD) : ∀ p : Fin 4, (anyBuf c (sbB p) : sProp 𝕄) = iprop(∃ X, owns (c : Thread nD τ) (sbM p) fullShare X)
  | ⟨0, _⟩ => any_owns c cc0_scratch1
  | ⟨1, _⟩ => any_owns c cc0_scratch2
  | ⟨2, _⟩ => any_owns c cc0_scratch3
  | ⟨3, _⟩ => any_owns c cc0_scratch4
omit [FloatOps F] in
theorem rb_owns (c : Dev nD) : ∀ p : Fin 4, (anyBuf c (rbB p) : sProp 𝕄) = iprop(∃ X, owns (c : Thread nD τ) (rbM p) fullShare X)
  | ⟨0, _⟩ => any_owns c cc0_scratch5
  | ⟨1, _⟩ => any_owns c cc0_scratch6
  | ⟨2, _⟩ => any_owns c cc0_scratch7
  | ⟨3, _⟩ => any_owns c cc0_scratch8

/-- The slots of a pipe, at some contents. -/
def slotsP (c : Dev nD) (p : Fin 4) : sProp 𝕄 :=
  iprop(slotAny c (sbM p) 0 ∗ slotAny c (sbM p) 1 ∗ slotAny c (rbM p) 0 ∗ slotAny c (rbM p) 1)

omit [FloatOps F] in
theorem bufs_slots (c : Dev nD) (p : Fin 4) : iprop(anyBuf c (sbB p) ∗ anyBuf c (rbB p)) ⊢ (slotsP c p : sProp 𝕄) := by
  rw [sb_owns, rb_owns]
  unfold slotsP
  iintro ⟨⟨%X, Hs⟩, ⟨%Y, Hr⟩⟩
  ihave Hs := (pair_slots c (sbM p) X) $$ Hs
  icases Hs with ⟨Hs0, Hs1⟩
  ihave Hr := (pair_slots c (rbM p) Y) $$ Hr
  icases Hr with ⟨Hr0, Hr1⟩
  isplitl [Hs0]; · iexact Hs0
  isplitl [Hs1]; · iexact Hs1
  isplitl [Hr0] <;> iassumption

theorem slots_bufs (c : Dev nD) (p : Fin 4) : (slotsP c p : sProp 𝕄) ⊢ iprop(anyBuf c (sbB p) ∗ anyBuf c (rbB p)) := by
  rw [sb_owns, rb_owns]
  unfold slotsP
  iintro ⟨Hs0, Hs1, Hr0, Hr1⟩
  isplitl [Hs0 Hs1]
  · iapply (slots_pair c (sbM p))
    isplitl [Hs0] <;> iassumption
  iapply (slots_pair c (rbM p))
  isplitl [Hr0] <;> iassumption

omit [FloatOps F] in
/-- The call's scratch, by pipe. -/
theorem scratch_eq (c : Dev nD) :
    (Pipeline.scopedRest (Ix := ℕ) (Name := ℕ) (U := UU) (Lvl := ℕ) (Val := Elt F) spec0 c : sProp 𝕄)
      = iprop(anyBuf c cc0_scratch0 ∗ bigSep Finset.univ fun p : Fin 4 => iprop(anyBuf c (sbB p) ∗ anyBuf c (rbB p))) := by
  have e1 : (bigSep Finset.univ fun p : Fin 4 => (anyBuf c (sbB p) : sProp 𝕄))
      = iprop(anyBuf c cc0_scratch1 ∗ anyBuf c cc0_scratch2 ∗ anyBuf c cc0_scratch3 ∗ anyBuf c cc0_scratch4) :=
    bigSep_univ_eq_bigSepL (I := Fin 4) [0, 1, 2, 3] (by decide) (by decide) _
  have e2 : (bigSep Finset.univ fun p : Fin 4 => (anyBuf c (rbB p) : sProp 𝕄))
      = iprop(anyBuf c cc0_scratch5 ∗ anyBuf c cc0_scratch6 ∗ anyBuf c cc0_scratch7 ∗ anyBuf c cc0_scratch8) :=
    bigSep_univ_eq_bigSepL (I := Fin 4) [0, 1, 2, 3] (by decide) (by decide) _
  have key (A B C D E : sProp 𝕄) : iprop((A ∗ B ∗ C ∗ D) ∗ E) = iprop(A ∗ B ∗ C ∗ D ∗ E) := by
    have h1 : iprop((A ∗ B ∗ C ∗ D) ∗ E) ⊢ iprop(A ∗ B ∗ C ∗ D ∗ E) := by
      iintro ⟨⟨H1, H2, H3, H4⟩, H5⟩
      isplitl [H1]; · iexact H1
      isplitl [H2]; · iexact H2
      isplitl [H3]; · iexact H3
      isplitl [H4] <;> iassumption
    have h2 : iprop(A ∗ B ∗ C ∗ D ∗ E) ⊢ iprop((A ∗ B ∗ C ∗ D) ∗ E) := by
      iintro ⟨H1, H2, H3, H4, H5⟩
      isplitr [H5]
      · isplitl [H1]; · iexact H1
        isplitl [H2]; · iexact H2
        isplitl [H3] <;> iassumption
      iexact H5
    exact BI.equiv_iff.mp ⟨h1, h2⟩
  rw [bigSep_sep', e1, e2, key]
  exact scopedRest0_eq c

/-! ## Opening a pipe's cells -/

section Cells

variable (xv : Dev nD → S4096x128.Idx → Elt F .fp8e4m3) (wv : Dev nD → S128x8192.Idx → Elt F .bf16) (K : GSem nD τ sig → ℕ) (J : Key → ℕ)
variable (c : Dev nD) (p : Fin 4)

/-- A cell opened: the device stands at its first round. -/
abbrev at0 (g : GSem nD τ sig) : sProp 𝕄 := iprop(atPos ER g 0 ∅ 0 ∗ reached ER g 0)

/-- The cells of a pipe open. -/
theorem open_cells :
    iprop(inv xv wv K J ∗ (bigSep Finset.univ fun i : Fin 5 => openTok ER ((c : Thread nD τ), osem (p, i)))
        ∗ bigSep Finset.univ fun i : Fin 5 => semVal ((c : Thread nD τ), osem (p, i)) 0)
      ⊢ (|={Set.univ}=> (at0 (sndC c p 0) ∗ at0 (sndC c p 1) ∗ at0 (rcvC c p 0) ∗ at0 (rcvC c p 1) ∗ at0 (crdC c p)) : sProp 𝕄) := by
  have h (i : Fin 5) : iprop(inv xv wv K J ∗ (openTok ER ((c : Thread nD τ), osem (p, i)) ∗ semVal ((c : Thread nD τ), osem (p, i)) 0))
      ⊢ (|={Set.univ}=> at0 ((c : Thread nD τ), osem (p, i)) : sProp 𝕄) := by
    have hI := inv_cell xv wv K J (sc_mem c (p, i))
    iintro ⟨#HI, Ho, Hs⟩
    iapply (Rounds.cell_open ER (rd xv wv) (g := ((c : Thread nD τ), osem (p, i))) (Set.mem_univ (K ((c : Thread nD τ), osem (p, i)))))
    isplitr; · iapply hI $$ HI
    isplitl [Ho] <;> iassumption
  rw [← bigSep_sep']
  have h5 : (bigSep Finset.univ fun i : Fin 5 => (at0 ((c : Thread nD τ), osem (p, i)) : sProp 𝕄))
      = iprop(at0 (sndC c p 0) ∗ at0 (sndC c p 1) ∗ at0 (rcvC c p 0) ∗ at0 (rcvC c p 1) ∗ at0 (crdC c p)) :=
    bigSep_univ_eq_bigSepL (I := Fin 5) [0, 1, 2, 3, 4] (by decide) (by decide) _
  have h6 := (bigSep_with_persistent (S := Finset.univ) (R := inv xv wv K J) fun i _ => h i).trans (bigSep_fupd _ _)
  rw [h5] at h6
  exact h6

/-- What a device needs to run a pipe. -/
theorem pre_of (hc : 0 < 29) :
    iprop((at0 (sndC c p 0) ∗ at0 (sndC c p 1) ∗ at0 (rcvC c p 0) ∗ at0 (rcvC c p 1) ∗ at0 (crdC c p))
        ∗ (readerAt ES ((c, p, 0) : Key) 0 ∗ readerAt ES ((c, p, 1) : Key) 0) ∗ sendTok c p 0 ∗ toks c p 1 ∗ slotsP c p)
      ⊢ (Pre c p : sProp 𝕄) := by
  unfold Pre slotsP idle rin crAt
  rw [if_pos hc]
  iintro ⟨⟨⟨S0, RS0⟩, ⟨S1, RS1⟩, ⟨R0, RR0⟩, ⟨R1, RR1⟩, ⟨C, RC⟩⟩, ⟨D0, D1⟩, Hs, Ht, A0, A1, B0, B1⟩
  isplitl [S0 RS0 A0]
  · isplitl [S0]; · iexact S0
    isplitl [RS0] <;> iassumption
  isplitl [S1 RS1 A1]
  · isplitl [S1]; · iexact S1
    isplitl [RS1] <;> iassumption
  isplitl [D0 B0 R0 RR0]
  · isplitl [D0]; · iexact D0
    isplitl [B0]; · iexact B0
    isplitl [R0] <;> iassumption
  isplitl [D1 B1 R1 RR1]
  · isplitl [D1]; · iexact D1
    isplitl [B1]; · iexact B1
    isplitl [R1] <;> iassumption
  isplitl [C]
  · iexists ∅
    isplitr; · ipureintro; exact Finset.empty_subset _
    isplitl [C]; · iexact C
    rw [BI.bigSep_empty]; iempintro
  isplitl [RC]; · iexact RC
  isplitl [Hs] <;> iassumption

end Cells

end Cert.KernelIdeal.Ring
-- ==== Proof.Ideal.Table.lean ====
module
public import proofs.«01_k».proof.Proof.Ideal.Steps
public import proofs.«01_k».proof.Proof.Gen.KernelIdeal.Regions
public import Idealize.ShloMosaic.Lib.StableHlo.RunRead

@[expose] public section

noncomputable section

/-! The table of ring neighbours and chunks that the kernel is handed: what the host line before the kernel computes on
    each device. Each stretch of the line is read once, from any contents. -/

namespace Cert.KernelIdeal.Ring

open Cert.KernelIdeal Cert.KernelIdeal.Gen
open Idealize.ShloMosaic Idealize.ShloMosaic.TcCoe

variable {F : FTy → Type} [FloatOps F]

abbrev I1 := S_.Idx → BitVec 32
abbrev I32 := S32.Idx → BitVec 32

/-- The entry of a vector of 32 at a position. -/
def ix (k : Fin 32) : S32.Idx := fun a => ⟨k.1, by fin_cases a; exact k.2⟩
theorem ix_eq (i : S32.Idx) : ∃ k, i = ix k := ⟨⟨(i 0).1, (i 0).2⟩, by funext a; fin_cases a; rfl⟩
theorem i0_eq (i : S_.Idx) : i = Shape.Idx.first h_S_ := by funext a; exact a.elim0

/-- The order of the devices round the ring, and the position of a device in it. -/
def perm : I32 := fun i => lit0 (S32.rowMajor i)
def pos (c : Dev nD) : Fin 32 :=
  (![0, 31, 16, 15, 14, 17, 18, 13, 1, 30, 25, 6, 7, 24, 19, 12, 2, 29, 26, 5, 8, 23, 20, 11, 3, 28, 27, 4, 9, 22, 21, 10]
    : Fin 32 → Fin 32) c

/-- The host line's remainder by 32: of one word, and of a vector. -/
def remS (a : I1) : I1 :=
  let n : I1 := select (cmpi .eq (constantI S_ 32 32#32) (constantI S_ 32 0#32)) (constantI S_ 32 1#32) (constantI S_ 32 32#32)
  let r : I1 := Host.remsi a n
  select (andi (cmpi .ne (cmpi .slt r (constantI S_ 32 0#32)) (cmpi .slt n (constantI S_ 32 0#32))) (cmpi .ne r (constantI S_ 32 0#32))) (addi r n) r
def remV (a : I32) : I32 :=
  let n : I1 := select (cmpi .eq (constantI S_ 32 32#32) (constantI S_ 32 0#32)) (constantI S_ 32 1#32) (constantI S_ 32 32#32)
  let b : I1 → I32 := broadcastInDim S32 ![] bcast_S_S32
  let r : I32 := Host.remsi a (b n)
  select (andi (cmpi .ne (cmpi .slt r (b (constantI S_ 32 0#32))) (broadcastInDim S32 ![] bcast_S_S32 (cmpi .slt n (constantI S_ 32 0#32)))) (cmpi .ne r (b (constantI S_ 32 0#32)))) (addi r (b n)) r
def wrapS (a : I1) : I1 := select (cmpi .slt a (constantI S_ 32 0#32)) (addi a (constantI S_ 32 32#32)) a
/-- The entry of the order at a word, and at a vector of words. -/
def lookS (x : I32) (a : I1) : I1 :=
  shapeCast S_ (Host.dynamicSlice S1 x (fun _ => (wrapS a (Shape.Idx.first h_S_)).toInt) sliceFits_S32_S1) shapeCasts_S1_S_
def lookV (a : I32) : I32 :=
  let b : I1 → I32 := broadcastInDim S32 ![] bcast_S_S32
  Host.gather gather_S32_S32x1_S32_n_0_n_n_0_1_1 perm
    (broadcastInDim S32x1 ![0] bcast_S32_S32x1_0 (select (cmpi .slt a (b (constantI S_ 32 0#32))) (addi a (b (constantI S_ 32 32#32))) a : I32))

def posW (c : Dev nD) : I1 := fun _ => BitVec.ofNat 32 (pos c).1

section Line

variable (V : Valuation τ sig (Elt F))

theorem st0_c (c : Dev nD) : StableHlo.after (hostOps0 c) V main_c = (perm : I32) := by after_reads_simp; rfl
theorem st0_v6 (c : Dev nD) : StableHlo.after (hostOps0 c) V main_v6
    = (cmpi .eq perm (broadcastInDim S32 ![] bcast_S_S32 (Host.remui (Host.divui (constantI S_ 32 (Dev.word c)) (constantI S_ 32 1#32)) (constantI S_ 32 32#32)) : I32) : S32.Idx → BitVec 1) := by
  after_reads_simp; rfl
theorem st1_v7 : StableHlo.after hostOps0_1 V main_v7
    = (fun j => (Host.reduce2 reducer_argmax_i1_i32 (V main_v6 : S32.Idx → BitVec 1) (iotaInDim S32 32 0) (constantI S_ 1 0#1) (constantI S_ 32 0#32) reducesTo_S32_S_d0 h_S_ j).2 : I1) := by
  after_reads_simp; rfl
theorem st2_v8 : StableHlo.after hostOps0_2 V main_v8 = (addi (V main_v7 : I1) (constantI S_ 32 1#32) : I1) := by after_reads_simp
theorem st2_c3 : StableHlo.after hostOps0_2 V main_c_3 = (constantI S_ 32 32#32 : I1) := by after_reads_simp
theorem st3_v9 (h : V main_c_3 = (constantI S_ 32 32#32 : I1)) : StableHlo.after hostOps0_3 V main_v9 = remS (V main_v8) := by
  after_reads_simp; rw [h]; rfl
theorem st4_v14 (h : V main_c = (perm : I32)) : StableHlo.after hostOps0_4 V main_v14 = lookS perm (V main_v9) := by
  have e : StableHlo.upto hostOps0_4 V 5 main_v12 = wrapS (V main_v9) := by after_reads_simp; rfl
  after_reads_simp; rw [h]; generalize perm = P
  refine congrArg (fun z => (shapeCast S_ (Host.dynamicSlice S1 P z sliceFits_S32_S1) shapeCasts_S1_S_ : I1)) (funext fun k => ?_)
  obtain rfl : k = 0 := Subsingleton.elim _ _
  exact congrArg (fun z : I1 => (z (Shape.Idx.first h_S_)).toInt) e
theorem st4_v15 : StableHlo.after hostOps0_4 V main_v15 = (subi (V main_v7 : I1) (constantI S_ 32 1#32) : I1) := by after_reads_simp
theorem st4_c7 : StableHlo.after hostOps0_4 V main_c_7 = (constantI S_ 32 32#32 : I1) := by after_reads_simp
theorem st5_v16 (h : V main_c_7 = (constantI S_ 32 32#32 : I1)) : StableHlo.after hostOps0_5 V main_v16 = remS (V main_v15) := by
  after_reads_simp; rw [h]; rfl
theorem st6_v21 (h : V main_c = (perm : I32)) : StableHlo.after hostOps0_6 V main_v21 = lookS perm (V main_v16) := by
  have e : StableHlo.upto hostOps0_6 V 5 main_v19 = wrapS (V main_v16) := by after_reads_simp; rfl
  after_reads_simp; rw [h]; generalize perm = P
  refine congrArg (fun z => (shapeCast S_ (Host.dynamicSlice S1 P z sliceFits_S32_S1) shapeCasts_S1_S_ : I1)) (funext fun k => ?_)
  obtain rfl : k = 0 := Subsingleton.elim _ _
  exact congrArg (fun z : I1 => (z (Shape.Idx.first h_S_)).toInt) e
theorem st6_v22 : StableHlo.after hostOps0_6 V main_v22 = (iotaInDim S32 32 0 : I32) := by after_reads_simp
theorem st6_v25 : StableHlo.after hostOps0_6 V main_v25
    = (subi (broadcastInDim S32 ![] bcast_S_S32 (subi (V main_v7 : I1) (constantI S_ 32 1#32) : I1) : I32) (iotaInDim S32 32 0) : I32) := by after_reads_simp
theorem st6_c11 : StableHlo.after hostOps0_6 V main_c_11 = (constantI S_ 32 32#32 : I1) := by after_reads_simp
theorem st7_v26 (h : V main_c_11 = (constantI S_ 32 32#32 : I1)) : StableHlo.after hostOps0_7 V main_v26 = remV (V main_v25) := by
  after_reads_simp; rw [h]; rfl
theorem st8_v33 (h : V main_c = (perm : I32)) : StableHlo.after hostOps0_8 V main_v33 = lookV (V main_v26) := by
  after_reads_simp; rw [h]; rfl
theorem st8_v36 (h : V main_v22 = (iotaInDim S32 32 0 : I32)) : StableHlo.after hostOps0_8 V main_v36
    = (addi (broadcastInDim S32 ![] bcast_S_S32 (addi (V main_v7 : I1) (constantI S_ 32 1#32) : I1) : I32) (iotaInDim S32 32 0) : I32) := by
  after_reads_simp; rw [h]
theorem st8_c15 : StableHlo.after hostOps0_8 V main_c_15 = (constantI S_ 32 32#32 : I1) := by after_reads_simp
theorem st9_v37 (h : V main_c_15 = (constantI S_ 32 32#32 : I1)) : StableHlo.after hostOps0_9 V main_v37 = remV (V main_v36) := by
  after_reads_simp; rw [h]; rfl
def pairT (a b : I1) : S2.Idx → BitVec 32 :=
  concatenate S2 0 [⟨S1, (broadcastInDim S1 ![] bcast_S_S1 a : S1.Idx → BitVec 32)⟩, ⟨S1, (broadcastInDim S1 ![] bcast_S_S1 b : S1.Idx → BitVec 32)⟩] concatenates_S1_S1_S2_d0
def joinT (u : S2.Idx → BitVec 32) (d e : I32) : S66.Idx → BitVec 32 :=
  concatenate S66 0 [⟨S2, u⟩, ⟨S32, d⟩, ⟨S32, e⟩] concatenates_S2_S32_S32_S66_d0
theorem st10_v48 (h : V main_c = (perm : I32)) : StableHlo.after hostOps0_10 V main_v48
    = joinT (pairT (V main_v14) (V main_v21)) (V main_v33) (lookV (V main_v37)) := by
  have e0 : StableHlo.upto hostOps0_10 V 12 main_v47 = pairT (V main_v14) (V main_v21) := by after_reads_simp; rfl
  have e1 : StableHlo.upto hostOps0_10 V 12 main_v33 = V main_v33 := by after_reads_simp
  have e2 : StableHlo.upto hostOps0_10 V 12 main_v44 = lookV (V main_v37) := by after_reads_simp; rw [h]; rfl
  after_reads_simp
  have e3 := congr (congr (congrArg joinT e0) e1) e2
  exact e3

end Line

/-! ## The words themselves -/

theorem pos_w (c : Dev nD) : (fun j => (Host.reduce2 reducer_argmax_i1_i32
      (cmpi .eq perm (broadcastInDim S32 ![] bcast_S_S32 (Host.remui (Host.divui (constantI S_ 32 (Dev.word c)) (constantI S_ 32 1#32)) (constantI S_ 32 32#32)) : I32) : S32.Idx → BitVec 1)
      (iotaInDim S32 32 0) (constantI S_ 1 0#1) (constantI S_ 32 0#32) reducesTo_S32_S_d0 h_S_ j).2 : I1) = posW c := by
  funext j; rw [i0_eq j]; revert c; decide +kernel

/-- The chunk each direction's step reads, and the two neighbours, as the host line writes them from the position. -/
def fwdT (c : Dev nD) : I32 := lookV (remV (subi (broadcastInDim S32 ![] bcast_S_S32 (subi (posW c) (constantI S_ 32 1#32) : I1) : I32) (iotaInDim S32 32 0)))
def bwdT (c : Dev nD) : I32 := lookV (remV (addi (broadcastInDim S32 ![] bcast_S_S32 (addi (posW c) (constantI S_ 32 1#32) : I1) : I32) (iotaInDim S32 32 0)))
def nextT (c : Dev nD) : I1 := lookS perm (remS (addi (posW c) (constantI S_ 32 1#32)))
def prevT (c : Dev nD) : I1 := lookS perm (remS (subi (posW c) (constantI S_ 32 1#32)))
def tabT (c : Dev nD) : S66.Idx → BitVec 32 := joinT (pairT (nextT c) (prevT c)) (fwdT c) (bwdT c)

/-- A word of the table: for each device and each entry the one that the ring asks for. -/
def wordB (T : S66.Idx → BitVec 32) (j : Fin 66) : BitVec 32 := T ((wordR j).emb (Shape.Idx.first (numel1_S1.symm ▸ Nat.one_pos)))

theorem tabT_next (c : Dev nD) : wordB (tabT c) 0 = devW (nx c) := by revert c; decide +kernel
theorem tabT_prev (c : Dev nD) : wordB (tabT c) 1 = devW (pv c) := by revert c; decide +kernel
theorem tabT_fwd (c : Dev nD) (s : Fin 31) : wordB (tabT c) (Fin.ofNat 66 (2 + s.1)) = devW (pv^[s.1 + 1] c) := by
  revert c s; decide +kernel
theorem tabT_bwd (c : Dev nD) (s : Fin 31) : wordB (tabT c) (Fin.ofNat 66 (34 + s.1)) = devW (nx^[s.1 + 1] c) := by
  revert c s; decide +kernel

theorem tabT_ok (c : Dev nD) : TabOk (F := F) c (tabT c) where
  next := tabT_next c
  prev := tabT_prev c
  ent p s hs := by
    unfold entry chunk src toward
    cases isFwd p
    · exact tabT_bwd c ⟨s, hs⟩
    · exact tabT_fwd c ⟨s, hs⟩

section Read

variable (m : (ℓ : Loc nD τ sig) → Buf (Elt F) ℓ) (c : Dev nD)

theorem at_c (c : Dev nD) : V1 m c main_c = (perm : I32) := st0_c _ c
theorem at_v7 : V2 m c main_v7 = posW c := by
  refine (st1_v7 _).trans ?_
  rw [show V1 m c main_v6 = _ from st0_v6 _ c]; exact pos_w c
theorem at_v14 : V5 m c main_v14 = nextT c := by
  rw [show V5 m c main_v14 = _ from st4_v14 _ ((V4_of m c main_c (by decide)).trans ((V3_of m c main_c (by decide)).trans ((V2_of m c main_c (by decide)).trans (at_c m c))))]
  rw [show V4 m c main_v9 = _ from st3_v9 _ (st2_c3 _), show V3 m c main_v8 = _ from st2_v8 _, at_v7]; rfl
theorem at5_v7 : V4 m c main_v7 = posW c := (V4_of m c main_v7 (by decide)).trans ((V3_of m c main_v7 (by decide)).trans (at_v7 m c))
theorem at5_c : V6 m c main_c = (perm : I32) :=
  (V6_of m c main_c (by decide)).trans ((V5_of m c main_c (by decide)).trans ((V4_of m c main_c (by decide)).trans ((V3_of m c main_c (by decide)).trans ((V2_of m c main_c (by decide)).trans (at_c m c)))))
theorem at_v21 : V7 m c main_v21 = prevT c := by
  rw [show V7 m c main_v21 = _ from st6_v21 _ (at5_c m c)]
  rw [show V6 m c main_v16 = _ from st5_v16 _ (st4_c7 _), show V5 m c main_v15 = _ from st4_v15 _, at5_v7]; rfl
theorem at7_v7 : V6 m c main_v7 = posW c := (V6_of m c main_v7 (by decide)).trans ((V5_of m c main_v7 (by decide)).trans (at5_v7 m c))
theorem at8_c : V8 m c main_c = (perm : I32) := (V8_of m c main_c (by decide)).trans ((V7_of m c main_c (by decide)).trans (at5_c m c))
theorem at_v33 : V9 m c main_v33 = fwdT c := by
  rw [show V9 m c main_v33 = _ from st8_v33 _ (at8_c m c)]
  rw [show V8 m c main_v26 = _ from st7_v26 _ (st6_c11 _), show V7 m c main_v25 = _ from st6_v25 _, at7_v7]; rfl
theorem at8_v7 : V8 m c main_v7 = posW c := (V8_of m c main_v7 (by decide)).trans ((V7_of m c main_v7 (by decide)).trans (at7_v7 m c))
theorem at_v37 : V10 m c main_v37 = remV (addi (broadcastInDim S32 ![] bcast_S_S32 (addi (posW c) (constantI S_ 32 1#32) : I1) : I32) (iotaInDim S32 32 0)) := by
  rw [show V10 m c main_v37 = _ from st9_v37 _ (st8_c15 _),
    show V9 m c main_v36 = _ from st8_v36 _ ((V8_of m c main_v22 (by decide)).trans (st6_v22 _)), at8_v7]
theorem at_v48 : V11 m c main_v48 = tabT c := by
  rw [show V11 m c main_v48 = _ from st10_v48 _ ((V10_of m c main_c (by decide)).trans ((V9_of m c main_c (by decide)).trans (at8_c m c)))]
  rw [at_v37, show V10 m c main_v14 = nextT c from (V10_of m c main_v14 (by decide)).trans ((V9_of m c main_v14 (by decide)).trans ((V8_of m c main_v14 (by decide)).trans ((V7_of m c main_v14 (by decide)).trans ((V6_of m c main_v14 (by decide)).trans (at_v14 m c))))),
    show V10 m c main_v21 = prevT c from (V10_of m c main_v21 (by decide)).trans ((V9_of m c main_v21 (by decide)).trans ((V8_of m c main_v21 (by decide)).trans (at_v21 m c))),
    show V10 m c main_v33 = fwdT c from (V10_of m c main_v33 (by decide)).trans (at_v33 m c)]
  rfl
theorem tab_ok : TabOk (F := F) c (V11 m c main_v48) := (at_v48 m c).symm ▸ tabT_ok c

end Read

end Cert.KernelIdeal.Ring
-- ==== Proof.Ideal.Eq.lean ====
module

public import proofs.«01_k».proof.Proof.Ideal.Prog

@[expose] public section

set_option maxRecDepth 1000000

noncomputable section

namespace Cert.KernelIdeal.Ring

open Cert.KernelIdeal Cert.KernelIdeal.Gen
open Idealize.ShloMosaic Idealize.SL.Sem

variable {F : FTy → Type} [FloatOps F]

/-- The printed body is the program above. -/
theorem body_eq (x : Memref sig .tc .vmem S4096x128 .fp8e4m3) (hx : x.IsWhole)
    (wb : Memref sig .tc .vmem S128x8192 .fp8e4m3) (hw : wb.IsWhole)
    (sx : Memref sig .tc .smem S1 .f32) (hsx : sx.IsWhole) (sw : Memref sig .tc .smem S1 .f32) (hsw : sw.IsWhole)
    (tab : Memref sig .tc .smem S66 .i32) (htab : tab.IsWhole)
    (o : Memref sig .tc .vmem S128x8192 .f32) (ho : o.IsWhole) :
    cc0_body (F := F) x hx wb hw sx hsx sw hsw tab htab o ho
      (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      cc0_scratch9 cc0_scratch10 cc0_scratch11 cc0_scratch12 cc0_scratch13 cc0_scratch14 cc0_scratch15 cc0_scratch16
      cc0_scratch17 cc0_scratch18 cc0_scratch19 cc0_scratch20
    = bodyP x wb sx sw tab o := by
  rfl

end Cert.KernelIdeal.Ring
-- ==== Proof.Ideal.Region.lean ====
module

public import proofs.«01_k».proof.Proof.Ideal.Open
public import proofs.«01_k».proof.Proof.Ideal.Table
public import proofs.«01_k».proof.Proof.Ideal.Eq
public import proofs.«01_k».proof.Proof.Gen.KernelIdeal.Launch
public import proofs.«01_k».proof.Proof.Gen.KernelIdeal.Points
public import Idealize.ShloMosaic.Lib.Pipeline.RegionTalk

@[expose] public section

noncomputable section

/-!
# The call as a region

The arrays a device stages, the proof data of its one grid point, the body's run between the region's two ends, and the region's record.
-/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf HostSeg RegionSeg Seg)

variable {F : FTy → Type} [FloatOps F]

local notation "𝕄" => MT nD τ sig ℕ (Elt F) ℕ UU ℕ

variable (m : (ℓ : Loc nD τ sig) → Buf (Elt F) ℓ)

/-! ## What is staged -/

/-- The arrays of the call as the host leaves them. -/
def arrA (c : Dev nD) (w : Fin cfg0.W) : Buf (Elt F) ((cfg0.win w).arr.view.loc (c : Thread nD τ)) :=
  V11 m c (Proc.devRef .tc (Pipeline.arrRef spec0 w))

def xS (c : Dev nD) : S4096x128.Idx → Elt F .fp8e4m3 := (win0_0.blk t0_0).view.read (Elt F) (arrA m c (0 : Fin 6))
def wS (c : Dev nD) : S128x8192.Idx → Elt F .fp8e4m3 := (win0_1.blk t0_0).view.read (Elt F) (arrA m c (1 : Fin 6))
def sxS (c : Dev nD) : S1.Idx → Elt F .f32 := (win0_2.blk t0_0).view.read (Elt F) (arrA m c (2 : Fin 6))
def swS (c : Dev nD) : S1.Idx → Elt F .f32 := (win0_3.blk t0_0).view.read (Elt F) (arrA m c (3 : Fin 6))
def tabS (c : Dev nD) : S66.Idx → Elt F .i32 := (win0_4.blk t0_0).view.read (Elt F) (arrA m c (4 : Fin 6))

/-- The weights as the body widens them. -/
def wW (c : Dev nD) : S128x8192.Idx → Elt F .bf16 := wideP (wS m c)

/-- The product of the scales. -/
def scS (c : Dev nD) : F .f32 := Scalar.mulf (scOf (sxS m c)) (scOf (swS m c))

/-- The result's block. -/
def outS (c : Dev nD) : S128x8192.Idx → Elt F .f32 := resV (xS m) (wW m) c (scS m c) fun _ => (Elt.nonempty F .f32).some

/-- A block that is the whole array is read as the array. -/
theorem read_x (c : Dev nD) (f : Buf (Elt F) ((c : Thread nD τ).loc main_arg0)) : (win0_0.blk t0_0).view.read (Elt F) f = f :=
  Memref.read_access_unit_zero (Elt F) main_arg0 (show (fun a => (win0_0.index t0_0) a * main_arg0.ty.shape.size a) = fun _ => 0 from
    funext fun a => by fin_cases a <;> decide) (fun a => by fin_cases a <;> decide) f
theorem read_w (c : Dev nD) (f : Buf (Elt F) ((c : Thread nD τ).loc main_arg1)) : (win0_1.blk t0_0).view.read (Elt F) f = f :=
  Memref.read_access_unit_zero (Elt F) main_arg1 (show (fun a => (win0_1.index t0_0) a * main_arg1.ty.shape.size a) = fun _ => 0 from
    funext fun a => by fin_cases a <;> decide) (fun a => by fin_cases a <;> decide) f
theorem read_sx (c : Dev nD) (f : Buf (Elt F) ((c : Thread nD τ).loc main_arg2)) : (win0_2.blk t0_0).view.read (Elt F) f = f :=
  Memref.read_access_unit_zero (Elt F) main_arg2 (show (fun a => (win0_2.index t0_0) a * main_arg2.ty.shape.size a) = fun _ => 0 from
    funext fun a => by fin_cases a <;> decide) (fun a => by fin_cases a <;> decide) f
theorem read_sw (c : Dev nD) (f : Buf (Elt F) ((c : Thread nD τ).loc main_arg3)) : (win0_3.blk t0_0).view.read (Elt F) f = f :=
  Memref.read_access_unit_zero (Elt F) main_arg3 (show (fun a => (win0_3.index t0_0) a * main_arg3.ty.shape.size a) = fun _ => 0 from
    funext fun a => by fin_cases a <;> decide) (fun a => by fin_cases a <;> decide) f
theorem read_tab (c : Dev nD) (f : Buf (Elt F) ((c : Thread nD τ).loc main_v48)) : (win0_4.blk t0_0).view.read (Elt F) f = f :=
  Memref.read_access_unit_zero (Elt F) main_v48 (show (fun a => (win0_4.index t0_0) a * main_v48.ty.shape.size a) = fun _ => 0 from
    funext fun a => by fin_cases a <;> decide) (fun a => by fin_cases a <;> decide) f
theorem read_out (c : Dev nD) (f : Buf (Elt F) ((c : Thread nD τ).loc main_v49)) : (win0_5.blk t0_0).view.read (Elt F) f = f :=
  Memref.read_access_unit_zero (Elt F) main_v49 (show (fun a => (win0_5.index t0_0) a * main_v49.ty.shape.size a) = fun _ => 0 from
    funext fun a => by fin_cases a <;> decide) (fun a => by fin_cases a <;> decide) f

theorem tab_ok' (c : Dev nD) : TabOk (F := F) c (tabS m c) := by
  rw [show tabS m c = V11 m c main_v48 from read_tab c _]
  exact tab_ok m c

/-! ## The result does not depend on what its buffer held -/

omit [FloatOps F] in
theorem overlay_agree {s : Shape} {α : Type} (r : Rect s) (X X' : s.Idx → α) (G : r.shape.Idx → α) (i : s.Idx) (h : i ∉ r.set → X i = X' i) :
    r.overlay X G i = r.overlay X' G i := by
  by_cases hi : i ∈ r.set
  · obtain ⟨j, rfl⟩ := r.toLoadRect.exists_idx_of_mem hi
    exact (Rect.overlay_emb r X G j).trans (Rect.overlay_emb r X' G j).symm
  · rw [Rect.overlay_of_not_mem r X G hi, Rect.overlay_of_not_mem r X' G hi, h hi]

theorem cols_cover (i : S128x8192.Idx) : i ∈ (colR 0).set ∨ i ∈ (colR 2).set ∨ i ∈ (colR 1).set ∨ i ∈ (colR 3).set := by
  have h0 : (i 0).val < 128 := (i 0).isLt
  have h1 : (i 1).val < 8192 := (i 1).isLt
  have hm (p : Fin 4) (hp : colOf p ≤ (i 1).val ∧ (i 1).val < colOf p + 2048) : i ∈ (colR p).set :=
    Rect.mem_set_unit.mpr fun a => by
      fin_cases a
      · exact ⟨Nat.zero_le _, by show (i 0).val < 0 + 128; omega⟩
      · exact hp
  by_cases a : (i 1).val < 2048
  · exact .inl (hm 0 (by show 0 ≤ _ ∧ _ < 0 + 2048; omega))
  by_cases b : (i 1).val < 4096
  · exact .inr (.inr (.inl (hm 1 (by show 2048 ≤ _ ∧ _ < 2048 + 2048; omega))))
  by_cases d : (i 1).val < 6144
  · exact .inr (.inl (hm 2 (by show 4096 ≤ _ ∧ _ < 4096 + 2048; omega)))
  · exact .inr (.inr (.inr (hm 3 (by show 6144 ≤ _ ∧ _ < 6144 + 2048; omega))))

theorem resV_any (xv : Dev nD → S4096x128.Idx → Elt F .fp8e4m3) (wv : Dev nD → S128x8192.Idx → Elt F .bf16) (c : Dev nD) (sc : F .f32)
    (O O' : S128x8192.Idx → Elt F .f32) : resV xv wv c sc O = resV xv wv c sc O' := by
  funext i
  unfold resV
  refine overlay_agree _ _ _ _ _ fun h3 => overlay_agree _ _ _ _ _ fun h1 => overlay_agree _ _ _ _ _ fun h2 => overlay_agree _ _ _ _ _ fun h0 => ?_
  rcases cols_cover i with h | h | h | h
  · exact absurd h h0
  · exact absurd h h2
  · exact absurd h h1
  · exact absurd h h3

/-! ## The proof data -/

/-- A pipe's share, its cells open. -/
def gp (c : Dev nD) (p : Fin 4) : sProp 𝕄 :=
  iprop((at0 (sndC c p 0) ∗ at0 (sndC c p 1) ∗ at0 (rcvC c p 0) ∗ at0 (rcvC c p 1) ∗ at0 (crdC c p))
    ∗ (readerAt ES ((c, p, 0) : Key) 0 ∗ readerAt ES ((c, p, 1) : Key) 0) ∗ sendTok c p 0 ∗ toks c p 1 ∗ writeTok ES ((c, p, par 31) : Key) 16)

/-- A device's share, its cells open. -/
def opened (c : Dev nD) : sProp 𝕄 :=
  iprop((∃ K J, inv (xS m) (wW m) K J ∗ barGh c ∗ bigSep Finset.univ fun p => gp c p) ∗ levAts L lv)

/-- The scratch and the generator's register. -/
def rest (c : Dev nD) : sProp 𝕄 :=
  iprop(Pipeline.scopedRest (Ix := ℕ) (Name := ℕ) (U := UU) (Lvl := ℕ) (Val := Elt F) spec0 c ∗ ∃ r, prngReg c r)

/-- What is left once the body has run. -/
def after (c : Dev nD) : sProp 𝕄 :=
  iprop(Pipeline.ownSems0 (Ix := ℕ) (Name := ℕ) (U := UU) (Lvl := ℕ) (Val := Elt F) (τ := τ) osem c ∗ semVal (barC c) 0)

def dats (_ : Fin 1) (c : Dev nD) : Dat τ (Elt F) ℕ ℕ UU ℕ cfg0 c where
  A w := arrA m c w
  after w _ := match w with
    | ⟨0, _⟩ => xS m c
    | ⟨1, _⟩ => wS m c
    | ⟨2, _⟩ => sxS m c
    | ⟨3, _⟩ => swS m c
    | ⟨4, _⟩ => tabS m c
    | ⟨5, _⟩ => outS m c
  Φ t := match t with
    | ⟨0, _⟩ => iprop(opened m c ∗ rest (F := F) c)
    | ⟨_ + 1, _⟩ => iprop(after (F := F) c ∗ rest (F := F) c)
  q _ := fullShare
  owed t := match t with
    | ⟨0, _⟩ => owe0 c
    | ⟨_ + 1, _⟩ => 0

/-! ## The region's two ends -/

omit [FloatOps F] in
theorem ownSems_eq (c : Dev nD) :
    (Pipeline.ownSems0 (Ix := ℕ) (Name := ℕ) (U := UU) (Lvl := ℕ) (Val := Elt F) (τ := τ) osem c : sProp 𝕄)
      = bigSep Finset.univ fun p : Fin 4 => bigSep Finset.univ fun i : Fin 5 => semVal ((c : Thread nD τ), osem (p, i)) 0 := by
  unfold Pipeline.ownSems0
  exact bigSep_univ_prod _

theorem open_all (c : Dev nD) : iprop(share (xS m) (wW m) c ∗ Pipeline.ownSems0 osem c ∗ levAts L lv) ⊢ (|={Set.univ}=> opened m c : sProp 𝕄) := by
  rw [ownSems_eq]
  unfold share opened
  have hp (K : GSem nD τ sig → ℕ) (J : Key → ℕ) (p : Fin 4) :
      iprop(inv (xS m) (wW m) K J ∗ (ghP c p ∗ bigSep Finset.univ fun i : Fin 5 => semVal ((c : Thread nD τ), osem (p, i)) 0))
        ⊢ (|={Set.univ}=> gp c p : sProp 𝕄) := by
    have ho := open_cells (xS m) (wW m) K J c p
    unfold ghP gp
    iintro ⟨#HI, ⟨Ho, Hr⟩, Hs⟩
    imod ho $$ [Ho Hs] with Hc
    · isplitr; · iexact HI
      isplitl [Ho] <;> iassumption
    imodintro
    isplitl [Hc]; · iexact Hc
    iexact Hr
  have hall (K : GSem nD τ sig → ℕ) (J : Key → ℕ) := (bigSep_with_persistent (S := Finset.univ) (R := inv (xS m) (wW m) K J) fun p _ => hp K J p).trans (bigSep_fupd _ _)
  iintro ⟨⟨%K, %J, #HI, Hb, Hg⟩, Hs, Hl⟩
  imod (hall K J) $$ [Hg Hs] with Hp
  · isplitr; · iexact HI
    rw [bigSep_sep']
    isplitl [Hg] <;> iassumption
  imodintro
  isplitr [Hl]
  · iexists K, J
    isplitr; · iexact HI
    isplitl [Hb] <;> iassumption
  iexact Hl

/-- Entering: the pipes' shares and the scratch are what the body needs. -/
theorem enter (c : Dev nD) :
    iprop((bigSep Finset.univ fun p => gp c p) ∗ bigSep Finset.univ fun p : Fin 4 => iprop(anyBuf c (sbB p) ∗ anyBuf c (rbB p)))
      ⊢ (iprop((Pre c 0 ∗ Pre c 2 ∗ Pre c 1 ∗ Pre c 3) ∗ spares c) : sProp 𝕄) := by
  have hp (p : Fin 4) : iprop(gp c p ∗ (anyBuf c (sbB p) ∗ anyBuf c (rbB p))) ⊢ (iprop(Pre c p ∗ writeTok ES ((c, p, par 31) : Key) 16) : sProp 𝕄) := by
    have h1 := bufs_slots (F := F) c p
    have h2 := pre_of (F := F) c p (by decide)
    unfold gp
    iintro ⟨⟨Ha, Hr, Hs, Ht, Hw⟩, Hb⟩
    isplitr [Hw]
    · iapply h2
      isplitl [Ha]; · iexact Ha
      isplitl [Hr]; · iexact Hr
      isplitl [Hs]; · iexact Hs
      isplitl [Ht]; · iexact Ht
      iapply h1 $$ Hb
    iexact Hw
  have h := bigSep_mono (s := Finset.univ) fun p _ => hp p
  rw [← bigSep_sep']
  refine BIBase.Entails.trans h ?_
  rw [bigSep_sep', bigSep_pipes, bigSep_pipes]
  exact .rfl

/-- Leaving. -/
theorem leave (c : Dev nD) :
    iprop(Post c 0 ∗ Post c 2 ∗ Post c 1 ∗ Post c 3)
      ⊢ (iprop(Pipeline.ownSems0 osem c ∗ bigSep Finset.univ fun p : Fin 4 => iprop(anyBuf c (sbB p) ∗ anyBuf c (rbB p))) : sProp 𝕄) := by
  have hp (p : Fin 4) : (Post c p : sProp 𝕄)
      ⊢ iprop((bigSep Finset.univ fun i : Fin 5 => semVal ((c : Thread nD τ), osem (p, i)) 0) ∗ (anyBuf c (sbB p) ∗ anyBuf c (rbB p))) := by
    have h1 := slots_bufs (F := F) c p
    unfold Post
    iintro ⟨Hs, Hb⟩
    isplitl [Hs]; · iexact Hs
    iapply h1
    unfold slotsP
    iexact Hb
  have h := bigSep_mono (s := Finset.univ) fun p _ => hp p
  rw [bigSep_sep', bigSep_pipes] at h
  rw [ownSems_eq]
  exact h

/-! ## The body -/

theorem owesAt_of (c : Dev nD) (t : Fin (cfg0.N + 1)) (O : CellTallies nD τ sig ℕ) (h : (dats m 0 c).owed t = O) :
    (owed c O : sProp 𝕄) ⊢ ((dats m 0 c).owesAt 0 t : sProp 𝕄) := by
  unfold owed Dat.owesAt Pipeline.owesWithin; rw [h]
  iintro ⟨%W, HO⟩; iexists W; isplitr; · ipureintro; exact fun _ _ => Or.inl trivial
  iexact HO

theorem of_owesAt (c : Dev nD) (t : Fin (cfg0.N + 1)) (O : CellTallies nD τ sig ℕ) (h : (dats m 0 c).owed t = O) :
    ((dats m 0 c).owesAt 0 t : sProp 𝕄) ⊢ owed c O := by
  unfold owed Dat.owesAt Pipeline.owesWithin; rw [h]
  iintro ⟨%W, -, HO⟩; iexists W; iexact HO

/-- What the body is handed and what it hands back, over any staging buffers. -/
theorem wp_region (c : Dev nD) (x : Memref sig .tc .vmem S4096x128 .fp8e4m3) (wb : Memref sig .tc .vmem S128x8192 .fp8e4m3)
    (sx sw : Memref sig .tc .smem S1 .f32) (tab : Memref sig .tc .smem S66 .i32) (o : Memref sig .tc .vmem S128x8192 .f32) (O : S128x8192.Idx → Elt F .f32)
    (Q : PUnit → sProp 𝕄) :
    iprop((opened m c ∗ rest c) ∗ owed c (owe0 c)
        ∗ owns (c : Thread nD τ) x fullShare (xS m c) ∗ owns (c : Thread nD τ) wb fullShare (wS m c) ∗ owns (c : Thread nD τ) sx fullShare (sxS m c)
        ∗ owns (c : Thread nD τ) sw fullShare (swS m c) ∗ owns (c : Thread nD τ) tab fullShare (tabS m c) ∗ owns (c : Thread nD τ) o fullShare O)
      ⊢ iprop(((((after c ∗ rest c) ∗ owed c 0
        ∗ owns (c : Thread nD τ) x fullShare (xS m c) ∗ owns (c : Thread nD τ) wb fullShare (wS m c) ∗ owns (c : Thread nD τ) sx fullShare (sxS m c)
        ∗ owns (c : Thread nD τ) sw fullShare (swS m c) ∗ owns (c : Thread nD τ) tab fullShare (tabS m c) ∗ owns (c : Thread nD τ) o fullShare (outS m c)) -∗ Q ⟨⟩))
        -∗ wpB c (bodyP x wb sx sw tab o) Q) := by
  have hen := enter (F := F) c
  have hle := leave (F := F) c
  have hw := Entails.of_eq (any_owns (F := F) c cc0_scratch0)
  have hw' := Entails.of_eq (any_owns (F := F) c cc0_scratch0).symm
  unfold opened rest after
  rw [scratch_eq]
  iintro ⟨⟨⟨⟨%K, %J, #HI, Hbar, Hg⟩, Hlev⟩, ⟨HB, Hsc⟩, Hp⟩, HO, Hx, Hw, Hsx, Hsw, Ht, Ho⟩ Hk
  ihave HB := hw $$ HB
  icases HB with ⟨%B, HB⟩
  ihave Hen := hen $$ [Hg Hsc]
  · isplitl [Hg] <;> iassumption
  icases Hen with ⟨Hpre, Hspare⟩
  have hrun := wp_body (xS m) (wW m) K J c x wb sx sw tab o (tabS m c) (tab_ok' m c) (wS m c) rfl (sxS m c) (swS m c) O Q
  iapply hrun $$ [Hlev HB Hpre Hspare Hbar HO Hx Hw Hsx Hsw Ht Ho]
  · isplitr; · iexact HI
    isplitl [Hlev]; · iexact Hlev
    isplitr [Hpre Hspare Hbar HO]
    · unfold bufsAt
      isplitl [Hx]; · iexact Hx
      isplitl [Hw]; · iexact Hw
      isplitl [Hsx]; · iexact Hsx
      isplitl [Hsw]; · iexact Hsw
      isplitl [Ht]; · iexact Ht
      isplitl [Ho]; · iexact Ho
      iexists B; iexact HB
    isplitl [Hpre]; · iexact Hpre
    isplitl [Hspare]; · iexact Hspare
    isplitl [Hbar] <;> iassumption
  unfold bufsAt
  iintro ⟨⟨Hx, Hw, Hsx, Hsw, Ht, Ho, ⟨%B', HB⟩⟩, Hpost, Hbar, HO⟩
  ihave Hle := hle $$ Hpost
  icases Hle with ⟨Hs, Hsc⟩
  iapply Hk
  isplitl [Hs Hbar HB Hsc Hp]
  · isplitl [Hs Hbar]
    · isplitl [Hs] <;> iassumption
    isplitr [Hp]
    · isplitl [HB]
      · iapply hw'; iexists B'; iexact HB
      iexact Hsc
    iexact Hp
  isplitl [HO]; · iexact HO
  isplitl [Hx]; · iexact Hx
  isplitl [Hw]; · iexact Hw
  isplitl [Hsx]; · iexact Hsx
  isplitl [Hsw]; · iexact Hsw
  isplitl [Ht]; · iexact Ht
  rw [show outS m c = resV (xS m) (wW m) c (Scalar.mulf (scOf (sxS m c)) (scOf (swS m c))) O from resV_any _ _ _ _ _ _]
  iexact Ho

/-- The program a grid point runs. -/
theorem body_prog : defs₀ (F := F) .tc cfg0.body (cfg0.bodyArgs t0_0 (cfg0.slots t0_0))
    = bodyP (win0_0.stage (cfg0.slots t0_0 0)) (win0_1.stage (cfg0.slots t0_0 1)) (win0_2.stage (cfg0.slots t0_0 2)) (win0_3.stage (cfg0.slots t0_0 3))
      (win0_4.stage (cfg0.slots t0_0 4)) (win0_5.stage (cfg0.slots t0_0 5)) :=
  body_eq _ _ _ _ _ _ _ _ _ _ _ _

theorem before0 (c : Dev nD) (d) : (dats m 0 c).before (0 : Fin 6) t0_0 d = xS m c := by
  unfold Dat.before; rw [if_pos (fetch0_0 t0_0)]; rfl
theorem before1 (c : Dev nD) (d) : (dats m 0 c).before (1 : Fin 6) t0_0 d = wS m c := by
  unfold Dat.before; rw [if_pos (fetch0_1 t0_0)]; rfl
theorem before2 (c : Dev nD) (d) : (dats m 0 c).before (2 : Fin 6) t0_0 d = sxS m c := by
  unfold Dat.before; rw [if_pos (fetch0_2 t0_0)]; rfl
theorem before3 (c : Dev nD) (d) : (dats m 0 c).before (3 : Fin 6) t0_0 d = swS m c := by
  unfold Dat.before; rw [if_pos (fetch0_3 t0_0)]; rfl
theorem before4 (c : Dev nD) (d) : (dats m 0 c).before (4 : Fin 6) t0_0 d = tabS m c := by
  unfold Dat.before; rw [if_pos (fetch0_4 t0_0)]; rfl

theorem body_obligation (c : Dev nD) : BodyObligation (dats m 0 c) (defs₀ (F := F)) 𝒱₀ 0 Set.univ := fun t => by
  obtain rfl := fin_N0 t
  rw [bigSep_W0, bigSep_W0, body_prog]
  have hO := of_owesAt m c t0_0.castSucc (owe0 c) rfl
  have hO' := owesAt_of m c t0_0.succ 0 rfl
  have hrun := fun O Q => wp_region m c (win0_0.stage (cfg0.slots t0_0 0)) (win0_1.stage (cfg0.slots t0_0 1)) (win0_2.stage (cfg0.slots t0_0 2)) (win0_3.stage (cfg0.slots t0_0 3))
    (win0_4.stage (cfg0.slots t0_0 4)) (win0_5.stage (cfg0.slots t0_0 5)) O Q
  rw [show (dats m 0 c).Φ t0_0.castSucc = iprop(opened m c ∗ rest c) from rfl, show (dats m 0 c).Φ t0_0.succ = iprop(after c ∗ rest c) from rfl]
  iintro ⟨HΦ, HO, ⟨%d0, H0⟩, ⟨%d1, H1⟩, ⟨%d2, H2⟩, ⟨%d3, H3⟩, ⟨%d4, H4⟩, ⟨%d5, H5⟩⟩
  rw [before0, before1, before2, before3, before4]
  ihave HO := hO $$ HO
  unfold wpB at hrun
  iapply (hrun ((dats m 0 c).before (5 : Fin 6) t0_0 d5) _) $$ [HΦ HO H0 H1 H2 H3 H4 H5]
  · isplitl [HΦ]; · iexact HΦ
    isplitl [HO]; · iexact HO
    isplitl [H0]; · iexact H0
    isplitl [H1]; · iexact H1
    isplitl [H2]; · iexact H2
    isplitl [H3]; · iexact H3
    isplitl [H4]; · iexact H4
    iexact H5
  iintro ⟨HΦ, HO, H0, H1, H2, H3, H4, H5⟩
  isplitl [HΦ]; · iexact HΦ
  isplitl [HO]; · iapply hO' $$ HO
  isplitl [H0]; · iexact H0
  isplitl [H1]; · iexact H1
  isplitl [H2]; · iexact H2
  isplitl [H3]; · iexact H3
  isplitl [H4]; · iexact H4
  iexact H5

/-! ## What is owed stands above the staging cells -/

theorem above_owe0 (c : Dev nD) : above 1 (owe0 c) := by
  have h (e : Dev nD) : above 1 (tallyAt (barC e) 0 1) :=
    above_tallyAt (by rw [L_tc]; exact Finset.mem_range.mpr (by decide)) (by rw [lv_bar])
  exact above_add (above_add (above_mono (by decide) (above_owe1 c)) (h _)) (h _)

theorem cut (c : Dev nD) (t : Fin (cfg0.N + 1)) (g : GSem nD τ sig) (i : ℕ) (h : 0 < (dats m 0 c).owed t g i) : i ∈ L g ∧ 0 < lv g i := by
  obtain ⟨_ | t, ht⟩ := t
  · have h' := above_owe0 c g i h
    exact ⟨h'.1, h'.2⟩
  · exact absurd h (Nat.lt_irrefl 0)

/-! ## The region -/

/-- The buffers after the call: the result's array as the region leaves it. -/
def outs : Outs (F := F) := fun _ r c => Function.update (V11 m c) (Proc.devRef .tc main_v49) ((dats m 0 c).arrAt (5 : Fin 6) cfg0.N) (Proc.devRef .tc r)

/-- The buffers the call's windows do not touch. -/
def others : Finset (DevRef τ sig) := Pipeline.ucRefs τ sig \ Pipeline.arrRefs (τ := τ) spec0

theorem hin0 (c : Dev nD) : iprop(Pipeline.scopedRest (Pipeline.pin (pcfgs (F := F)) adm 0).spec c ∗ (∃ r, prngReg c r)
    ∗ StableHlo.held (c.tc : Thread nD τ) ∅ (V11 m c) ∗ opened m c) ⊢ (dats m 0 c).Φ 0 := by
  rw [show (dats m 0 c).Φ 0 = iprop(opened m c ∗ rest c) from rfl]
  unfold rest
  iintro ⟨Hs, Hp, -, HX⟩
  isplitl [HX]; · iexact HX
  isplitl [Hs]; · iexact Hs
  iexact Hp

theorem hout0 (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V12 m (outs m) c) ∗ Pipeline.ownSems0 osem c ∗ semVal (barC c) 0) := by
  rw [show (dats m 0 c).Φ (Fin.last _) = iprop(after c ∗ rest c) from rfl]
  unfold after rest StableHlo.held
  rw [BI.bigSep_empty]
  iintro ⟨⟨Ho, Hb⟩, Hs, Hp⟩
  isplitl [Hs]; · iexact Hs
  isplitl [Hp]; · iexact Hp
  isplitr; · iempintro
  isplitl [Ho]; · iexact Ho
  iexact Hb

theorem V12_other (c : Dev nD) (r : DevRef τ sig) (h : r ≠ Proc.devRef .tc main_v49) : V12 m (outs m) c r = V11 m c r :=
  Function.update_of_ne h _ _

theorem V12_out (c : Dev nD) : V12 m (outs m) c (Proc.devRef .tc main_v49) = (dats m 0 c).arrAt (5 : Fin 6) cfg0.N :=
  (Function.update_self _ _ _).trans (Function.update_self _ _ _)

theorem arrs_after (c : Dev nD) (w : Fin 6) : (dats m 0 c).arrAt w cfg0.N = V12 m (outs m) c (Proc.devRef .tc (Pipeline.arrRef spec0 w)) := by
  fin_cases w
  · exact ((dats m 0 c).arrAt_in (0 : Fin 6) rfl _).trans (V12_other m c (Proc.devRef .tc main_arg0) (by decide)).symm
  · exact ((dats m 0 c).arrAt_in (1 : Fin 6) rfl _).trans (V12_other m c (Proc.devRef .tc main_arg1) (by decide)).symm
  · exact ((dats m 0 c).arrAt_in (2 : Fin 6) rfl _).trans (V12_other m c (Proc.devRef .tc main_arg2) (by decide)).symm
  · exact ((dats m 0 c).arrAt_in (3 : Fin 6) rfl _).trans (V12_other m c (Proc.devRef .tc main_arg3) (by decide)).symm
  · exact ((dats m 0 c).arrAt_in (4 : Fin 6) rfl _).trans (V12_other m c (Proc.devRef .tc main_v48) (by decide)).symm
  · exact (V12_out m c).symm

theorem out_arr : Proc.devRef .tc main_v49 ∈ Pipeline.arrRefs (τ := τ) spec0 := by decide

theorem hrest0 (c : Dev nD) (b : DevRef τ sig) (hb : b ∈ others \ ∅) : V12 m (outs m) c b = V11 m c b :=
  V12_other m c b fun e => (Finset.mem_sdiff.mp (Finset.mem_sdiff.mp hb).1).2 (e ▸ out_arr)

theorem role_stage : ∀ (w : Fin 6) (s : Fin (spec0 w).nbuf), role (.dma ((spec0 w).sem s)) = .other := by decide

theorem lv_stage (c : Dev nD) (w : Fin 6) (s : Fin (spec0 w).nbuf) : lv ((c : Thread nD τ), .dma ((spec0 w).sem s)) 0 ≤ 0 := by
  dsimp only [lv]; rw [role_stage]

set_option backward.isDefEq.respectTransparency.types false in
def reg0 : RegionSeg (pcfgs (F := F)) adm (dats m) 0 defs₀ 𝒱₀ L lv 0 :=
  Pipeline.RegionSeg.ofTalk (pcfgs (F := F)) adm (dats m) 0 defs₀ 𝒱₀ L lv 0 osem (by decide : Pipeline.OwnSemFacts spec0 osem)
    ∅ others (Finset.empty_subset _) launch0.toP rfl (fun c => (body_obligation m c).loose)
    (fun _ => 0) owe0 (fun c => (zero_add _).symm) (fun c => rfl) (fun _ => rfl) (fun c w => by unfold Dat.share; split <;> rfl)
    (V11 m) (V12 m (outs m)) (hrest0 m)
    (fun c => share (xS m) (wW m) c) (fun c => semVal (barC c) 0) (opened m) (fun c => semVal (barC c) 0) (open_all m) (hin0 m) (hout0 m)
    (fun c => by iintro H; imodintro; iexact H)
    (fun _ => 0)
    ⟨fun c _ _ => by rw [L_tc]; exact Finset.mem_range.mpr (by decide), fun c w s => lv_stage c w s, fun c t g i h => cut m c t g i h⟩
    (fun _ => iprop(emp))
    (fun c w => rfl) (arrs_after m)

end Cert.KernelIdeal.Ring
-- ==== Proof.Ideal.Launch.lean ====
module

public import proofs.«01_k».proof.Proof.Ideal.Region

@[expose] public section

noncomputable section

/-!
# The run

The launch deals every device its share of the rings' rights; the host's operations run; the region runs; the buffers are read off at the end.
-/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf HostSeg RegionSeg Seg)

variable {F : FTy → Type} [FloatOps F]

local notation "𝕄" => MT nD τ sig ℕ (Elt F) ℕ UU ℕ

variable (m : (ℓ : Loc nD τ sig) → Buf (Elt F) ℓ) (ρ : Dev nD → PrngReg)

/-- What the launch starts from: the windows' cells, and the rings' cells and slots. -/
def u₀ : UU :=
  (initOf (Pipeline.cells (Pipeline.pin (pcfgs (F := F)) adm) cellOf_inj) (Pipeline.launchToks (Pipeline.pin (pcfgs (F := F)) adm) cellOf_inj),
    launchOf barCells scCells allToks, initSlots (Finset.univ : Finset Key) 16)

/-- A resource parked on one device. -/
def parked (X : sProp 𝕄) (c : Dev nD) : sProp 𝕄 := if c = 0 then X else iprop(emp)

omit [FloatOps F] in
theorem bigSep_parked (X : sProp 𝕄) : bigSep Finset.univ (parked X) = X := by
  have h0 : bigSep (Finset.univ.erase (0 : Dev nD)) (parked X) = bigSep (Finset.univ.erase (0 : Dev nD)) fun _ => (BI.emp : sProp 𝕄) :=
    bigSep_congr fun c hc => if_neg (Finset.ne_of_mem_erase hc)
  rw [bigSep_univ_at _ (0 : Dev nD), h0, BI.bigSep_emp_const, show parked X 0 = X from if_pos rfl]
  exact BI.equiv_iff.mp sep_emp

/-- What rides beside the buffers up to the region, and after it. -/
def ride (t : Fin 2) (c : Dev nD) : sProp 𝕄 :=
  if t = 0 then iprop(share (xS m) (wW m) c ∗ (∃ r, prngReg c r) ∗ owed c (owe0 c))
  else iprop(semVal (barC c) 0 ∗ ∃ W, owes (c : Thread nD τ) (0 : CellTallies nD τ sig ℕ) W)

theorem ride_zero (c : Dev nD) : ride m 0 c = iprop(share (xS m) (wW m) c ∗ (∃ r, prngReg c r) ∗ owed c (owe0 c)) := if_pos rfl
theorem ride_one (c : Dev nD) : ride m 1 c = iprop(semVal (barC c) 0 ∗ ∃ W, owes (c : Thread nD τ) (0 : CellTallies nD τ sig ℕ) W) :=
  if_neg (by decide)

omit [FloatOps F] in
theorem unscopedSems0_eq (c : Dev nD) : (unscopedSems0 c : sProp 𝕄) = semVal (barC c) 0 := by
  unfold unscopedSems0
  rw [show (Finset.univ.filter fun sm : SemLoc sig => ¬ sm.isScoped .tc) = {barL} from by decide, BI.bigSep_singleton]

abbrev T₀ (c : Dev nD) : sProp 𝕄 := iprop(StableHlo.held (c : Thread nD τ) (Pipeline.ucRefs τ sig) (V0 m c) ∗ ride m 0 c)
abbrev Tₙ (c : Dev nD) : sProp 𝕄 := iprop(StableHlo.held (c : Thread nD τ) (Pipeline.ucRefs τ sig) (V12 m (outs m) c) ∗ semVal (barC c) 0)

/-- A device's launch holdings that are not the rings' rights. -/
def bundle (c : Dev nD) : sProp 𝕄 :=
  iprop((cred (tallyAt (barC c) 0 2) ∗ bigSep Finset.univ fun p => credsP c p)
    ∗ StableHlo.held (c : Thread nD τ) (Pipeline.ucRefs τ sig) (V0 m c) ∗ (∃ r, prngReg c r) ∗ owes (c : Thread nD τ) (owe0 c) ∅)

theorem T₀_intro (K : GSem nD τ sig → ℕ) (J : Key → ℕ) (c : Dev nD) :
    iprop(recs (xS m) (wW m) K J ∗ (alone c ∗ bundle m c)) ⊢ (T₀ m c : sProp 𝕄) := by
  have hs := share_intro (xS m) (wW m) K J c
  unfold T₀ bundle
  rw [ride_zero]
  unfold owed
  iintro ⟨#HR, Ha, ⟨H1, H2⟩, Hh, Hp, HO⟩
  isplitl [Hh]; · iexact Hh
  isplitl [Ha H1 H2]
  · iapply hs
    isplitr; · iexact HR
    isplitl [Ha]; · iexact Ha
    isplitl [H1] <;> iassumption
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (owe0 c) ∅ ∗ Pipeline.launchCred owe0 c ∗ prngReg c (ρ c) ∗ parked seed c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (owe0 c) ∅ ∗ Pipeline.launchCred owe0 c ∗ prngReg c (ρ c) ∗ parked seed c)
      ⊢ (iprop(bundle m c ∗ (semVal (barC c) 0 ∗ parked seed c)) : sProp 𝕄) := by
    have hcr := creds_all (F := F) c
    rw [show unscopedBufs c (fun b => m ((c.tc : Thread nD τ).loc b)) = StableHlo.held (c : Thread nD τ) (Pipeline.ucRefs τ sig) (V0 m c) from
        Pipeline.unscopedBufs_held (Ix := ℕ) (Name := ℕ) (U := UU) (Lvl := ℕ) c (V0 m c),
      unscopedSems0_eq]
    unfold bundle
    iintro ⟨Hh, Hus, HO, Hcr, Hp, HG⟩
    ihave Hc := hcr $$ Hcr
    isplitl [Hh Hc HO Hp]
    · isplitl [Hc]; · iexact Hc
      isplitl [Hh]; · iexact Hh
      isplitl [Hp]; · iexists (ρ c); iexact Hp
      iexact HO
    isplitl [Hus] <;> iassumption
  have hall : (bigSep Finset.univ fun c : Dev nD => iprop(unscopedBufs c (fun b => m ((c.tc : Thread nD τ).loc b)) ∗ unscopedSems0 c
        ∗ owes (c.tc : Thread nD τ) (owe0 c) ∅ ∗ Pipeline.launchCred owe0 c ∗ prngReg c (ρ c) ∗ parked seed c))
      ⊢ (iprop((bigSep Finset.univ (bundle m)) ∗ ((bigSep Finset.univ fun c => semVal (barC c) 0) ∗ seed)) : sProp 𝕄) := by
    have e : (bigSep Finset.univ fun c : Dev nD => (iprop(bundle m c ∗ (semVal (barC c) 0 ∗ parked seed c)) : sProp 𝕄))
        = iprop((bigSep Finset.univ (bundle m)) ∗ ((bigSep Finset.univ fun c => semVal (barC c) 0) ∗ seed)) := by
      rw [bigSep_sep', bigSep_sep', bigSep_parked]
    exact BIBase.Entails.trans (bigSep_mono fun c _ => hcore c) (Entails.of_eq e)
  have hdeal := deal (xS m) (wW m)
  have hT (K : GSem nD τ sig → ℕ) (J : Key → ℕ) := bigSep_with_persistent (S := Finset.univ) (R := recs (xS m) (wW m) K J) fun c _ => T₀_intro m K J c
  iintro ⟨H, -⟩
  ihave H := hall $$ H
  icases H with ⟨HB, HD⟩
  imod hdeal $$ HD with ⟨%K, %J, #HR, Ha⟩
  imodintro
  iapply (hT K J)
  isplitr; · iexact HR
  rw [bigSep_sep']
  isplitl [Ha] <;> iassumption

/-! ## Into the region and out of it -/

theorem arrs_sub : Pipeline.arrRefs (τ := τ) spec0 ⊆ Pipeline.ucRefs τ sig := Pipeline.arrRefs_sub_ucRefs spec0 (by decide)

theorem reg0_pre (c : Dev nD) : iprop(StableHlo.held (c : Thread nD τ) (Pipeline.ucRefs τ sig) (V11 m c) ∗ ride m 0 c) ⊢ (reg0 m).pre c := by
  rw [show (reg0 m).pre c = iprop(StableHlo.held (c.tc : Thread nD τ) (Pipeline.arrRefs (τ := τ) spec0) (V11 m c) ∗ (∃ r, prngReg c r)
    ∗ (StableHlo.held (c.tc : Thread nD τ) others (V11 m c) ∗ emp) ∗ share (xS m) (wW m) c ∗ ∃ Wd, owes (c : Thread nD τ) (0 + owe0 c) Wd) from rfl,
    zero_add, ride_zero, StableHlo.held_sub_split (c : Thread nD τ) arrs_sub (V11 m c)]
  unfold owed others
  iintro ⟨⟨Ha, Ho⟩, Hs, Hp, HO⟩
  isplitl [Ha]; · iexact Ha
  isplitl [Hp]; · iexact Hp
  isplitl [Ho]
  · isplitl [Ho]; · iexact Ho
    iempintro
  isplitl [Hs] <;> iassumption

theorem reg0_post (c : Dev nD) : (reg0 m).post c ⊢ iprop(StableHlo.held (c : Thread nD τ) (Pipeline.ucRefs τ sig) (V12 m (outs m) c) ∗ ride m 1 c) := by
  rw [show (reg0 m).post c = iprop(StableHlo.held (c.tc : Thread nD τ) (Pipeline.arrRefs (τ := τ) spec0) (V12 m (outs m) c) ∗ (∃ r, prngReg c r)
    ∗ (StableHlo.held (c.tc : Thread nD τ) others (V12 m (outs m) c) ∗ emp) ∗ semVal (barC c) 0
      ∗ ∃ Wd, owes (c : Thread nD τ) (0 : CellTallies nD τ sig ℕ) Wd) from rfl,
    ride_one, StableHlo.held_sub_split (c : Thread nD τ) arrs_sub (V12 m (outs m) c)]
  unfold others
  iintro ⟨Ha, -, ⟨Ho, -⟩, Hb, HO⟩
  isplitl [Ha Ho]
  · isplitl [Ha] <;> iassumption
  isplitl [Hb] <;> iassumption

/-! ## The whole run -/

theorem unscoped_eq : ∀ sm : SemLoc sig, sm.isScoped .tc = false → sm = barL := by decide

/-- The block of the result a device writes is the whole of its array. -/
theorem out_written (c : Dev nD) : (dats m 0 c).arrAt (5 : Fin 6) cfg0.N = outS m c := by
  have hw : ((cfg0.win (5 : Fin 6)).blk t0_0).view.read (Elt F) ((dats m 0 c).arrAt (5 : Fin 6) cfg0.N) = (dats m 0 c).flushed (5 : Fin 6) t0_0 := by
    rw [show cfg0.N = t0_0.val + 1 from rfl, (dats m 0 c).arrAt_succ (5 : Fin 6) t0_0, flush0_5, if_pos rfl]
    exact View.read_write_univ _ _
  exact (read_out c _).symm.trans hw

set_option backward.isDefEq.respectTransparency.types false in
/-- Every run ends, the arguments kept, the result written, every counter at zero. -/
theorem run_main : θ_run (defs (F := F)) (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v49) = outS m c) ∧ r.2.sem = fun _ => 0) :=
  Pipeline.θ_run_regions_kit_dev_sems (pcfgs (F := F)) adm (dats m) 0 cellOf_inj EP defs₀ 𝒱₀ L lv m ρ main
    (segs m 𝒱₀ L lv (ride m) 0 (dats m) (reg0 m))
    (fun c Q => by
      rewrite [main_chain c, Seg.run_eq_chain,
        show (segs m 𝒱₀ L lv (ride m) 0 (dats m) (reg0 m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, Prog.lift (.customCall (Pipeline.entry 0) ())] from rfl]
      dsimp (config := { failIfUnchanged := false }) only
      exact .rfl)
    (fun c => by simp only [segs, Seg.pipes_host, Seg.pipes_region, Seg.pipes_nil]; decide)
    (O₀ := owe0) (hL := L_of_ne) (G := parked seed) (u₀ := u₀ (F := F))
    (hu₀ := by
      have h1 := ownU_pair (nD := nD) (τ := τ) (sig := sig) (Ix := ℕ) (Val := Elt F) (Name := ℕ) (Lvl := ℕ)
        (initOf (Pipeline.cells (Pipeline.pin (pcfgs (F := F)) adm) cellOf_inj) (Pipeline.launchToks (Pipeline.pin (pcfgs (F := F)) adm) cellOf_inj))
        (launchOf barCells scCells allToks, initSlots (Finset.univ : Finset Key) 16)
      have h2 := own_pair_emb (embR (nD := nD) (τ := τ) (sig := sig) (Ix := ℕ) (Val := Elt F) (Name := ℕ) (Lvl := ℕ) (A := UR sig nD τ) (B := URounds (GSem nD τ sig) ℕ × USlots Key))
        (launchOf barCells scCells allToks) (initSlots (Finset.univ : Finset Key) 16)
      rw [bigSep_parked]
      unfold u₀ seed
      iintro Hu
      ihave H := h1 $$ Hu
      icases H with ⟨HP, HX⟩
      ihave HX := h2 $$ HX
      imodintro
      isplitl [HP]; · iexact HP
      iexact HX)
    (T₀ := T₀ m) (Tₙ := Tₙ m)
    (hch := fun c => ⟨.rfl, .rfl, .rfl, .rfl, .rfl, .rfl, .rfl, .rfl, .rfl, .rfl, .rfl, reg0_pre m c, (reg0_post m c).trans (by
      rw [ride_one]
      iintro ⟨Hh, Hb, HO⟩
      isplitr [HO]
      · isplitl [Hh] <;> iassumption
      · iexact HO)⟩)
    (hinit := init m ρ)
    (QY := fun c s => ((s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3))
        ∧ s.mem ((c.tc : Thread nD τ).loc main_v49) = outS m c) ∧ s.sem (barC c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V12 m (outs m) c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (V12_main_arg0 m (outs m) c),
            (h (Proc.devRef .tc main_arg1) (Finset.mem_filter.mpr ⟨StableHlo.devRef_mem_tcRefs main_arg1, by decide⟩)).trans (V12_main_arg1 m (outs m) c),
            (h (Proc.devRef .tc main_arg2) (Finset.mem_filter.mpr ⟨StableHlo.devRef_mem_tcRefs main_arg2, by decide⟩)).trans (V12_main_arg2 m (outs m) c),
            (h (Proc.devRef .tc main_arg3) (Finset.mem_filter.mpr ⟨StableHlo.devRef_mem_tcRefs main_arg3, by decide⟩)).trans (V12_main_arg3 m (outs m) c)⟩,
          (h (Proc.devRef .tc main_v49) (Finset.mem_filter.mpr ⟨StableHlo.devRef_mem_tcRefs main_v49, by decide⟩)).trans ((V12_out m c).trans (out_written m c))⟩,
          by simpa using hb⟩
      · iexact HSI)
    (hQ := fun s h hs => ⟨fun c => (h c).1, sem_eq_zero hs fun c sm hsm => by
      obtain rfl := unscoped_eq sm hsm
      exact (h c).2⟩)

end Cert.KernelIdeal.Ring
-- ==== Proof.Ideal.Value.lean ====
module

public import proofs.«01_k».proof.Proof.Ideal.Launch
public import Idealize.ShloMosaic.Lib.MatmulPlain
public import Idealize.ShloMosaic.Lib.ValueIdx

@[expose] public section

noncomputable section

/-!
# The kernel's result over the reals

A message is the sum of the partial products of the devices it has passed. A chunk's messages pass every device once, so the last
one with the device's own partial product is the whole product of the chunk's rows.
-/

namespace Cert.KernelIdeal.Ring

open Cert.KernelIdeal Cert.KernelIdeal.Gen
open Idealize.ShloMosaic Idealize.ShloMosaic.TcCoe Idealize.ShloMosaic.ValueIdx
open scoped BigOperators

/-! ## The ring passes every device -/

/-- How far a device is along the ring from device 0. -/
def posN (c : Dev nD) : Fin 32 :=
  (![0, 31, 16, 15, 14, 17, 18, 13, 1, 30, 25, 6, 7, 24, 19, 12, 2, 29, 26, 5, 8, 23, 20, 11, 3, 28, 27, 4, 9, 22, 21, 10]
    : Fin 32 → Fin 32) c

theorem posN_inj : Function.Injective posN := by
  have h : ∀ a b : Dev nD, posN a = posN b → a = b := by decide +kernel
  exact fun a b => h a b
theorem posN_src (p : Fin 4) (c : Dev nD) : (posN (src p c)).val = ((posN c).val + (if isFwd p then 31 else 1)) % 32 := by
  revert c p; decide +kernel

theorem posN_iter (p : Fin 4) (c : Dev nD) (k : ℕ) :
    (posN ((src p)^[k] c)).val = ((posN c).val + k * (if isFwd p then 31 else 1)) % 32 := by
  induction k generalizing c with
  | zero => have := (posN c).isLt; simp [Nat.mod_eq_of_lt this]
  | succ k ih => rw [Function.iterate_succ_apply, ih, posN_src]; split <;> omega

theorem iter_all (p : Fin 4) (c : Dev nD) : (src p)^[32] c = c :=
  posN_inj (Fin.ext (by have := (posN c).isLt; rw [posN_iter]; split <;> omega))

theorem iter_bij (p : Fin 4) (c : Dev nD) : Function.Bijective fun k : Fin 32 => ((src p)^[k.val] c : Dev nD) := by
  rw [Fintype.bijective_iff_injective_and_card]
  refine ⟨fun a b h => Fin.ext ?_, rfl⟩
  have h' := congrArg (fun d => (posN d).val) h
  have ha := a.isLt; have hb := b.isLt
  simp only [posN_iter] at h'
  split at h' <;> omega

/-- A sum along the ring is the sum over the devices. -/
theorem sum_iter (p : Fin 4) (c : Dev nD) (f : Dev nD → EReal) :
    ∑ k ∈ Finset.range 32, f ((src p)^[k] c) = ∑ d : Dev nD, f d := by
  rw [Finset.sum_range fun k => f ((src p)^[k] c)]
  exact (iter_bij p c).sum_comp f

theorem chunk_src (p : Fin 4) (c : Dev nD) (s : ℕ) : chunk p (src p c) s = chunk p c (s + 1) := by
  unfold chunk; rw [← Function.iterate_succ_apply]

theorem chunk_last (p : Fin 4) (c : Dev nD) : chunk p (src p c) 30 = c := by
  rw [chunk_src]; exact iter_all p c

/-! ## What a message holds -/

section Messages

variable (xv : Dev nD → S4096x128.Idx → Elt Ideal .fp8e4m3) (wv : Dev nD → S128x8192.Idx → Elt Ideal .bf16)

theorem recv_msgP (y : S128x2048.Idx → Ideal .f32) : recvP (F := Ideal) (unsq (sq (msgP y))) = y := by
  rw [unsq_sq]
  unfold recvP msgP
  rw [shapeCast_shapeCast]
  rfl

theorem recv_zero (p : Fin 4) (c : Dev nD) (j : S128x2048.Idx) :
    recvP (F := Ideal) (unsq (msg xv wv p 0 c)) j = partV xv wv p c (chunk p c 0) j :=
  congrFun (recv_msgP _) j

theorem recv_succ (p : Fin 4) (s : ℕ) (c : Dev nD) (j : S128x2048.Idx) :
    recvP (F := Ideal) (unsq (msg xv wv p (s + 1) c)) j
      = (partV xv wv p c (chunk p c (s + 1)) j + recvP (F := Ideal) (unsq (msg xv wv p s (src p c))) j : EReal) :=
  congrFun (recv_msgP _) j

/-- A message, received: the partial products of its chunk at the devices it has passed. -/
theorem recv_msg (p : Fin 4) (s : ℕ) (c : Dev nD) (j : S128x2048.Idx) :
    (recvP (F := Ideal) (unsq (msg xv wv p s c)) j : EReal)
      = ∑ k ∈ Finset.range (s + 1), (partV xv wv p ((src p)^[k] c) (chunk p c s) j : EReal) := by
  induction s generalizing c with
  | zero => rw [recv_zero]; simp
  | succ s ih =>
    rw [recv_succ, ih, Finset.sum_range_succ' _ (s + 1), add_comm, chunk_src]
    simp only [Function.iterate_succ_apply, Function.iterate_zero_apply]

/-- The last message and the device's own partial product: the partial products of all devices. -/
theorem whole (p : Fin 4) (c : Dev nD) (j : S128x2048.Idx) :
    (partV xv wv p c c j + recvP (F := Ideal) (unsq (msg xv wv p 30 (src p c))) j : EReal)
      = ∑ d : Dev nD, (partV xv wv p d c j : EReal) := by
  rw [recv_msg, chunk_last, ← sum_iter p c fun d => (partV xv wv p d c j : EReal), Finset.sum_range_succ' _ 31, add_comm]
  simp only [Function.iterate_succ_apply, Function.iterate_zero_apply]

/-! ## A partial product at an index -/

/-- Row `r` of chunk `c`. -/
def rowAt (c : Dev nD) (r : Fin 128) : Fin 4096 := ⟨c.val * 128 + r.val, by have hc : c.val < 32 := c.isLt; have := r.isLt; omega⟩

theorem zero_f32 : Ideal.ofBits .f32 0x00000000#32 = 0 := by simp [Ideal.ofBits, Ideal.ieee]
theorem one_f32 : Ideal.ofBits .f32 0x3F800000#32 = 1 := by simp [Ideal.ofBits, Ideal.ieee, -EReal.coe_mul]; norm_num

theorem rows_at (X : S4096x128.Idx → Elt Ideal .fp8e4m3) (d : Dev nD) (h) (r k : Fin 128) :
    rowsOf X (offX (devW d)) h (ix2 r k) = X (ix2 (rowAt d r) k) := by
  unfold rowsOf
  refine congrArg X (funext fun a => Fin.ext ?_)
  have e := off_devW d
  fin_cases a
  · show offX (devW d) 0 + 1 * r.val = d.val * 128 + r.val
    rw [e]; show 128 * d.val + 1 * r.val = _; omega
  · show offX (devW d) 1 + 1 * k.val = k.val
    rw [e]; show 0 + 1 * k.val = _; omega

theorem part_at (p : Fin 4) (d c : Dev nD) (j : S128x2048.Idx) :
    (partV xv wv p d c j : EReal)
      = ∑ k : Fin 128, (xv d (ix2 (rowAt c (j 0)) k) * wv d (ix2 k ((colR p).emb j 1)) : EReal) := by
  have hm : (partV xv wv p d c j : EReal) = _ :=
    (congrArg (partV xv wv p d c) (eq_ix2 j)).trans (Ideal.matmul_plain_apply (M := 128) (K := 128) (N := 2048) none _ _ _ (j 0) (j 1))
  rw [hm, constant_apply, zero_f32, zero_add]
  refine Finset.sum_congr rfl fun k _ => ?_
  refine congrArg₂ (· * ·) ?_ ?_
  · rw [extf_apply, shapeCast_self]
    exact rows_at _ _ _ _ _
  · show wv d ((colR p).emb (ix2 k (j 1))) = _
    refine congrArg (wv d) (funext fun a => Fin.ext ?_)
    fin_cases a
    · show 0 + 1 * k.val = k.val; omega
    · rfl

/-- The whole product at row `i 0` of chunk `c`. -/
def dotAt (c : Dev nD) (i : S128x8192.Idx) : EReal :=
  ∑ d : Dev nD, ∑ k : Fin 128, (xv d (ix2 (rowAt c (i 0)) k) * wv d (ix2 k (i 1)) : EReal)

/-- A number times its logistic. -/
def siluE (y : EReal) : EReal := y * Ideal.logistic y

theorem outV_at (c : Dev nD) (sc : EReal) (p : Fin 4) (j : S128x2048.Idx) :
    (outV (F := Ideal) xv wv c sc p j : EReal) = siluE (dotAt xv wv c ((colR p).emb j) * sc) := by
  have hw : dotAt xv wv c ((colR p).emb j) = (partV xv wv p c c j + recvP (F := Ideal) (unsq (msg xv wv p 30 (src p c))) j : EReal) := by
    rw [whole]
    refine Finset.sum_congr rfl fun d _ => ?_
    rw [part_at]
    have e : (colR p).emb j 0 = j 0 := Fin.ext (by show 0 + 1 * (j 0).val = _; omega)
    rw [e]
  rw [hw]; rfl

end Messages

/-- A chunk's result, whichever pipe makes a column. -/
theorem resV_of {α : Type} (G : S128x8192.Idx → α) (g : Fin 4 → S128x2048.Idx → α) (h : ∀ p j, g p j = G ((colR p).emb j))
    (O : S128x8192.Idx → α) (i : S128x8192.Idx) :
    (colR 3).overlay ((colR 1).overlay ((colR 2).overlay ((colR 0).overlay O (g 0)) (g 2)) (g 1)) (g 3) i = G i := by
  have one (p : Fin 4) (X : S128x8192.Idx → α) : (i ∈ (colR p).set → (colR p).overlay X (g p) i = G i) ∧
      (X i = G i → (colR p).overlay X (g p) i = G i) := by
    by_cases hi : i ∈ (colR p).set
    · obtain ⟨j, rfl⟩ := (colR p).toLoadRect.exists_idx_of_mem hi
      have e := (Rect.overlay_emb (colR p) X (g p) j).trans (h p j)
      exact ⟨fun _ => e, fun _ => e⟩
    · exact ⟨fun h => absurd h hi, fun e => (Rect.overlay_of_not_mem (colR p) X (g p) hi).trans e⟩
  rcases cols_cover i with a | a | a | a
  · exact (one 3 _).2 ((one 1 _).2 ((one 2 _).2 ((one 0 _).1 a)))
  · exact (one 3 _).2 ((one 1 _).2 ((one 2 _).1 a))
  · exact (one 3 _).2 ((one 1 _).1 a)
  · exact (one 3 _).1 a

/-! ## The result from the arguments -/

section Args

variable (m : (ℓ : Loc nD τ sig) → Buf (Elt Ideal) ℓ)

theorem outS_at (c : Dev nD) (i : S128x8192.Idx) :
    (outS m c i : EReal) = siluE (dotAt (xS m) (wW m) c i * scS m c) :=
  resV_of (fun i => siluE (dotAt (xS m) (wW m) c i * scS m c)) (fun p => outV (xS m) (wW m) c (scS m c) p) (fun p j => outV_at _ _ _ _ _ _) _ i

theorem V11_arg (c : Dev nD) (r : DevRef τ sig) (h : r ≠ Proc.devRef .tc main_v49) : V11 m c r = V12 m (outs m) c r :=
  (V12_other m c r h).symm

theorem xS_eq (c : Dev nD) : xS m c = m ((c : Thread nD τ).loc main_arg0) :=
  (read_x c _).trans ((V11_arg m c (Proc.devRef .tc main_arg0) (by decide)).trans (V12_main_arg0 m (outs m) c))
theorem wS_eq (c : Dev nD) : wS m c = m ((c : Thread nD τ).loc main_arg1) :=
  (read_w c _).trans ((V11_arg m c (Proc.devRef .tc main_arg1) (by decide)).trans (V12_main_arg1 m (outs m) c))
theorem sxS_eq (c : Dev nD) : sxS m c = m ((c : Thread nD τ).loc main_arg2) :=
  (read_sx c _).trans ((V11_arg m c (Proc.devRef .tc main_arg2) (by decide)).trans (V12_main_arg2 m (outs m) c))
theorem swS_eq (c : Dev nD) : swS m c = m ((c : Thread nD τ).loc main_arg3) :=
  (read_sw c _).trans ((V11_arg m c (Proc.devRef .tc main_arg3) (by decide)).trans (V12_main_arg3 m (outs m) c))

theorem scOf_at (S : S1.Idx → Elt Ideal .f32) : scOf (F := Ideal) S = S (ix1 0) :=
  congrArg S (funext fun a => Fin.ext (by fin_cases a; rfl))

theorem wW_eq (c : Dev nD) : wW m c = m ((c : Thread nD τ).loc main_arg1) := by
  unfold wW wideP
  rw [shapeCast_self, shapeCast_self, wS_eq]
  rfl

/-- The arguments as arrays of numbers. -/
def aX (d : Dev nD) : S4096x128.Idx → EReal := m ((d : Thread nD τ).loc main_arg0)
def aW (d : Dev nD) : S128x8192.Idx → EReal := m ((d : Thread nD τ).loc main_arg1)
def aSx (d : Dev nD) : S1.Idx → EReal := m ((d : Thread nD τ).loc main_arg2)
def aSw (d : Dev nD) : S1.Idx → EReal := m ((d : Thread nD τ).loc main_arg3)

/-- The result at an index, from the arguments of all devices. -/
theorem outS_args (c : Dev nD) (i : S128x8192.Idx) :
    (outS m c i : EReal)
      = siluE ((∑ d : Dev nD, ∑ k : Fin 128, aX m d (ix2 (rowAt c (i 0)) k) * aW m d (ix2 k (i 1)))
          * (aSx m c (ix1 0) * aSw m c (ix1 0))) := by
  have hs : (scS m c : EReal) = aSx m c (ix1 0) * aSw m c (ix1 0) := by
    unfold scS
    rw [scOf_at, scOf_at, sxS_eq, swS_eq]
    rfl
  rw [outS_at, hs]
  unfold dotAt
  simp only [xS_eq, wW_eq]
  rfl

end Args

end Cert.KernelIdeal.Ring
-- ==== Proof.RefValue.lean ====
module

public import proofs.«01_k».proof.Proof.Gen.ReferenceIdeal.Value
public import Idealize.ShloMosaic.Lib.MatmulPlain
public import Idealize.ShloMosaic.Lib.ValueIdx
public import Idealize.ShloMosaic.Lib.VecWindow

@[expose] public section

noncomputable section

/-!
# The reference's result over the reals

The one call stages whole arrays and stores the whole result, so the result array is the call's value at the argument arrays.
-/

namespace Cert.ReferenceIdeal.RefValue

open Cert.ReferenceIdeal Cert.ReferenceIdeal.Gen
open Idealize.ShloMosaic Idealize.ShloMosaic.TcCoe Idealize.ShloMosaic.ValueIdx
open Idealize.ShloMosaic.Pipeline (Dat)
open scoped BigOperators

section Stored

variable {F : FTy → Type} [FloatOps F]

/-- The one number of a scale. -/
def one1 (x : Vec F S1 .f32) : Elt F .f32 := x (ix1 0)

theorem hz : (![0, 0] : Fin 2 → ℕ) = fun _ => 0 := funext fun a => by fin_cases a <;> rfl

/-- What the body stores, from its blocks. -/
theorem out_eq (c : Dev nD) (arg0 : Memref sig .tc .vmem S4096x4096 .fp8e4m3) (h0 : arg0.IsWhole) (arg1 : Memref sig .tc .vmem S4096x8192 .fp8e4m3)
    (h1 : arg1.IsWhole) (arg2 : Memref sig .tc .smem S1 .f32) (h2 : arg2.IsWhole) (arg3 : Memref sig .tc .smem S1 .f32) (h3 : arg3.IsWhole)
    (arg4 : Memref sig .tc .vmem S4096x8192 .f32) (h4 : arg4.IsWhole)
    (x0 : Vec F S4096x4096 .fp8e4m3) (x1 : Vec F S4096x8192 .fp8e4m3) (x2 : Vec F S1 .f32) (x3 : Vec F S1 .f32) :
    out0_A_4 c arg0 h0 arg1 h1 arg2 h2 arg3 h3 arg4 h4 x0 x1 x2 x3 = k0_pay1 x0 x1 (one1 x2) (one1 x3) := by
  have e0 : View.readAt (Elt F) arg0.view (Rect.unit (s := S4096x4096) ![0, 0] S4096x4096.size inb_S4096x4096_S4096x4096_0_0).toLoadRect (h0.unread x0) = x0 := by
    rw [View.readAt_eq_ld, h0.read_unread, View.ld_unit_zero hz]
  have e1 : View.readAt (Elt F) arg1.view (Rect.unit (s := S4096x8192) ![0, 0] S4096x8192.size inb_S4096x8192_S4096x8192_0_0).toLoadRect (h1.unread x1) = x1 := by
    rw [View.readAt_eq_ld, h1.read_unread, View.ld_unit_zero hz]
  have es (a : Memref sig .tc .smem S1 .f32) (h : a.IsWhole) (x : Vec F S1 .f32) (j) :
      View.readAt (Elt F) a.view (Rect.unit (s := S1) ![0] S1.size inb_S1_S1_0).toLoadRect (h.unread x) j = one1 x := by
    rw [View.readAt_eq_ld, h.read_unread]
    exact congrArg x ((funext fun a => by fin_cases a; exact Subsingleton.elim (α := Fin 1) _ _))
  refine (View.read_writes_full _ _ inb_S4096x8192_S4096x8192_0_0 _ _).trans ?_
  show k0_pay1 (View.readAt (Elt F) arg0.view (Rect.unit (s := S4096x4096) ![0, 0] S4096x4096.size inb_S4096x4096_S4096x4096_0_0).toLoadRect (h0.unread x0))
    (View.readAt (Elt F) arg1.view (Rect.unit (s := S4096x8192) ![0, 0] S4096x8192.size inb_S4096x8192_S4096x8192_0_0).toLoadRect (h1.unread x1))
    (View.readAt (Elt F) arg2.view (Rect.unit (s := S1) ![0] S1.size inb_S1_S1_0).toLoadRect (h2.unread x2) _)
    (View.readAt (Elt F) arg3.view (Rect.unit (s := S1) ![0] S1.size inb_S1_S1_0).toLoadRect (h3.unread x3) _) = _
  rw [e0, e1, es, es]

variable (m : (ℓ : Loc nD τ sig) → Buf (Elt F) ℓ)

/-- The one grid point. -/
abbrev t0 : Fin cfg0.N := ⟨0, by decide⟩

theorem read_a (c : Dev nD) (f : Buf (Elt F) ((c : Thread nD τ).loc main_arg0)) :
    ((cfg0.win 0).blk t0).view.read (Elt F) f = f :=
  Memref.read_access_unit_zero (Elt F) main_arg0 (show (fun a => (win0_0.index t0) a * main_arg0.ty.shape.size a) = fun _ => 0 from
    funext fun a => by fin_cases a <;> decide) (fun a => by fin_cases a <;> decide) f
theorem read_b (c : Dev nD) (f : Buf (Elt F) ((c : Thread nD τ).loc main_arg1)) : ((cfg0.win 1).blk t0).view.read (Elt F) f = f :=
  Memref.read_access_unit_zero (Elt F) main_arg1 (show (fun a => (win0_1.index t0) a * main_arg1.ty.shape.size a) = fun _ => 0 from
    funext fun a => by fin_cases a <;> decide) (fun a => by fin_cases a <;> decide) f
theorem read_c (c : Dev nD) (f : Buf (Elt F) ((c : Thread nD τ).loc main_arg2)) : ((cfg0.win 2).blk t0).view.read (Elt F) f = f :=
  Memref.read_access_unit_zero (Elt F) main_arg2 (show (fun a => (win0_2.index t0) a * main_arg2.ty.shape.size a) = fun _ => 0 from
    funext fun a => by fin_cases a <;> decide) (fun a => by fin_cases a <;> decide) f
theorem read_d (c : Dev nD) (f : Buf (Elt F) ((c : Thread nD τ).loc main_arg3)) : ((cfg0.win 3).blk t0).view.read (Elt F) f = f :=
  Memref.read_access_unit_zero (Elt F) main_arg3 (show (fun a => (win0_3.index t0) a * main_arg3.ty.shape.size a) = fun _ => 0 from
    funext fun a => by fin_cases a <;> decide) (fun a => by fin_cases a <;> decide) f
theorem read_o (c : Dev nD) (f : Buf (Elt F) ((c : Thread nD τ).loc main_v0)) : ((cfg0.win 4).blk t0).view.read (Elt F) f = f :=
  Memref.read_access_unit_zero (Elt F) main_v0 (show (fun a => (win0_4.index t0) a * main_v0.ty.shape.size a) = fun _ => 0 from
    funext fun a => by fin_cases a <;> decide) (fun a => by fin_cases a <;> decide) f

/-- The result array is what the body stores, from the argument arrays. -/
theorem arr_eq (c : Dev nD) : (Gen.dats m 0 c).arrAt 4 cfg0.N
    = k0_pay1 (F := F) (m ((c : Thread nD τ).loc main_arg0)) (m ((c : Thread nD τ).loc main_arg1))
        (one1 (m ((c : Thread nD τ).loc main_arg2))) (one1 (m ((c : Thread nD τ).loc main_arg3))) := by
  have e := Value.blocks4 m c t0 (by decide)
  rw [Value.flushed4_A, out_eq] at e
  refine ((read_o c _).symm.trans e).trans ?_
  have i0 : iblk m c 0 t0 = m ((c : Thread nD τ).loc main_arg0) := read_a c _
  have i1 : iblk m c 1 t0 = m ((c : Thread nD τ).loc main_arg1) := read_b c _
  have i2 : iblk m c 2 t0 = m ((c : Thread nD τ).loc main_arg2) := read_c c _
  have i3 : iblk m c 3 t0 = m ((c : Thread nD τ).loc main_arg3) := read_d c _
  rw [i0, i1, i2, i3]
  rfl

end Stored

/-! ## The value at an index -/

theorem zero_f32 : Ideal.ofBits .f32 0x00000000#32 = 0 := by simp [Ideal.ofBits, Ideal.ieee]
theorem one_f32 : Ideal.ofBits .f32 0x3F800000#32 = 1 := by simp [Ideal.ofBits, Ideal.ieee, -EReal.coe_mul]; norm_num

/-- A number over one and its negative's exponential. -/
def siluR (y : EReal) : EReal := Ideal.div y (1 + Ideal.exp (0 - y))

theorem pay_at (X : S4096x4096.Idx → EReal) (W : S4096x8192.Idx → EReal) (a b : EReal) (i : S4096x8192.Idx) :
    (k0_pay1 (F := Ideal) X W a b i : EReal) = siluR ((∑ k : Fin 4096, X (ix2 (i 0) k) * W (ix2 k (i 1))) * (a * b)) := by
  have hm : (matmul (F := Ideal) dot_S4096x4096_S4096x8192_S4096x8192_1_0_0_1_n_n none (extf .f32 (φ := .fp8e4m3) X bitsLt_fp8e4m3_f32)
      (extf .f32 (φ := .fp8e4m3) W bitsLt_fp8e4m3_f32) (constant S4096x8192 .f32 0x00000000#32) i : EReal)
      = ∑ k : Fin 4096, X (ix2 (i 0) k) * W (ix2 k (i 1)) := by
    refine (congrArg _ (eq_ix2 i)).trans ((Ideal.matmul_plain_apply (M := 4096) (K := 4096) (N := 8192) none _ _ _ (i 0) (i 1)).trans ?_)
    rw [constant_apply, zero_f32, zero_add]
    rfl
  rw [← hm]
  unfold siluR
  rw [← zero_f32, ← one_f32]
  rfl

end Cert.ReferenceIdeal.RefValue
-- ==== Proof.Algebra.lean ====
module

public import proofs.«01_k».proof.Defs
public import proofs.«01_k».proof.Proof.Ideal.Value
public import proofs.«01_k».proof.Proof.RefValue

@[expose] public section

noncomputable section

/-!
# The kernel's result is the reference's

The reference contracts 4096 columns at once; the kernel contracts 128 on each of 32 devices and adds round the ring. Sums over the
extended reals may be regrouped, and a number over one and an exponential is the number times the inverse.
-/

namespace Cert.Proof.Algebra

open Idealize.ShloMosaic Idealize.ShloMosaic.TcCoe Idealize.ShloMosaic.ValueIdx Idealize.SL.Sem
open Cert.KernelIdeal.Ring (siluE rowAt aX aW aSx aSw outS outS_args)
open Cert.ReferenceIdeal.RefValue (siluR pay_at arr_eq one1)
open scoped BigOperators

/-! ## The number laws -/

theorem exp_nonneg (z : EReal) : 0 ≤ Ideal.exp z := by
  induction z using EReal.rec with
  | bot => exact le_refl _
  | top => exact le_top
  | coe r => exact EReal.coe_nonneg.mpr (Real.exp_pos r).le

theorem one_add_exp_ne (z : EReal) : 1 + Ideal.exp z ≠ 0 := by
  have h : (1 : EReal) ≤ 1 + Ideal.exp z := by simpa using add_le_add_right (exp_nonneg z) 1
  exact (lt_of_lt_of_le zero_lt_one h).ne'

theorem silu_eq (y : EReal) : siluE y = siluR y := by
  have e : (0 : EReal) - y = -y := by rw [sub_eq_add_neg, zero_add]
  unfold siluE siluR Ideal.logistic
  rw [e]
  unfold Ideal.div
  rw [if_neg (one_add_exp_ne _), if_neg (one_add_exp_ne _), one_mul]

/-- The column of the whole product a device's column is. -/
def colAt (d : Fin 32) (k : Fin 128) : Fin 4096 := ⟨d.val * 128 + k.val, by have := d.isLt; have := k.isLt; omega⟩

theorem sum_split (f : Fin 4096 → EReal) : ∑ K : Fin 4096, f K = ∑ d : Fin 32, ∑ k : Fin 128, f (colAt d k) := by
  rw [← Fintype.sum_prod_type']
  exact ((finProdFinEquiv (m := 32) (n := 128)).sum_comp f).symm.trans
    (Finset.sum_congr rfl fun q _ => congrArg f (Fin.ext (show q.2.val + 128 * q.1.val = q.1.val * 128 + q.2.val by omega)))

/-! ## The claim -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result. -/
def refOut : Cert.ReferenceIdeal.S4096x8192.Idx → EReal := (Cert.ReferenceIdeal.Gen.dats m' 0 0).arrAt 4 Cert.ReferenceIdeal.cfg0.N

def rX : Cert.ReferenceIdeal.S4096x4096.Idx → EReal := m' (((0 : Dev Cert.ReferenceIdeal.nD).tc : Thread Cert.ReferenceIdeal.nD Cert.ReferenceIdeal.τ).loc Cert.ReferenceIdeal.main_arg0)
def rW : Cert.ReferenceIdeal.S4096x8192.Idx → EReal := m' (((0 : Dev Cert.ReferenceIdeal.nD).tc : Thread Cert.ReferenceIdeal.nD Cert.ReferenceIdeal.τ).loc Cert.ReferenceIdeal.main_arg1)
def rSx : Cert.ReferenceIdeal.S1.Idx → EReal := m' (((0 : Dev Cert.ReferenceIdeal.nD).tc : Thread Cert.ReferenceIdeal.nD Cert.ReferenceIdeal.τ).loc Cert.ReferenceIdeal.main_arg2)
def rSw : Cert.ReferenceIdeal.S1.Idx → EReal := m' (((0 : Dev Cert.ReferenceIdeal.nD).tc : Thread Cert.ReferenceIdeal.nD Cert.ReferenceIdeal.τ).loc Cert.ReferenceIdeal.main_arg3)

theorem refOut_at (i : Cert.ReferenceIdeal.S4096x8192.Idx) :
    refOut m' i = siluR ((∑ k : Fin 4096, rX m' (ix2 (i 0) k) * rW m' (ix2 k (i 1))) * (rSx m' (ix1 0) * rSw m' (ix1 0))) :=
  (congrFun (arr_eq m' 0) i).trans (pay_at (rX m') (rW m') (rSx m' (ix1 0)) (rSw m' (ix1 0)) i)

/-- Each device's result is its rows of the reference's. -/
theorem out_block
    (hx : ∀ d, aX m d = Layout.block ⟨2, ![4096, 128]⟩ ⟨2, ![4096, 4096]⟩ 1 32 d (rX m'))
    (hw : ∀ d, aW m d = Layout.block ⟨2, ![128, 8192]⟩ ⟨2, ![4096, 8192]⟩ 0 32 d (rW m'))
    (hsx : ∀ d, aSx m d = rSx m') (hsw : ∀ d, aSw m d = rSw m') (c : Dev Cert.KernelIdeal.nD) :
    (outS m c : Cert.KernelIdeal.S128x8192.Idx → EReal) = Layout.block ⟨2, ![128, 8192]⟩ ⟨2, ![4096, 8192]⟩ 0 32 c (refOut m') := by
  funext i
  rw [Layout.block_apply, refOut_at, ← silu_eq, outS_args, sum_split, hsx, hsw]
  refine congrArg (fun s => siluE (s * (rSx m' (ix1 0) * rSw m' (ix1 0))))
    (Finset.sum_congr rfl fun d _ => Finset.sum_congr rfl fun k _ => ?_)
  rw [hx, hw, Layout.block_apply, Layout.block_apply]
  refine congrArg₂ (· * ·) (congrArg (rX m') (funext fun a => Fin.ext ?_)) (congrArg (rW m') (funext fun a => Fin.ext ?_))
  · fin_cases a <;> rfl
  · match a with
    | ⟨0, _⟩ => exact (Layout.idx_rows_val _ d (ix2 k (i 1))).1
    | ⟨1, _⟩ => exact (Layout.idx_rows_val _ d (ix2 k (i 1))).2.trans (Layout.idx_rows_val _ c i).2.symm

end Cert.Proof.Algebra
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Ideal.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel's frame, whatever a float is. -/
theorem frame_kernel : Cert.quiescent_Kernel := fun m g _ =>
  (θ_run (Cert.Kernel.defs (F := Bits)) _ _).mono (fun _ h => ⟨fun c => (h.1 c).1, h.2⟩) (Cert.Kernel.Ring.run_main m g)

theorem frame_kernelIdeal : Cert.quiescent_KernelIdeal := fun m g _ =>
  (θ_run (Cert.KernelIdeal.defs (F := Ideal)) _ _).mono (fun _ h => ⟨fun c => (h.1 c).1, h.2⟩) (Cert.KernelIdeal.Ring.run_main m g)

/-- Over the reals each device's result is its rows of the reference's. -/
theorem algebraic : Cert.algebraic_KernelIdeal_ReferenceIdeal := fun m g m' g' _ h =>
  ⟨Algebra.refOut m',
    (θ_run (Cert.KernelIdeal.defs (F := Ideal)) _ _).mono
      (fun _ r c => ⟨(r.1 c).2.trans (Algebra.out_block m m' (fun d => (h d).1) (fun d => (h d).2.1) (fun d => (h d).2.2.1)
        (fun d => (h d).2.2.2) c), (r.1 c).1⟩)
      (Cert.KernelIdeal.Ring.run_main m g),
    (θ_run (Cert.ReferenceIdeal.defs (F := Ideal)) _ _).mono (fun _ r => r 0) (Cert.ReferenceIdeal.Value.run_blocks m' g')⟩

theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
